-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_scores [hPre_finite_scores : Cert.Pre_finite_scores.Facts] (m : (ℓ : Loc Cert.FoxIdeal.nD Cert.FoxIdeal.τ Cert.FoxIdeal.sig) → Buf (Elt Ideal) ℓ) : Prop :=
  ∀ c : Dev Cert.FoxIdeal.nD,
    (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).1 = (fun _ => 1#1)
    ∧ (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.1 = (fun _ => 1#1)
    ∧ (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.1 = (fun _ => 1#1)
    ∧ (Cert.Pre_finite_scores.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3)) (m ((c.tc : Thread Cert.FoxIdeal.nD Cert.FoxIdeal.τ).loc Cert.FoxIdeal.main_arg4))).2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_scores [hPre_finite_scores : Cert.Pre_finite_scores.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).1 = (fun _ => 1#1)
    ∧ (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.1 = (fun _ => 1#1)
    ∧ (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.1 = (fun _ => 1#1)
    ∧ (Cert.Pre_finite_scores.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3)) (m ((c.tc : Thread Cert.FoxRefIdeal.nD Cert.FoxRefIdeal.τ).loc Cert.FoxRefIdeal.main_arg4))).2.2.2 = (fun _ => 1#1)

def Pre_Ffa (m : (ℓ : Loc Cert.Ffa.nD Cert.Ffa.τ Cert.Ffa.sig) → Buf (Elt Bits) ℓ) : Prop :=
  True

def Pre_FfaIdeal (m : (ℓ : Loc Cert.FfaIdeal.nD Cert.FfaIdeal.τ Cert.FfaIdeal.sig) → Buf (Elt Ideal) ℓ) : Prop :=
  True

def Pre_FfaRefIdeal (m : (ℓ : Loc Cert.FfaRefIdeal.nD Cert.FfaRefIdeal.τ Cert.FfaRefIdeal.sig) → Buf (Elt Ideal) ℓ) : Prop :=
  True

def Pre_Ffb (m : (ℓ : Loc Cert.Ffb.nD Cert.Ffb.τ Cert.Ffb.sig) → Buf (Elt Bits) ℓ) : Prop :=
  True

def Pre_FfbIdeal (m : (ℓ : Loc Cert.FfbIdeal.nD Cert.FfbIdeal.τ Cert.FfbIdeal.sig) → Buf (Elt Ideal) ℓ) : Prop :=
  True

def Pre_FfbRefIdeal (m : (ℓ : Loc Cert.FfbRefIdeal.nD Cert.FfbRefIdeal.τ Cert.FfbRefIdeal.sig) → Buf (Elt Ideal) ℓ) : Prop :=
  True

def Pre_Prj (m : (ℓ : Loc Cert.Prj.nD Cert.Prj.τ Cert.Prj.sig) → Buf (Elt Bits) ℓ) : Prop :=
  True

def Pre_PrjIdeal (m : (ℓ : Loc Cert.PrjIdeal.nD Cert.PrjIdeal.τ Cert.PrjIdeal.sig) → Buf (Elt Ideal) ℓ) : Prop :=
  True

def Pre_PrjRefIdeal (m : (ℓ : Loc Cert.PrjRefIdeal.nD Cert.PrjRefIdeal.τ Cert.PrjRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Dil (m : (ℓ : Loc Cert.Dil.nD Cert.Dil.τ Cert.Dil.sig) → Buf (Elt Bits) ℓ) : Prop :=
  True

def Pre_DilIdeal (m : (ℓ : Loc Cert.DilIdeal.nD Cert.DilIdeal.τ Cert.DilIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3)
      ∧ r.2.mem ((c.tc : Thread Cert.Fox.nD Cert.Fox.τ).loc Cert.Fox.main_arg4) = m ((c.tc : Thread Cert.Fox.nD Cert.Fox.τ).loc Cert.Fox.main_arg4))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxIdeal_pre_finite_scores [hFoxIdeal : Cert.FoxIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_scores m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
      ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_FoxRefIdeal_pre_finite_scores [hFoxRefIdeal : Cert.FoxRefIdeal.Facts] [hPre_finite_scores : Cert.Pre_finite_scores.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_scores m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3)
      ∧ r.2.mem ((c.tc : Thread Cert.FoxRefIdeal.nD Cert.FoxRefIdeal.τ).loc Cert.FoxRefIdeal.main_arg4) = m ((c.tc : Thread Cert.FoxRefIdeal.nD Cert.FoxRefIdeal.τ).loc Cert.FoxRefIdeal.main_arg4))
      ∧ r.2.sem = fun _ => 0)

def quiescent_Ffa [hFfa : Cert.Ffa.Facts] : Prop :=
  ∀ (m : (ℓ : Loc Cert.Ffa.nD Cert.Ffa.τ Cert.Ffa.sig) → Buf (Elt Bits) ℓ) (g : Dev Cert.Ffa.nD → PrngReg), Pre_Ffa m →
    θ_run (Cert.Ffa.defs (F := Bits)) (onTc (τ := Cert.Ffa.τ) (Cert.Ffa.main (F := Bits))) ⟨m, fun _ => 0, g⟩ (fun r => (∀ c : Dev Cert.Ffa.nD,
      r.2.mem ((c.tc : Thread Cert.Ffa.nD Cert.Ffa.τ).loc Cert.Ffa.main_arg0) = m ((c.tc : Thread Cert.Ffa.nD Cert.Ffa.τ).loc Cert.Ffa.main_arg0)
      ∧ r.2.mem ((c.tc : Thread Cert.Ffa.nD Cert.Ffa.τ).loc Cert.Ffa.main_arg1) = m ((c.tc : Thread Cert.Ffa.nD Cert.Ffa.τ).loc Cert.Ffa.main_arg1)
      ∧ r.2.mem ((c.tc : Thread Cert.Ffa.nD Cert.Ffa.τ).loc Cert.Ffa.main_arg2) = m ((c.tc : Thread Cert.Ffa.nD Cert.Ffa.τ).loc Cert.Ffa.main_arg2)
      ∧ r.2.mem ((c.tc : Thread Cert.Ffa.nD Cert.Ffa.τ).loc Cert.Ffa.main_arg3) = m ((c.tc : Thread Cert.Ffa.nD Cert.Ffa.τ).loc Cert.Ffa.main_arg3)
      ∧ r.2.mem ((c.tc : Thread Cert.Ffa.nD Cert.Ffa.τ).loc Cert.Ffa.main_arg4) = m ((c.tc : Thread Cert.Ffa.nD Cert.Ffa.τ).loc Cert.Ffa.main_arg4)
      ∧ r.2.mem ((c.tc : Thread Cert.Ffa.nD Cert.Ffa.τ).loc Cert.Ffa.main_arg5) = m ((c.tc : Thread Cert.Ffa.nD Cert.Ffa.τ).loc Cert.Ffa.main_arg5)
      ∧ r.2.mem ((c.tc : Thread Cert.Ffa.nD Cert.Ffa.τ).loc Cert.Ffa.main_arg6) = m ((c.tc : Thread Cert.Ffa.nD Cert.Ffa.τ).loc Cert.Ffa.main_arg6))
      ∧ r.2.sem = fun _ => 0)

def quiescent_FfaIdeal [hFfaIdeal : Cert.FfaIdeal.Facts] : Prop :=
  ∀ (m : (ℓ : Loc Cert.FfaIdeal.nD Cert.FfaIdeal.τ Cert.FfaIdeal.sig) → Buf (Elt Ideal) ℓ) (g : Dev Cert.FfaIdeal.nD → PrngReg), Pre_FfaIdeal m →
    θ_run (Cert.FfaIdeal.defs (F := Ideal)) (onTc (τ := Cert.FfaIdeal.τ) (Cert.FfaIdeal.main (F := Ideal))) ⟨m, fun _ => 0, g⟩ (fun r => (∀ c : Dev Cert.FfaIdeal.nD,
      r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
      ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1)
      ∧ r.2.mem ((c.tc : Thread Cert.FfaIdeal.nD Cert.FfaIdeal.τ).loc Cert.FfaIdeal.main_arg2) = m ((c.tc : Thread Cert.FfaIdeal.nD Cert.FfaIdeal.τ).loc Cert.FfaIdeal.main_arg2)
      ∧ r.2.mem ((c.tc : Thread Cert.FfaIdeal.nD Cert.FfaIdeal.τ).loc Cert.FfaIdeal.main_arg3) = m ((c.tc : Thread Cert.FfaIdeal.nD Cert.FfaIdeal.τ).loc Cert.FfaIdeal.main_arg3)
      ∧ r.2.mem ((c.tc : Thread Cert.FfaIdeal.nD Cert.FfaIdeal.τ).loc Cert.FfaIdeal.main_arg4) = m ((c.tc : Thread Cert.FfaIdeal.nD Cert.FfaIdeal.τ).loc Cert.FfaIdeal.main_arg4)
      ∧ r.2.mem ((c.tc : Thread Cert.FfaIdeal.nD Cert.FfaIdeal.τ).loc Cert.FfaIdeal.main_arg5) = m ((c.tc : Thread Cert.FfaIdeal.nD Cert.FfaIdeal.τ).loc Cert.FfaIdeal.main_arg5)
      ∧ r.2.mem ((c.tc : Thread Cert.FfaIdeal.nD Cert.FfaIdeal.τ).loc Cert.FfaIdeal.main_arg6) = m ((c.tc : Thread Cert.FfaIdeal.nD Cert.FfaIdeal.τ).loc Cert.FfaIdeal.main_arg6))
      ∧ r.2.sem = fun _ => 0)

def quiescent_FfaRefIdeal [hFfaRefIdeal : Cert.FfaRefIdeal.Facts] : Prop :=
  ∀ (m : (ℓ : Loc Cert.FfaRefIdeal.nD Cert.FfaRefIdeal.τ Cert.FfaRefIdeal.sig) → Buf (Elt Ideal) ℓ) (g : Dev Cert.FfaRefIdeal.nD → PrngReg), Pre_FfaRefIdeal m →
    θ_run (Cert.FfaRefIdeal.defs (F := Ideal)) (onTc (τ := Cert.FfaRefIdeal.τ) (Cert.FfaRefIdeal.main (F := Ideal))) ⟨m, fun _ => 0, g⟩ (fun r => (∀ c : Dev Cert.FfaRefIdeal.nD,
      r.2.mem ((c.tc : Thread Cert.FfaRefIdeal.nD Cert.FfaRefIdeal.τ).loc Cert.FfaRefIdeal.main_arg0) = m ((c.tc : Thread Cert.FfaRefIdeal.nD Cert.FfaRefIdeal.τ).loc Cert.FfaRefIdeal.main_arg0)
      ∧ r.2.mem ((c.tc : Thread Cert.FfaRefIdeal.nD Cert.FfaRefIdeal.τ).loc Cert.FfaRefIdeal.main_arg1) = m ((c.tc : Thread Cert.FfaRefIdeal.nD Cert.FfaRefIdeal.τ).loc Cert.FfaRefIdeal.main_arg1)
      ∧ r.2.mem ((c.tc : Thread Cert.FfaRefIdeal.nD Cert.FfaRefIdeal.τ).loc Cert.FfaRefIdeal.main_arg2) = m ((c.tc : Thread Cert.FfaRefIdeal.nD Cert.FfaRefIdeal.τ).loc Cert.FfaRefIdeal.main_arg2)
      ∧ r.2.mem ((c.tc : Thread Cert.FfaRefIdeal.nD Cert.FfaRefIdeal.τ).loc Cert.FfaRefIdeal.main_arg3) = m ((c.tc : Thread Cert.FfaRefIdeal.nD Cert.FfaRefIdeal.τ).loc Cert.FfaRefIdeal.main_arg3)
      ∧ r.2.mem ((c.tc : Thread Cert.FfaRefIdeal.nD Cert.FfaRefIdeal.τ).loc Cert.FfaRefIdeal.main_arg4) = m ((c.tc : Thread Cert.FfaRefIdeal.nD Cert.FfaRefIdeal.τ).loc Cert.FfaRefIdeal.main_arg4)
      ∧ r.2.mem ((c.tc : Thread Cert.FfaRefIdeal.nD Cert.FfaRefIdeal.τ).loc Cert.FfaRefIdeal.main_arg5) = m ((c.tc : Thread Cert.FfaRefIdeal.nD Cert.FfaRefIdeal.τ).loc Cert.FfaRefIdeal.main_arg5)
      ∧ r.2.mem ((c.tc : Thread Cert.FfaRefIdeal.nD Cert.FfaRefIdeal.τ).loc Cert.FfaRefIdeal.main_arg6) = m ((c.tc : Thread Cert.FfaRefIdeal.nD Cert.FfaRefIdeal.τ).loc Cert.FfaRefIdeal.main_arg6))
      ∧ r.2.sem = fun _ => 0)

def quiescent_Ffb [hFfb : Cert.Ffb.Facts] : Prop :=
  ∀ (m : (ℓ : Loc Cert.Ffb.nD Cert.Ffb.τ Cert.Ffb.sig) → Buf (Elt Bits) ℓ) (g : Dev Cert.Ffb.nD → PrngReg), Pre_Ffb m →
    θ_run (Cert.Ffb.defs (F := Bits)) (onTc (τ := Cert.Ffb.τ) (Cert.Ffb.main (F := Bits))) ⟨m, fun _ => 0, g⟩ (fun r => (∀ c : Dev Cert.Ffb.nD,
      r.2.mem ((c.tc : Thread Cert.Ffb.nD Cert.Ffb.τ).loc Cert.Ffb.main_arg0) = m ((c.tc : Thread Cert.Ffb.nD Cert.Ffb.τ).loc Cert.Ffb.main_arg0)
      ∧ r.2.mem ((c.tc : Thread Cert.Ffb.nD Cert.Ffb.τ).loc Cert.Ffb.main_arg1) = m ((c.tc : Thread Cert.Ffb.nD Cert.Ffb.τ).loc Cert.Ffb.main_arg1)
      ∧ r.2.mem ((c.tc : Thread Cert.Ffb.nD Cert.Ffb.τ).loc Cert.Ffb.main_arg2) = m ((c.tc : Thread Cert.Ffb.nD Cert.Ffb.τ).loc Cert.Ffb.main_arg2)
      ∧ r.2.mem ((c.tc : Thread Cert.Ffb.nD Cert.Ffb.τ).loc Cert.Ffb.main_arg3) = m ((c.tc : Thread Cert.Ffb.nD Cert.Ffb.τ).loc Cert.Ffb.main_arg3)
      ∧ r.2.mem ((c.tc : Thread Cert.Ffb.nD Cert.Ffb.τ).loc Cert.Ffb.main_arg4) = m ((c.tc : Thread Cert.Ffb.nD Cert.Ffb.τ).loc Cert.Ffb.main_arg4)
      ∧ r.2.mem ((c.tc : Thread Cert.Ffb.nD Cert.Ffb.τ).loc Cert.Ffb.main_arg5) = m ((c.tc : Thread Cert.Ffb.nD Cert.Ffb.τ).loc Cert.Ffb.main_arg5)
      ∧ r.2.mem ((c.tc : Thread Cert.Ffb.nD Cert.Ffb.τ).loc Cert.Ffb.main_arg6) = m ((c.tc : Thread Cert.Ffb.nD Cert.Ffb.τ).loc Cert.Ffb.main_arg6)
      ∧ r.2.mem ((c.tc : Thread Cert.Ffb.nD Cert.Ffb.τ).loc Cert.Ffb.main_arg7) = m ((c.tc : Thread Cert.Ffb.nD Cert.Ffb.τ).loc Cert.Ffb.main_arg7)
      ∧ r.2.mem ((c.tc : Thread Cert.Ffb.nD Cert.Ffb.τ).loc Cert.Ffb.main_arg8) = m ((c.tc : Thread Cert.Ffb.nD Cert.Ffb.τ).loc Cert.Ffb.main_arg8)
      ∧ r.2.mem ((c.tc : Thread Cert.Ffb.nD Cert.Ffb.τ).loc Cert.Ffb.main_arg9) = m ((c.tc : Thread Cert.Ffb.nD Cert.Ffb.τ).loc Cert.Ffb.main_arg9)
      ∧ r.2.mem ((c.tc : Thread Cert.Ffb.nD Cert.Ffb.τ).loc Cert.Ffb.main_arg10) = m ((c.tc : Thread Cert.Ffb.nD Cert.Ffb.τ).loc Cert.Ffb.main_arg10)
      ∧ r.2.mem ((c.tc : Thread Cert.Ffb.nD Cert.Ffb.τ).loc Cert.Ffb.main_arg11) = m ((c.tc : Thread Cert.Ffb.nD Cert.Ffb.τ).loc Cert.Ffb.main_arg11)
      ∧ r.2.mem ((c.tc : Thread Cert.Ffb.nD Cert.Ffb.τ).loc Cert.Ffb.main_arg12) = m ((c.tc : Thread Cert.Ffb.nD Cert.Ffb.τ).loc Cert.Ffb.main_arg12))
      ∧ r.2.sem = fun _ => 0)

def quiescent_FfbIdeal [hFfbIdeal : Cert.FfbIdeal.Facts] : Prop :=
  ∀ (m : (ℓ : Loc Cert.FfbIdeal.nD Cert.FfbIdeal.τ Cert.FfbIdeal.sig) → Buf (Elt Ideal) ℓ) (g : Dev Cert.FfbIdeal.nD → PrngReg), Pre_FfbIdeal m →
    θ_run (Cert.FfbIdeal.defs (F := Ideal)) (onTc (τ := Cert.FfbIdeal.τ) (Cert.FfbIdeal.main (F := Ideal))) ⟨m, fun _ => 0, g⟩ (fun r => (∀ c : Dev Cert.FfbIdeal.nD,
      r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
      ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
      ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
      ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
      ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
      ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5)
      ∧ r.2.mem ((c.tc : Thread Cert.FfbIdeal.nD Cert.FfbIdeal.τ).loc Cert.FfbIdeal.main_arg6) = m ((c.tc : Thread Cert.FfbIdeal.nD Cert.FfbIdeal.τ).loc Cert.FfbIdeal.main_arg6)
      ∧ r.2.mem ((c.tc : Thread Cert.FfbIdeal.nD Cert.FfbIdeal.τ).loc Cert.FfbIdeal.main_arg7) = m ((c.tc : Thread Cert.FfbIdeal.nD Cert.FfbIdeal.τ).loc Cert.FfbIdeal.main_arg7)
      ∧ r.2.mem ((c.tc : Thread Cert.FfbIdeal.nD Cert.FfbIdeal.τ).loc Cert.FfbIdeal.main_arg8) = m ((c.tc : Thread Cert.FfbIdeal.nD Cert.FfbIdeal.τ).loc Cert.FfbIdeal.main_arg8)
      ∧ r.2.mem ((c.tc : Thread Cert.FfbIdeal.nD Cert.FfbIdeal.τ).loc Cert.FfbIdeal.main_arg9) = m ((c.tc : Thread Cert.FfbIdeal.nD Cert.FfbIdeal.τ).loc Cert.FfbIdeal.main_arg9)
      ∧ r.2.mem ((c.tc : Thread Cert.FfbIdeal.nD Cert.FfbIdeal.τ).loc Cert.FfbIdeal.main_arg10) = m ((c.tc : Thread Cert.FfbIdeal.nD Cert.FfbIdeal.τ).loc Cert.FfbIdeal.main_arg10)
      ∧ r.2.mem ((c.tc : Thread Cert.FfbIdeal.nD Cert.FfbIdeal.τ).loc Cert.FfbIdeal.main_arg11) = m ((c.tc : Thread Cert.FfbIdeal.nD Cert.FfbIdeal.τ).loc Cert.FfbIdeal.main_arg11)
      ∧ r.2.mem ((c.tc : Thread Cert.FfbIdeal.nD Cert.FfbIdeal.τ).loc Cert.FfbIdeal.main_arg12) = m ((c.tc : Thread Cert.FfbIdeal.nD Cert.FfbIdeal.τ).loc Cert.FfbIdeal.main_arg12))
      ∧ r.2.sem = fun _ => 0)

def quiescent_FfbRefIdeal [hFfbRefIdeal : Cert.FfbRefIdeal.Facts] : Prop :=
  ∀ (m : (ℓ : Loc Cert.FfbRefIdeal.nD Cert.FfbRefIdeal.τ Cert.FfbRefIdeal.sig) → Buf (Elt Ideal) ℓ) (g : Dev Cert.FfbRefIdeal.nD → PrngReg), Pre_FfbRefIdeal m →
    θ_run (Cert.FfbRefIdeal.defs (F := Ideal)) (onTc (τ := Cert.FfbRefIdeal.τ) (Cert.FfbRefIdeal.main (F := Ideal))) ⟨m, fun _ => 0, g⟩ (fun r => (∀ c : Dev Cert.FfbRefIdeal.nD,
      r.2.mem ((c.tc : Thread Cert.FfbRefIdeal.nD Cert.FfbRefIdeal.τ).loc Cert.FfbRefIdeal.main_arg0) = m ((c.tc : Thread Cert.FfbRefIdeal.nD Cert.FfbRefIdeal.τ).loc Cert.FfbRefIdeal.main_arg0)
      ∧ r.2.mem ((c.tc : Thread Cert.FfbRefIdeal.nD Cert.FfbRefIdeal.τ).loc Cert.FfbRefIdeal.main_arg1) = m ((c.tc : Thread Cert.FfbRefIdeal.nD Cert.FfbRefIdeal.τ).loc Cert.FfbRefIdeal.main_arg1)
      ∧ r.2.mem ((c.tc : Thread Cert.FfbRefIdeal.nD Cert.FfbRefIdeal.τ).loc Cert.FfbRefIdeal.main_arg2) = m ((c.tc : Thread Cert.FfbRefIdeal.nD Cert.FfbRefIdeal.τ).loc Cert.FfbRefIdeal.main_arg2)
      ∧ r.2.mem ((c.tc : Thread Cert.FfbRefIdeal.nD Cert.FfbRefIdeal.τ).loc Cert.FfbRefIdeal.main_arg3) = m ((c.tc : Thread Cert.FfbRefIdeal.nD Cert.FfbRefIdeal.τ).loc Cert.FfbRefIdeal.main_arg3)
      ∧ r.2.mem ((c.tc : Thread Cert.FfbRefIdeal.nD Cert.FfbRefIdeal.τ).loc Cert.FfbRefIdeal.main_arg4) = m ((c.tc : Thread Cert.FfbRefIdeal.nD Cert.FfbRefIdeal.τ).loc Cert.FfbRefIdeal.main_arg4)
      ∧ r.2.mem ((c.tc : Thread Cert.FfbRefIdeal.nD Cert.FfbRefIdeal.τ).loc Cert.FfbRefIdeal.main_arg5) = m ((c.tc : Thread Cert.FfbRefIdeal.nD Cert.FfbRefIdeal.τ).loc Cert.FfbRefIdeal.main_arg5)
      ∧ r.2.mem ((c.tc : Thread Cert.FfbRefIdeal.nD Cert.FfbRefIdeal.τ).loc Cert.FfbRefIdeal.main_arg6) = m ((c.tc : Thread Cert.FfbRefIdeal.nD Cert.FfbRefIdeal.τ).loc Cert.FfbRefIdeal.main_arg6)
      ∧ r.2.mem ((c.tc : Thread Cert.FfbRefIdeal.nD Cert.FfbRefIdeal.τ).loc Cert.FfbRefIdeal.main_arg7) = m ((c.tc : Thread Cert.FfbRefIdeal.nD Cert.FfbRefIdeal.τ).loc Cert.FfbRefIdeal.main_arg7)
      ∧ r.2.mem ((c.tc : Thread Cert.FfbRefIdeal.nD Cert.FfbRefIdeal.τ).loc Cert.FfbRefIdeal.main_arg8) = m ((c.tc : Thread Cert.FfbRefIdeal.nD Cert.FfbRefIdeal.τ).loc Cert.FfbRefIdeal.main_arg8)
      ∧ r.2.mem ((c.tc : Thread Cert.FfbRefIdeal.nD Cert.FfbRefIdeal.τ).loc Cert.FfbRefIdeal.main_arg9) = m ((c.tc : Thread Cert.FfbRefIdeal.nD Cert.FfbRefIdeal.τ).loc Cert.FfbRefIdeal.main_arg9)
      ∧ r.2.mem ((c.tc : Thread Cert.FfbRefIdeal.nD Cert.FfbRefIdeal.τ).loc Cert.FfbRefIdeal.main_arg10) = m ((c.tc : Thread Cert.FfbRefIdeal.nD Cert.FfbRefIdeal.τ).loc Cert.FfbRefIdeal.main_arg10)
      ∧ r.2.mem ((c.tc : Thread Cert.FfbRefIdeal.nD Cert.FfbRefIdeal.τ).loc Cert.FfbRefIdeal.main_arg11) = m ((c.tc : Thread Cert.FfbRefIdeal.nD Cert.FfbRefIdeal.τ).loc Cert.FfbRefIdeal.main_arg11)
      ∧ r.2.mem ((c.tc : Thread Cert.FfbRefIdeal.nD Cert.FfbRefIdeal.τ).loc Cert.FfbRefIdeal.main_arg12) = m ((c.tc : Thread Cert.FfbRefIdeal.nD Cert.FfbRefIdeal.τ).loc Cert.FfbRefIdeal.main_arg12))
      ∧ r.2.sem = fun _ => 0)

def quiescent_Prj [hPrj : Cert.Prj.Facts] : Prop :=
  ∀ (m : (ℓ : Loc Cert.Prj.nD Cert.Prj.τ Cert.Prj.sig) → Buf (Elt Bits) ℓ) (g : Dev Cert.Prj.nD → PrngReg), Pre_Prj m →
    θ_run (Cert.Prj.defs (F := Bits)) (onTc (τ := Cert.Prj.τ) (Cert.Prj.main (F := Bits))) ⟨m, fun _ => 0, g⟩ (fun r => (∀ c : Dev Cert.Prj.nD,
      r.2.mem ((c.tc : Thread Cert.Prj.nD Cert.Prj.τ).loc Cert.Prj.main_arg0) = m ((c.tc : Thread Cert.Prj.nD Cert.Prj.τ).loc Cert.Prj.main_arg0)
      ∧ r.2.mem ((c.tc : Thread Cert.Prj.nD Cert.Prj.τ).loc Cert.Prj.main_arg1) = m ((c.tc : Thread Cert.Prj.nD Cert.Prj.τ).loc Cert.Prj.main_arg1)
      ∧ r.2.mem ((c.tc : Thread Cert.Prj.nD Cert.Prj.τ).loc Cert.Prj.main_arg2) = m ((c.tc : Thread Cert.Prj.nD Cert.Prj.τ).loc Cert.Prj.main_arg2)
      ∧ r.2.mem ((c.tc : Thread Cert.Prj.nD Cert.Prj.τ).loc Cert.Prj.main_arg3) = m ((c.tc : Thread Cert.Prj.nD Cert.Prj.τ).loc Cert.Prj.main_arg3)
      ∧ r.2.mem ((c.tc : Thread Cert.Prj.nD Cert.Prj.τ).loc Cert.Prj.main_arg4) = m ((c.tc : Thread Cert.Prj.nD Cert.Prj.τ).loc Cert.Prj.main_arg4)
      ∧ r.2.mem ((c.tc : Thread Cert.Prj.nD Cert.Prj.τ).loc Cert.Prj.main_arg5) = m ((c.tc : Thread Cert.Prj.nD Cert.Prj.τ).loc Cert.Prj.main_arg5))
      ∧ r.2.sem = fun _ => 0)

def quiescent_PrjIdeal [hPrjIdeal : Cert.PrjIdeal.Facts] : Prop :=
  ∀ (m : (ℓ : Loc Cert.PrjIdeal.nD Cert.PrjIdeal.τ Cert.PrjIdeal.sig) → Buf (Elt Ideal) ℓ) (g : Dev Cert.PrjIdeal.nD → PrngReg), Pre_PrjIdeal m →
    θ_run (Cert.PrjIdeal.defs (F := Ideal)) (onTc (τ := Cert.PrjIdeal.τ) (Cert.PrjIdeal.main (F := Ideal))) ⟨m, fun _ => 0, g⟩ (fun r => (∀ c : Dev Cert.PrjIdeal.nD,
      r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
      ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
      ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
      ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3)
      ∧ r.2.mem ((c.tc : Thread Cert.PrjIdeal.nD Cert.PrjIdeal.τ).loc Cert.PrjIdeal.main_arg4) = m ((c.tc : Thread Cert.PrjIdeal.nD Cert.PrjIdeal.τ).loc Cert.PrjIdeal.main_arg4)
      ∧ r.2.mem ((c.tc : Thread Cert.PrjIdeal.nD Cert.PrjIdeal.τ).loc Cert.PrjIdeal.main_arg5) = m ((c.tc : Thread Cert.PrjIdeal.nD Cert.PrjIdeal.τ).loc Cert.PrjIdeal.main_arg5))
      ∧ r.2.sem = fun _ => 0)

def quiescent_PrjRefIdeal [hPrjRefIdeal : Cert.PrjRefIdeal.Facts] : Prop :=
  ∀ (m : (ℓ : Loc Cert.PrjRefIdeal.nD Cert.PrjRefIdeal.τ Cert.PrjRefIdeal.sig) → Buf (Elt Ideal) ℓ) (g : Dev Cert.PrjRefIdeal.nD → PrngReg), Pre_PrjRefIdeal m →
    θ_run (Cert.PrjRefIdeal.defs (F := Ideal)) (onTc (τ := Cert.PrjRefIdeal.τ) (Cert.PrjRefIdeal.main (F := Ideal))) ⟨m, fun _ => 0, g⟩ (fun r => (∀ c : Dev Cert.PrjRefIdeal.nD,
      r.2.mem ((c.tc : Thread Cert.PrjRefIdeal.nD Cert.PrjRefIdeal.τ).loc Cert.PrjRefIdeal.main_arg0) = m ((c.tc : Thread Cert.PrjRefIdeal.nD Cert.PrjRefIdeal.τ).loc Cert.PrjRefIdeal.main_arg0)
      ∧ r.2.mem ((c.tc : Thread Cert.PrjRefIdeal.nD Cert.PrjRefIdeal.τ).loc Cert.PrjRefIdeal.main_arg1) = m ((c.tc : Thread Cert.PrjRefIdeal.nD Cert.PrjRefIdeal.τ).loc Cert.PrjRefIdeal.main_arg1)
      ∧ r.2.mem ((c.tc : Thread Cert.PrjRefIdeal.nD Cert.PrjRefIdeal.τ).loc Cert.PrjRefIdeal.main_arg2) = m ((c.tc : Thread Cert.PrjRefIdeal.nD Cert.PrjRefIdeal.τ).loc Cert.PrjRefIdeal.main_arg2)
      ∧ r.2.mem ((c.tc : Thread Cert.PrjRefIdeal.nD Cert.PrjRefIdeal.τ).loc Cert.PrjRefIdeal.main_arg3) = m ((c.tc : Thread Cert.PrjRefIdeal.nD Cert.PrjRefIdeal.τ).loc Cert.PrjRefIdeal.main_arg3)
      ∧ r.2.mem ((c.tc : Thread Cert.PrjRefIdeal.nD Cert.PrjRefIdeal.τ).loc Cert.PrjRefIdeal.main_arg4) = m ((c.tc : Thread Cert.PrjRefIdeal.nD Cert.PrjRefIdeal.τ).loc Cert.PrjRefIdeal.main_arg4)
      ∧ r.2.mem ((c.tc : Thread Cert.PrjRefIdeal.nD Cert.PrjRefIdeal.τ).loc Cert.PrjRefIdeal.main_arg5) = m ((c.tc : Thread Cert.PrjRefIdeal.nD Cert.PrjRefIdeal.τ).loc Cert.PrjRefIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Dil [hDil : Cert.Dil.Facts] : Prop :=
  ∀ (m : (ℓ : Loc Cert.Dil.nD Cert.Dil.τ Cert.Dil.sig) → Buf (Elt Bits) ℓ) (g : Dev Cert.Dil.nD → PrngReg), Pre_Dil m →
    θ_run (Cert.Dil.defs (F := Bits)) (onTc (τ := Cert.Dil.τ) (Cert.Dil.main (F := Bits))) ⟨m, fun _ => 0, g⟩ (fun r => (∀ c : Dev Cert.Dil.nD,
      r.2.mem ((c.tc : Thread Cert.Dil.nD Cert.Dil.τ).loc Cert.Dil.main_arg0) = m ((c.tc : Thread Cert.Dil.nD Cert.Dil.τ).loc Cert.Dil.main_arg0)
      ∧ r.2.mem ((c.tc : Thread Cert.Dil.nD Cert.Dil.τ).loc Cert.Dil.main_arg1) = m ((c.tc : Thread Cert.Dil.nD Cert.Dil.τ).loc Cert.Dil.main_arg1)
      ∧ r.2.mem ((c.tc : Thread Cert.Dil.nD Cert.Dil.τ).loc Cert.Dil.main_arg2) = m ((c.tc : Thread Cert.Dil.nD Cert.Dil.τ).loc Cert.Dil.main_arg2))
      ∧ r.2.sem = fun _ => 0)

def quiescent_DilIdeal [hDilIdeal : Cert.DilIdeal.Facts] : Prop :=
  ∀ (m : (ℓ : Loc Cert.DilIdeal.nD Cert.DilIdeal.τ Cert.DilIdeal.sig) → Buf (Elt Ideal) ℓ) (g : Dev Cert.DilIdeal.nD → PrngReg), Pre_DilIdeal m →
    θ_run (Cert.DilIdeal.defs (F := Ideal)) (onTc (τ := Cert.DilIdeal.τ) (Cert.DilIdeal.main (F := Ideal))) ⟨m, fun _ => 0, g⟩ (fun r => (∀ c : Dev Cert.DilIdeal.nD,
      r.2.mem ((c.tc : Thread Cert.DilIdeal.nD Cert.DilIdeal.τ).loc Cert.DilIdeal.main_arg0) = m ((c.tc : Thread Cert.DilIdeal.nD Cert.DilIdeal.τ).loc Cert.DilIdeal.main_arg0)
      ∧ r.2.mem ((c.tc : Thread Cert.DilIdeal.nD Cert.DilIdeal.τ).loc Cert.DilIdeal.main_arg1) = m ((c.tc : Thread Cert.DilIdeal.nD Cert.DilIdeal.τ).loc Cert.DilIdeal.main_arg1)
      ∧ r.2.mem ((c.tc : Thread Cert.DilIdeal.nD Cert.DilIdeal.τ).loc Cert.DilIdeal.main_arg2) = m ((c.tc : Thread Cert.DilIdeal.nD Cert.DilIdeal.τ).loc Cert.DilIdeal.main_arg2))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_scores [hFoxIdeal : Cert.FoxIdeal.Facts] [hFoxRefIdeal : Cert.FoxRefIdeal.Facts] [hPre_finite_scores : Cert.Pre_finite_scores.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_scores m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)
      ∧ m' ((c.tc : Thread Cert.FoxRefIdeal.nD Cert.FoxRefIdeal.τ).loc Cert.FoxRefIdeal.main_arg4) = m ((c.tc : Thread Cert.FoxIdeal.nD Cert.FoxIdeal.τ).loc Cert.FoxIdeal.main_arg4)) →
    ∃ (v0 : (c : Dev Cert.FoxIdeal.nD) → Buf (Elt Ideal) ((c.tc : Thread Cert.FoxIdeal.nD Cert.FoxIdeal.τ).loc Cert.FoxIdeal.main_v2)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v2) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3)
          ∧ r.2.mem ((c.tc : Thread Cert.FoxIdeal.nD Cert.FoxIdeal.τ).loc Cert.FoxIdeal.main_arg4) = m ((c.tc : Thread Cert.FoxIdeal.nD Cert.FoxIdeal.τ).loc Cert.FoxIdeal.main_arg4))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v47) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3)
          ∧ r.2.mem ((c.tc : Thread Cert.FoxRefIdeal.nD Cert.FoxRefIdeal.τ).loc Cert.FoxRefIdeal.main_arg4) = m' ((c.tc : Thread Cert.FoxRefIdeal.nD Cert.FoxRefIdeal.τ).loc Cert.FoxRefIdeal.main_arg4))

def preserves_Ffa_FfaIdeal : Prop :=
  True

def algebraic_FfaIdeal_FfaRefIdeal [hFfaIdeal : Cert.FfaIdeal.Facts] [hFfaRefIdeal : Cert.FfaRefIdeal.Facts] : Prop :=
  ∀ (m : (ℓ : Loc Cert.FfaIdeal.nD Cert.FfaIdeal.τ Cert.FfaIdeal.sig) → Buf (Elt Ideal) ℓ) (g : Dev Cert.FfaIdeal.nD → PrngReg)
    (m' : (ℓ : Loc Cert.FfaRefIdeal.nD Cert.FfaRefIdeal.τ Cert.FfaRefIdeal.sig) → Buf (Elt Ideal) ℓ) (g' : Dev Cert.FfaRefIdeal.nD → PrngReg), Pre_FfaIdeal m →
    (∀ c : Dev Cert.FfaIdeal.nD,
      m' ((c.tc : Thread Cert.FfaRefIdeal.nD Cert.FfaRefIdeal.τ).loc Cert.FfaRefIdeal.main_arg0) = m ((c.tc : Thread Cert.FfaIdeal.nD Cert.FfaIdeal.τ).loc Cert.FfaIdeal.main_arg0)
      ∧ m' ((c.tc : Thread Cert.FfaRefIdeal.nD Cert.FfaRefIdeal.τ).loc Cert.FfaRefIdeal.main_arg1) = m ((c.tc : Thread Cert.FfaIdeal.nD Cert.FfaIdeal.τ).loc Cert.FfaIdeal.main_arg1)
      ∧ m' ((c.tc : Thread Cert.FfaRefIdeal.nD Cert.FfaRefIdeal.τ).loc Cert.FfaRefIdeal.main_arg2) = m ((c.tc : Thread Cert.FfaIdeal.nD Cert.FfaIdeal.τ).loc Cert.FfaIdeal.main_arg2)
      ∧ m' ((c.tc : Thread Cert.FfaRefIdeal.nD Cert.FfaRefIdeal.τ).loc Cert.FfaRefIdeal.main_arg3) = m ((c.tc : Thread Cert.FfaIdeal.nD Cert.FfaIdeal.τ).loc Cert.FfaIdeal.main_arg3)
      ∧ m' ((c.tc : Thread Cert.FfaRefIdeal.nD Cert.FfaRefIdeal.τ).loc Cert.FfaRefIdeal.main_arg4) = m ((c.tc : Thread Cert.FfaIdeal.nD Cert.FfaIdeal.τ).loc Cert.FfaIdeal.main_arg4)
      ∧ m' ((c.tc : Thread Cert.FfaRefIdeal.nD Cert.FfaRefIdeal.τ).loc Cert.FfaRefIdeal.main_arg5) = m ((c.tc : Thread Cert.FfaIdeal.nD Cert.FfaIdeal.τ).loc Cert.FfaIdeal.main_arg5)
      ∧ m' ((c.tc : Thread Cert.FfaRefIdeal.nD Cert.FfaRefIdeal.τ).loc Cert.FfaRefIdeal.main_arg6) = m ((c.tc : Thread Cert.FfaIdeal.nD Cert.FfaIdeal.τ).loc Cert.FfaIdeal.main_arg6)) →
    ∃ (v0 : (c : Dev Cert.FfaIdeal.nD) → Buf (Elt Ideal) ((c.tc : Thread Cert.FfaIdeal.nD Cert.FfaIdeal.τ).loc Cert.FfaIdeal.main_v9)),
      θ_run (Cert.FfaIdeal.defs (F := Ideal)) (onTc (τ := Cert.FfaIdeal.τ) (Cert.FfaIdeal.main (F := Ideal))) ⟨m, fun _ => 0, g⟩ (fun r => ∀ c : Dev Cert.FfaIdeal.nD,
          r.2.mem ((c.tc : Thread Cert.FfaIdeal.nD Cert.FfaIdeal.τ).loc Cert.FfaIdeal.main_v9) = v0 c
          ∧ r.2.mem ((c.tc : Thread Cert.FfaIdeal.nD Cert.FfaIdeal.τ).loc Cert.FfaIdeal.main_arg0) = m ((c.tc : Thread Cert.FfaIdeal.nD Cert.FfaIdeal.τ).loc Cert.FfaIdeal.main_arg0)
          ∧ r.2.mem ((c.tc : Thread Cert.FfaIdeal.nD Cert.FfaIdeal.τ).loc Cert.FfaIdeal.main_arg1) = m ((c.tc : Thread Cert.FfaIdeal.nD Cert.FfaIdeal.τ).loc Cert.FfaIdeal.main_arg1)
          ∧ r.2.mem ((c.tc : Thread Cert.FfaIdeal.nD Cert.FfaIdeal.τ).loc Cert.FfaIdeal.main_arg2) = m ((c.tc : Thread Cert.FfaIdeal.nD Cert.FfaIdeal.τ).loc Cert.FfaIdeal.main_arg2)
          ∧ r.2.mem ((c.tc : Thread Cert.FfaIdeal.nD Cert.FfaIdeal.τ).loc Cert.FfaIdeal.main_arg3) = m ((c.tc : Thread Cert.FfaIdeal.nD Cert.FfaIdeal.τ).loc Cert.FfaIdeal.main_arg3)
          ∧ r.2.mem ((c.tc : Thread Cert.FfaIdeal.nD Cert.FfaIdeal.τ).loc Cert.FfaIdeal.main_arg4) = m ((c.tc : Thread Cert.FfaIdeal.nD Cert.FfaIdeal.τ).loc Cert.FfaIdeal.main_arg4)
          ∧ r.2.mem ((c.tc : Thread Cert.FfaIdeal.nD Cert.FfaIdeal.τ).loc Cert.FfaIdeal.main_arg5) = m ((c.tc : Thread Cert.FfaIdeal.nD Cert.FfaIdeal.τ).loc Cert.FfaIdeal.main_arg5)
          ∧ r.2.mem ((c.tc : Thread Cert.FfaIdeal.nD Cert.FfaIdeal.τ).loc Cert.FfaIdeal.main_arg6) = m ((c.tc : Thread Cert.FfaIdeal.nD Cert.FfaIdeal.τ).loc Cert.FfaIdeal.main_arg6))
      ∧ θ_run (Cert.FfaRefIdeal.defs (F := Ideal)) (onTc (τ := Cert.FfaRefIdeal.τ) (Cert.FfaRefIdeal.main (F := Ideal))) ⟨m', fun _ => 0, g'⟩ (fun r => ∀ c : Dev Cert.FfaRefIdeal.nD,
          r.2.mem ((c.tc : Thread Cert.FfaRefIdeal.nD Cert.FfaRefIdeal.τ).loc Cert.FfaRefIdeal.main_v51) = v0 c
          ∧ r.2.mem ((c.tc : Thread Cert.FfaRefIdeal.nD Cert.FfaRefIdeal.τ).loc Cert.FfaRefIdeal.main_arg0) = m' ((c.tc : Thread Cert.FfaRefIdeal.nD Cert.FfaRefIdeal.τ).loc Cert.FfaRefIdeal.main_arg0)
          ∧ r.2.mem ((c.tc : Thread Cert.FfaRefIdeal.nD Cert.FfaRefIdeal.τ).loc Cert.FfaRefIdeal.main_arg1) = m' ((c.tc : Thread Cert.FfaRefIdeal.nD Cert.FfaRefIdeal.τ).loc Cert.FfaRefIdeal.main_arg1)
          ∧ r.2.mem ((c.tc : Thread Cert.FfaRefIdeal.nD Cert.FfaRefIdeal.τ).loc Cert.FfaRefIdeal.main_arg2) = m' ((c.tc : Thread Cert.FfaRefIdeal.nD Cert.FfaRefIdeal.τ).loc Cert.FfaRefIdeal.main_arg2)
          ∧ r.2.mem ((c.tc : Thread Cert.FfaRefIdeal.nD Cert.FfaRefIdeal.τ).loc Cert.FfaRefIdeal.main_arg3) = m' ((c.tc : Thread Cert.FfaRefIdeal.nD Cert.FfaRefIdeal.τ).loc Cert.FfaRefIdeal.main_arg3)
          ∧ r.2.mem ((c.tc : Thread Cert.FfaRefIdeal.nD Cert.FfaRefIdeal.τ).loc Cert.FfaRefIdeal.main_arg4) = m' ((c.tc : Thread Cert.FfaRefIdeal.nD Cert.FfaRefIdeal.τ).loc Cert.FfaRefIdeal.main_arg4)
          ∧ r.2.mem ((c.tc : Thread Cert.FfaRefIdeal.nD Cert.FfaRefIdeal.τ).loc Cert.FfaRefIdeal.main_arg5) = m' ((c.tc : Thread Cert.FfaRefIdeal.nD Cert.FfaRefIdeal.τ).loc Cert.FfaRefIdeal.main_arg5)
          ∧ r.2.mem ((c.tc : Thread Cert.FfaRefIdeal.nD Cert.FfaRefIdeal.τ).loc Cert.FfaRefIdeal.main_arg6) = m' ((c.tc : Thread Cert.FfaRefIdeal.nD Cert.FfaRefIdeal.τ).loc Cert.FfaRefIdeal.main_arg6))

def preserves_Ffb_FfbIdeal : Prop :=
  True

def algebraic_FfbIdeal_FfbRefIdeal [hFfbIdeal : Cert.FfbIdeal.Facts] [hFfbRefIdeal : Cert.FfbRefIdeal.Facts] : Prop :=
  ∀ (m : (ℓ : Loc Cert.FfbIdeal.nD Cert.FfbIdeal.τ Cert.FfbIdeal.sig) → Buf (Elt Ideal) ℓ) (g : Dev Cert.FfbIdeal.nD → PrngReg)
    (m' : (ℓ : Loc Cert.FfbRefIdeal.nD Cert.FfbRefIdeal.τ Cert.FfbRefIdeal.sig) → Buf (Elt Ideal) ℓ) (g' : Dev Cert.FfbRefIdeal.nD → PrngReg), Pre_FfbIdeal m →
    (∀ c : Dev Cert.FfbIdeal.nD,
      m' ((c.tc : Thread Cert.FfbRefIdeal.nD Cert.FfbRefIdeal.τ).loc Cert.FfbRefIdeal.main_arg0) = m ((c.tc : Thread Cert.FfbIdeal.nD Cert.FfbIdeal.τ).loc Cert.FfbIdeal.main_arg0)
      ∧ m' ((c.tc : Thread Cert.FfbRefIdeal.nD Cert.FfbRefIdeal.τ).loc Cert.FfbRefIdeal.main_arg1) = m ((c.tc : Thread Cert.FfbIdeal.nD Cert.FfbIdeal.τ).loc Cert.FfbIdeal.main_arg1)
      ∧ m' ((c.tc : Thread Cert.FfbRefIdeal.nD Cert.FfbRefIdeal.τ).loc Cert.FfbRefIdeal.main_arg2) = m ((c.tc : Thread Cert.FfbIdeal.nD Cert.FfbIdeal.τ).loc Cert.FfbIdeal.main_arg2)
      ∧ m' ((c.tc : Thread Cert.FfbRefIdeal.nD Cert.FfbRefIdeal.τ).loc Cert.FfbRefIdeal.main_arg3) = m ((c.tc : Thread Cert.FfbIdeal.nD Cert.FfbIdeal.τ).loc Cert.FfbIdeal.main_arg3)
      ∧ m' ((c.tc : Thread Cert.FfbRefIdeal.nD Cert.FfbRefIdeal.τ).loc Cert.FfbRefIdeal.main_arg4) = m ((c.tc : Thread Cert.FfbIdeal.nD Cert.FfbIdeal.τ).loc Cert.FfbIdeal.main_arg4)
      ∧ m' ((c.tc : Thread Cert.FfbRefIdeal.nD Cert.FfbRefIdeal.τ).loc Cert.FfbRefIdeal.main_arg5) = m ((c.tc : Thread Cert.FfbIdeal.nD Cert.FfbIdeal.τ).loc Cert.FfbIdeal.main_arg5)
      ∧ m' ((c.tc : Thread Cert.FfbRefIdeal.nD Cert.FfbRefIdeal.τ).loc Cert.FfbRefIdeal.main_arg6) = m ((c.tc : Thread Cert.FfbIdeal.nD Cert.FfbIdeal.τ).loc Cert.FfbIdeal.main_arg6)
      ∧ m' ((c.tc : Thread Cert.FfbRefIdeal.nD Cert.FfbRefIdeal.τ).loc Cert.FfbRefIdeal.main_arg7) = m ((c.tc : Thread Cert.FfbIdeal.nD Cert.FfbIdeal.τ).loc Cert.FfbIdeal.main_arg7)
      ∧ m' ((c.tc : Thread Cert.FfbRefIdeal.nD Cert.FfbRefIdeal.τ).loc Cert.FfbRefIdeal.main_arg8) = m ((c.tc : Thread Cert.FfbIdeal.nD Cert.FfbIdeal.τ).loc Cert.FfbIdeal.main_arg8)
      ∧ m' ((c.tc : Thread Cert.FfbRefIdeal.nD Cert.FfbRefIdeal.τ).loc Cert.FfbRefIdeal.main_arg9) = m ((c.tc : Thread Cert.FfbIdeal.nD Cert.FfbIdeal.τ).loc Cert.FfbIdeal.main_arg9)
      ∧ m' ((c.tc : Thread Cert.FfbRefIdeal.nD Cert.FfbRefIdeal.τ).loc Cert.FfbRefIdeal.main_arg10) = m ((c.tc : Thread Cert.FfbIdeal.nD Cert.FfbIdeal.τ).loc Cert.FfbIdeal.main_arg10)
      ∧ m' ((c.tc : Thread Cert.FfbRefIdeal.nD Cert.FfbRefIdeal.τ).loc Cert.FfbRefIdeal.main_arg11) = m ((c.tc : Thread Cert.FfbIdeal.nD Cert.FfbIdeal.τ).loc Cert.FfbIdeal.main_arg11)
      ∧ m' ((c.tc : Thread Cert.FfbRefIdeal.nD Cert.FfbRefIdeal.τ).loc Cert.FfbRefIdeal.main_arg12) = m ((c.tc : Thread Cert.FfbIdeal.nD Cert.FfbIdeal.τ).loc Cert.FfbIdeal.main_arg12)) →
    ∃ (v0 : (c : Dev Cert.FfbIdeal.nD) → Buf (Elt Ideal) ((c.tc : Thread Cert.FfbIdeal.nD Cert.FfbIdeal.τ).loc Cert.FfbIdeal.main_v13)),
      θ_run (Cert.FfbIdeal.defs (F := Ideal)) (onTc (τ := Cert.FfbIdeal.τ) (Cert.FfbIdeal.main (F := Ideal))) ⟨m, fun _ => 0, g⟩ (fun r => ∀ c : Dev Cert.FfbIdeal.nD,
          r.2.mem ((c.tc : Thread Cert.FfbIdeal.nD Cert.FfbIdeal.τ).loc Cert.FfbIdeal.main_v13) = v0 c
          ∧ r.2.mem ((c.tc : Thread Cert.FfbIdeal.nD Cert.FfbIdeal.τ).loc Cert.FfbIdeal.main_arg0) = m ((c.tc : Thread Cert.FfbIdeal.nD Cert.FfbIdeal.τ).loc Cert.FfbIdeal.main_arg0)
          ∧ r.2.mem ((c.tc : Thread Cert.FfbIdeal.nD Cert.FfbIdeal.τ).loc Cert.FfbIdeal.main_arg1) = m ((c.tc : Thread Cert.FfbIdeal.nD Cert.FfbIdeal.τ).loc Cert.FfbIdeal.main_arg1)
          ∧ r.2.mem ((c.tc : Thread Cert.FfbIdeal.nD Cert.FfbIdeal.τ).loc Cert.FfbIdeal.main_arg2) = m ((c.tc : Thread Cert.FfbIdeal.nD Cert.FfbIdeal.τ).loc Cert.FfbIdeal.main_arg2)
          ∧ r.2.mem ((c.tc : Thread Cert.FfbIdeal.nD Cert.FfbIdeal.τ).loc Cert.FfbIdeal.main_arg3) = m ((c.tc : Thread Cert.FfbIdeal.nD Cert.FfbIdeal.τ).loc Cert.FfbIdeal.main_arg3)
          ∧ r.2.mem ((c.tc : Thread Cert.FfbIdeal.nD Cert.FfbIdeal.τ).loc Cert.FfbIdeal.main_arg4) = m ((c.tc : Thread Cert.FfbIdeal.nD Cert.FfbIdeal.τ).loc Cert.FfbIdeal.main_arg4)
          ∧ r.2.mem ((c.tc : Thread Cert.FfbIdeal.nD Cert.FfbIdeal.τ).loc Cert.FfbIdeal.main_arg5) = m ((c.tc : Thread Cert.FfbIdeal.nD Cert.FfbIdeal.τ).loc Cert.FfbIdeal.main_arg5)
          ∧ r.2.mem ((c.tc : Thread Cert.FfbIdeal.nD Cert.FfbIdeal.τ).loc Cert.FfbIdeal.main_arg6) = m ((c.tc : Thread Cert.FfbIdeal.nD Cert.FfbIdeal.τ).loc Cert.FfbIdeal.main_arg6)
          ∧ r.2.mem ((c.tc : Thread Cert.FfbIdeal.nD Cert.FfbIdeal.τ).loc Cert.FfbIdeal.main_arg7) = m ((c.tc : Thread Cert.FfbIdeal.nD Cert.FfbIdeal.τ).loc Cert.FfbIdeal.main_arg7)
          ∧ r.2.mem ((c.tc : Thread Cert.FfbIdeal.nD Cert.FfbIdeal.τ).loc Cert.FfbIdeal.main_arg8) = m ((c.tc : Thread Cert.FfbIdeal.nD Cert.FfbIdeal.τ).loc Cert.FfbIdeal.main_arg8)
          ∧ r.2.mem ((c.tc : Thread Cert.FfbIdeal.nD Cert.FfbIdeal.τ).loc Cert.FfbIdeal.main_arg9) = m ((c.tc : Thread Cert.FfbIdeal.nD Cert.FfbIdeal.τ).loc Cert.FfbIdeal.main_arg9)
          ∧ r.2.mem ((c.tc : Thread Cert.FfbIdeal.nD Cert.FfbIdeal.τ).loc Cert.FfbIdeal.main_arg10) = m ((c.tc : Thread Cert.FfbIdeal.nD Cert.FfbIdeal.τ).loc Cert.FfbIdeal.main_arg10)
          ∧ r.2.mem ((c.tc : Thread Cert.FfbIdeal.nD Cert.FfbIdeal.τ).loc Cert.FfbIdeal.main_arg11) = m ((c.tc : Thread Cert.FfbIdeal.nD Cert.FfbIdeal.τ).loc Cert.FfbIdeal.main_arg11)
          ∧ r.2.mem ((c.tc : Thread Cert.FfbIdeal.nD Cert.FfbIdeal.τ).loc Cert.FfbIdeal.main_arg12) = m ((c.tc : Thread Cert.FfbIdeal.nD Cert.FfbIdeal.τ).loc Cert.FfbIdeal.main_arg12))
      ∧ θ_run (Cert.FfbRefIdeal.defs (F := Ideal)) (onTc (τ := Cert.FfbRefIdeal.τ) (Cert.FfbRefIdeal.main (F := Ideal))) ⟨m', fun _ => 0, g'⟩ (fun r => ∀ c : Dev Cert.FfbRefIdeal.nD,
          r.2.mem ((c.tc : Thread Cert.FfbRefIdeal.nD Cert.FfbRefIdeal.τ).loc Cert.FfbRefIdeal.main_v104) = v0 c
          ∧ r.2.mem ((c.tc : Thread Cert.FfbRefIdeal.nD Cert.FfbRefIdeal.τ).loc Cert.FfbRefIdeal.main_arg0) = m' ((c.tc : Thread Cert.FfbRefIdeal.nD Cert.FfbRefIdeal.τ).loc Cert.FfbRefIdeal.main_arg0)
          ∧ r.2.mem ((c.tc : Thread Cert.FfbRefIdeal.nD Cert.FfbRefIdeal.τ).loc Cert.FfbRefIdeal.main_arg1) = m' ((c.tc : Thread Cert.FfbRefIdeal.nD Cert.FfbRefIdeal.τ).loc Cert.FfbRefIdeal.main_arg1)
          ∧ r.2.mem ((c.tc : Thread Cert.FfbRefIdeal.nD Cert.FfbRefIdeal.τ).loc Cert.FfbRefIdeal.main_arg2) = m' ((c.tc : Thread Cert.FfbRefIdeal.nD Cert.FfbRefIdeal.τ).loc Cert.FfbRefIdeal.main_arg2)
          ∧ r.2.mem ((c.tc : Thread Cert.FfbRefIdeal.nD Cert.FfbRefIdeal.τ).loc Cert.FfbRefIdeal.main_arg3) = m' ((c.tc : Thread Cert.FfbRefIdeal.nD Cert.FfbRefIdeal.τ).loc Cert.FfbRefIdeal.main_arg3)
          ∧ r.2.mem ((c.tc : Thread Cert.FfbRefIdeal.nD Cert.FfbRefIdeal.τ).loc Cert.FfbRefIdeal.main_arg4) = m' ((c.tc : Thread Cert.FfbRefIdeal.nD Cert.FfbRefIdeal.τ).loc Cert.FfbRefIdeal.main_arg4)
          ∧ r.2.mem ((c.tc : Thread Cert.FfbRefIdeal.nD Cert.FfbRefIdeal.τ).loc Cert.FfbRefIdeal.main_arg5) = m' ((c.tc : Thread Cert.FfbRefIdeal.nD Cert.FfbRefIdeal.τ).loc Cert.FfbRefIdeal.main_arg5)
          ∧ r.2.mem ((c.tc : Thread Cert.FfbRefIdeal.nD Cert.FfbRefIdeal.τ).loc Cert.FfbRefIdeal.main_arg6) = m' ((c.tc : Thread Cert.FfbRefIdeal.nD Cert.FfbRefIdeal.τ).loc Cert.FfbRefIdeal.main_arg6)
          ∧ r.2.mem ((c.tc : Thread Cert.FfbRefIdeal.nD Cert.FfbRefIdeal.τ).loc Cert.FfbRefIdeal.main_arg7) = m' ((c.tc : Thread Cert.FfbRefIdeal.nD Cert.FfbRefIdeal.τ).loc Cert.FfbRefIdeal.main_arg7)
          ∧ r.2.mem ((c.tc : Thread Cert.FfbRefIdeal.nD Cert.FfbRefIdeal.τ).loc Cert.FfbRefIdeal.main_arg8) = m' ((c.tc : Thread Cert.FfbRefIdeal.nD Cert.FfbRefIdeal.τ).loc Cert.FfbRefIdeal.main_arg8)
          ∧ r.2.mem ((c.tc : Thread Cert.FfbRefIdeal.nD Cert.FfbRefIdeal.τ).loc Cert.FfbRefIdeal.main_arg9) = m' ((c.tc : Thread Cert.FfbRefIdeal.nD Cert.FfbRefIdeal.τ).loc Cert.FfbRefIdeal.main_arg9)
          ∧ r.2.mem ((c.tc : Thread Cert.FfbRefIdeal.nD Cert.FfbRefIdeal.τ).loc Cert.FfbRefIdeal.main_arg10) = m' ((c.tc : Thread Cert.FfbRefIdeal.nD Cert.FfbRefIdeal.τ).loc Cert.FfbRefIdeal.main_arg10)
          ∧ r.2.mem ((c.tc : Thread Cert.FfbRefIdeal.nD Cert.FfbRefIdeal.τ).loc Cert.FfbRefIdeal.main_arg11) = m' ((c.tc : Thread Cert.FfbRefIdeal.nD Cert.FfbRefIdeal.τ).loc Cert.FfbRefIdeal.main_arg11)
          ∧ r.2.mem ((c.tc : Thread Cert.FfbRefIdeal.nD Cert.FfbRefIdeal.τ).loc Cert.FfbRefIdeal.main_arg12) = m' ((c.tc : Thread Cert.FfbRefIdeal.nD Cert.FfbRefIdeal.τ).loc Cert.FfbRefIdeal.main_arg12))

def preserves_Prj_PrjIdeal : Prop :=
  IdealRules.named_const.Statement Cert.PrjIdeal.κ "qscale" .f32 0x3E38AA3B#32 (((1 / 8) * (Real.log 2)⁻¹ : ℝ) : EReal)

def algebraic_PrjIdeal_PrjRefIdeal [hPrjIdeal : Cert.PrjIdeal.Facts] [hPrjRefIdeal : Cert.PrjRefIdeal.Facts] : Prop :=
  ∀ (m : (ℓ : Loc Cert.PrjIdeal.nD Cert.PrjIdeal.τ Cert.PrjIdeal.sig) → Buf (Elt Ideal) ℓ) (g : Dev Cert.PrjIdeal.nD → PrngReg)
    (m' : (ℓ : Loc Cert.PrjRefIdeal.nD Cert.PrjRefIdeal.τ Cert.PrjRefIdeal.sig) → Buf (Elt Ideal) ℓ) (g' : Dev Cert.PrjRefIdeal.nD → PrngReg), Pre_PrjIdeal m →
    (∀ c : Dev Cert.PrjIdeal.nD,
      m' ((c.tc : Thread Cert.PrjRefIdeal.nD Cert.PrjRefIdeal.τ).loc Cert.PrjRefIdeal.main_arg0) = m ((c.tc : Thread Cert.PrjIdeal.nD Cert.PrjIdeal.τ).loc Cert.PrjIdeal.main_arg0)
      ∧ m' ((c.tc : Thread Cert.PrjRefIdeal.nD Cert.PrjRefIdeal.τ).loc Cert.PrjRefIdeal.main_arg1) = m ((c.tc : Thread Cert.PrjIdeal.nD Cert.PrjIdeal.τ).loc Cert.PrjIdeal.main_arg1)
      ∧ m' ((c.tc : Thread Cert.PrjRefIdeal.nD Cert.PrjRefIdeal.τ).loc Cert.PrjRefIdeal.main_arg2) = m ((c.tc : Thread Cert.PrjIdeal.nD Cert.PrjIdeal.τ).loc Cert.PrjIdeal.main_arg2)
      ∧ m' ((c.tc : Thread Cert.PrjRefIdeal.nD Cert.PrjRefIdeal.τ).loc Cert.PrjRefIdeal.main_arg3) = m ((c.tc : Thread Cert.PrjIdeal.nD Cert.PrjIdeal.τ).loc Cert.PrjIdeal.main_arg3)
      ∧ m' ((c.tc : Thread Cert.PrjRefIdeal.nD Cert.PrjRefIdeal.τ).loc Cert.PrjRefIdeal.main_arg4) = m ((c.tc : Thread Cert.PrjIdeal.nD Cert.PrjIdeal.τ).loc Cert.PrjIdeal.main_arg4)
      ∧ m' ((c.tc : Thread Cert.PrjRefIdeal.nD Cert.PrjRefIdeal.τ).loc Cert.PrjRefIdeal.main_arg5) = m ((c.tc : Thread Cert.PrjIdeal.nD Cert.PrjIdeal.τ).loc Cert.PrjIdeal.main_arg5)) →
    ∃ (v0 : (c : Dev Cert.PrjIdeal.nD) → Buf (Elt Ideal) ((c.tc : Thread Cert.PrjIdeal.nD Cert.PrjIdeal.τ).loc Cert.PrjIdeal.main_v119_0)) (v1 : (c : Dev Cert.PrjIdeal.nD) → Buf (Elt Ideal) ((c.tc : Thread Cert.PrjIdeal.nD Cert.PrjIdeal.τ).loc Cert.PrjIdeal.main_v119_1)) (v2 : (c : Dev Cert.PrjIdeal.nD) → Buf (Elt Ideal) ((c.tc : Thread Cert.PrjIdeal.nD Cert.PrjIdeal.τ).loc Cert.PrjIdeal.main_v119_2)) (v3 : (c : Dev Cert.PrjIdeal.nD) → Buf (Elt Ideal) ((c.tc : Thread Cert.PrjIdeal.nD Cert.PrjIdeal.τ).loc Cert.PrjIdeal.main_v119_3)) (v4 : (c : Dev Cert.PrjIdeal.nD) → Buf (Elt Ideal) ((c.tc : Thread Cert.PrjIdeal.nD Cert.PrjIdeal.τ).loc Cert.PrjIdeal.main_v119_4)) (v5 : (c : Dev Cert.PrjIdeal.nD) → Buf (Elt Ideal) ((c.tc : Thread Cert.PrjIdeal.nD Cert.PrjIdeal.τ).loc Cert.PrjIdeal.main_v119_5)),
      θ_run (Cert.PrjIdeal.defs (F := Ideal)) (onTc (τ := Cert.PrjIdeal.τ) (Cert.PrjIdeal.main (F := Ideal))) ⟨m, fun _ => 0, g⟩ (fun r => ∀ c : Dev Cert.PrjIdeal.nD,
          r.2.mem ((c.tc : Thread Cert.PrjIdeal.nD Cert.PrjIdeal.τ).loc Cert.PrjIdeal.main_v119_0) = v0 c
          ∧ r.2.mem ((c.tc : Thread Cert.PrjIdeal.nD Cert.PrjIdeal.τ).loc Cert.PrjIdeal.main_v119_1) = v1 c
          ∧ r.2.mem ((c.tc : Thread Cert.PrjIdeal.nD Cert.PrjIdeal.τ).loc Cert.PrjIdeal.main_v119_2) = v2 c
          ∧ r.2.mem ((c.tc : Thread Cert.PrjIdeal.nD Cert.PrjIdeal.τ).loc Cert.PrjIdeal.main_v119_3) = v3 c
          ∧ r.2.mem ((c.tc : Thread Cert.PrjIdeal.nD Cert.PrjIdeal.τ).loc Cert.PrjIdeal.main_v119_4) = v4 c
          ∧ r.2.mem ((c.tc : Thread Cert.PrjIdeal.nD Cert.PrjIdeal.τ).loc Cert.PrjIdeal.main_v119_5) = v5 c
          ∧ r.2.mem ((c.tc : Thread Cert.PrjIdeal.nD Cert.PrjIdeal.τ).loc Cert.PrjIdeal.main_arg0) = m ((c.tc : Thread Cert.PrjIdeal.nD Cert.PrjIdeal.τ).loc Cert.PrjIdeal.main_arg0)
          ∧ r.2.mem ((c.tc : Thread Cert.PrjIdeal.nD Cert.PrjIdeal.τ).loc Cert.PrjIdeal.main_arg1) = m ((c.tc : Thread Cert.PrjIdeal.nD Cert.PrjIdeal.τ).loc Cert.PrjIdeal.main_arg1)
          ∧ r.2.mem ((c.tc : Thread Cert.PrjIdeal.nD Cert.PrjIdeal.τ).loc Cert.PrjIdeal.main_arg2) = m ((c.tc : Thread Cert.PrjIdeal.nD Cert.PrjIdeal.τ).loc Cert.PrjIdeal.main_arg2)
          ∧ r.2.mem ((c.tc : Thread Cert.PrjIdeal.nD Cert.PrjIdeal.τ).loc Cert.PrjIdeal.main_arg3) = m ((c.tc : Thread Cert.PrjIdeal.nD Cert.PrjIdeal.τ).loc Cert.PrjIdeal.main_arg3)
          ∧ r.2.mem ((c.tc : Thread Cert.PrjIdeal.nD Cert.PrjIdeal.τ).loc Cert.PrjIdeal.main_arg4) = m ((c.tc : Thread Cert.PrjIdeal.nD Cert.PrjIdeal.τ).loc Cert.PrjIdeal.main_arg4)
          ∧ r.2.mem ((c.tc : Thread Cert.PrjIdeal.nD Cert.PrjIdeal.τ).loc Cert.PrjIdeal.main_arg5) = m ((c.tc : Thread Cert.PrjIdeal.nD Cert.PrjIdeal.τ).loc Cert.PrjIdeal.main_arg5))
      ∧ θ_run (Cert.PrjRefIdeal.defs (F := Ideal)) (onTc (τ := Cert.PrjRefIdeal.τ) (Cert.PrjRefIdeal.main (F := Ideal))) ⟨m', fun _ => 0, g'⟩ (fun r => ∀ c : Dev Cert.PrjRefIdeal.nD,
          r.2.mem ((c.tc : Thread Cert.PrjRefIdeal.nD Cert.PrjRefIdeal.τ).loc Cert.PrjRefIdeal.main_v74) = v0 c
          ∧ r.2.mem ((c.tc : Thread Cert.PrjRefIdeal.nD Cert.PrjRefIdeal.τ).loc Cert.PrjRefIdeal.main_v111) = v1 c
          ∧ r.2.mem ((c.tc : Thread Cert.PrjRefIdeal.nD Cert.PrjRefIdeal.τ).loc Cert.PrjRefIdeal.main_v116) = v2 c
          ∧ r.2.mem ((c.tc : Thread Cert.PrjRefIdeal.nD Cert.PrjRefIdeal.τ).loc Cert.PrjRefIdeal.main_v127) = v3 c
          ∧ r.2.mem ((c.tc : Thread Cert.PrjRefIdeal.nD Cert.PrjRefIdeal.τ).loc Cert.PrjRefIdeal.main_v133) = v4 c
          ∧ r.2.mem ((c.tc : Thread Cert.PrjRefIdeal.nD Cert.PrjRefIdeal.τ).loc Cert.PrjRefIdeal.main_v139) = v5 c
          ∧ r.2.mem ((c.tc : Thread Cert.PrjRefIdeal.nD Cert.PrjRefIdeal.τ).loc Cert.PrjRefIdeal.main_arg0) = m' ((c.tc : Thread Cert.PrjRefIdeal.nD Cert.PrjRefIdeal.τ).loc Cert.PrjRefIdeal.main_arg0)
          ∧ r.2.mem ((c.tc : Thread Cert.PrjRefIdeal.nD Cert.PrjRefIdeal.τ).loc Cert.PrjRefIdeal.main_arg1) = m' ((c.tc : Thread Cert.PrjRefIdeal.nD Cert.PrjRefIdeal.τ).loc Cert.PrjRefIdeal.main_arg1)
          ∧ r.2.mem ((c.tc : Thread Cert.PrjRefIdeal.nD Cert.PrjRefIdeal.τ).loc Cert.PrjRefIdeal.main_arg2) = m' ((c.tc : Thread Cert.PrjRefIdeal.nD Cert.PrjRefIdeal.τ).loc Cert.PrjRefIdeal.main_arg2)
          ∧ r.2.mem ((c.tc : Thread Cert.PrjRefIdeal.nD Cert.PrjRefIdeal.τ).loc Cert.PrjRefIdeal.main_arg3) = m' ((c.tc : Thread Cert.PrjRefIdeal.nD Cert.PrjRefIdeal.τ).loc Cert.PrjRefIdeal.main_arg3)
          ∧ r.2.mem ((c.tc : Thread Cert.PrjRefIdeal.nD Cert.PrjRefIdeal.τ).loc Cert.PrjRefIdeal.main_arg4) = m' ((c.tc : Thread Cert.PrjRefIdeal.nD Cert.PrjRefIdeal.τ).loc Cert.PrjRefIdeal.main_arg4)
          ∧ r.2.mem ((c.tc : Thread Cert.PrjRefIdeal.nD Cert.PrjRefIdeal.τ).loc Cert.PrjRefIdeal.main_arg5) = m' ((c.tc : Thread Cert.PrjRefIdeal.nD Cert.PrjRefIdeal.τ).loc Cert.PrjRefIdeal.main_arg5))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Dil_DilIdeal : Prop :=
  IdealRules.named_const.Statement Cert.DilIdeal.κ "log2e" .f32 0x3FB8AA3B#32 (((Real.log 2)⁻¹ : ℝ) : EReal)

def Claim : Prop :=
  ∃ (hFox : Cert.Fox.Facts) (hFoxIdeal : Cert.FoxIdeal.Facts) (hFoxRefIdeal : Cert.FoxRefIdeal.Facts) (hFfa : Cert.Ffa.Facts) (hFfaIdeal : Cert.FfaIdeal.Facts) (hFfaRefIdeal : Cert.FfaRefIdeal.Facts) (hFfb : Cert.Ffb.Facts) (hFfbIdeal : Cert.FfbIdeal.Facts) (hFfbRefIdeal : Cert.FfbRefIdeal.Facts) (hPrj : Cert.Prj.Facts) (hPrjIdeal : Cert.PrjIdeal.Facts) (hPrjRefIdeal : Cert.PrjRefIdeal.Facts) (hAda : Cert.Ada.Facts) (hAdaIdeal : Cert.AdaIdeal.Facts) (hAdaRefIdeal : Cert.AdaRefIdeal.Facts) (hDil : Cert.Dil.Facts) (hDilIdeal : Cert.DilIdeal.Facts) (hPre_finite_scores : Cert.Pre_finite_scores.Facts),
    quiescent_Fox (hFox := hFox)
    ∧ quiescent_FoxIdeal (hFoxIdeal := hFoxIdeal)
    ∧ quiescent_FoxIdeal_pre_finite_scores (hFoxIdeal := hFoxIdeal) (hPre_finite_scores := hPre_finite_scores)
    ∧ quiescent_FoxRefIdeal (hFoxRefIdeal := hFoxRefIdeal)
    ∧ quiescent_FoxRefIdeal_pre_finite_scores (hFoxRefIdeal := hFoxRefIdeal) (hPre_finite_scores := hPre_finite_scores)
    ∧ quiescent_Ffa (hFfa := hFfa)
    ∧ quiescent_FfaIdeal (hFfaIdeal := hFfaIdeal)
    ∧ quiescent_FfaRefIdeal (hFfaRefIdeal := hFfaRefIdeal)
    ∧ quiescent_Ffb (hFfb := hFfb)
    ∧ quiescent_FfbIdeal (hFfbIdeal := hFfbIdeal)
    ∧ quiescent_FfbRefIdeal (hFfbRefIdeal := hFfbRefIdeal)
    ∧ quiescent_Prj (hPrj := hPrj)
    ∧ quiescent_PrjIdeal (hPrjIdeal := hPrjIdeal)
    ∧ quiescent_PrjRefIdeal (hPrjRefIdeal := hPrjRefIdeal)
    ∧ quiescent_Ada (hAda := hAda)
    ∧ quiescent_AdaIdeal (hAdaIdeal := hAdaIdeal)
    ∧ quiescent_AdaRefIdeal (hAdaRefIdeal := hAdaRefIdeal)
    ∧ quiescent_Dil (hDil := hDil)
    ∧ quiescent_DilIdeal (hDilIdeal := hDilIdeal)
    ∧ preserves_Fox_FoxIdeal
    ∧ algebraic_FoxIdeal_FoxRefIdeal_pre_finite_scores (hFoxIdeal := hFoxIdeal) (hFoxRefIdeal := hFoxRefIdeal) (hPre_finite_scores := hPre_finite_scores)
    ∧ preserves_Ffa_FfaIdeal
    ∧ algebraic_FfaIdeal_FfaRefIdeal (hFfaIdeal := hFfaIdeal) (hFfaRefIdeal := hFfaRefIdeal)
    ∧ preserves_Ffb_FfbIdeal
    ∧ algebraic_FfbIdeal_FfbRefIdeal (hFfbIdeal := hFfbIdeal) (hFfbRefIdeal := hFfbRefIdeal)
    ∧ preserves_Prj_PrjIdeal
    ∧ algebraic_PrjIdeal_PrjRefIdeal (hPrjIdeal := hPrjIdeal) (hPrjRefIdeal := hPrjRefIdeal)
    ∧ preserves_Ada_AdaIdeal
    ∧ algebraic_AdaIdeal_AdaRefIdeal (hAdaIdeal := hAdaIdeal) (hAdaRefIdeal := hAdaRefIdeal)
    ∧ preserves_Dil_DilIdeal
-- ==== Pre_finite_scores.lean ====
abbrev S32x4x2048x128 : Shape := ⟨4, ![32, 4, 2048, 128]⟩
abbrev S65536x128 : Shape := ⟨2, ![65536, 128]⟩
abbrev S_ : Shape := ⟨0, ![]⟩

class Facts : Prop where
  bitsLt_bf16_f32 : FTy.bits .bf16 < FTy.bits .f32
  bcast_S_S32x4x2048x128 : S_.BroadcastsInDim S32x4x2048x128 (![] : Fin 0 → Fin S32x4x2048x128.rank)
  bcast_S_S65536x128 : S_.BroadcastsInDim S65536x128 (![] : Fin 0 → Fin S65536x128.rank)

variable [Facts]

def fn {F : FTy → Type} [FloatOps F] (main_arg0 : FVec F S32x4x2048x128 .bf16) (main_arg1 : FVec F S32x4x2048x128 .bf16) (main_arg2 : FVec F S32x4x2048x128 .bf16) (main_arg3 : FVec F S65536x128 .bf16) (main_arg4 : FVec F S65536x128 .bf16) : IVec S32x4x2048x128 1 × IVec S32x4x2048x128 1 × IVec S65536x128 1 × IVec S65536x128 1 :=
  let main_v0 : FVec F S32x4x2048x128 .f32 := (extf .f32 · bitsLt_bf16_f32) main_arg0
  let main_v1 : FVec F S32x4x2048x128 .f32 := Host.absf main_v0
  let main_cst : FVec F S_ .f32 := constant S_ .f32 0x7F800000#32
  let main_v2 : FVec F S32x4x2048x128 .f32 := broadcastInDim S32x4x2048x128 ![] bcast_S_S32x4x2048x128 main_cst
  let main_v3 : IVec S32x4x2048x128 1 := cmpf .olt main_v1 main_v2
  let main_v4 : FVec F S32x4x2048x128 .f32 := (extf .f32 · bitsLt_bf16_f32) main_arg1
  let main_v5 : FVec F S32x4x2048x128 .f32 := Host.absf main_v4
  let main_cst_0 : FVec F S_ .f32 := constant S_ .f32 0x7F800000#32
  let main_v6 : FVec F S32x4x2048x128 .f32 := broadcastInDim S32x4x2048x128 ![] bcast_S_S32x4x2048x128 main_cst_0
  let main_v7 : IVec S32x4x2048x128 1 := cmpf .olt main_v5 main_v6
  let main_v8 : FVec F S65536x128 .f32 := (extf .f32 · bitsLt_bf16_f32) main_arg3
  let main_v9 : FVec F S65536x128 .f32 := Host.absf main_v8
  let main_cst_1 : FVec F S_ .f32 := constant S_ .f32 0x7F800000#32
  let main_v10 : FVec F S65536x128 .f32 := broadcastInDim S65536x128 ![] bcast_S_S65536x128 main_cst_1
  let main_v11 : IVec S65536x128 1 := cmpf .olt main_v9 main_v10
  let main_v12 : FVec F S65536x128 .f32 := (extf .f32 · bitsLt_bf16_f32) main_arg4
  let main_v13 : FVec F S65536x128 .f32 := Host.absf main_v12
  let main_cst_2 : FVec F S_ .f32 := constant S_ .f32 0x7F800000#32
  let main_v14 : FVec F S65536x128 .f32 := broadcastInDim S65536x128 ![] bcast_S_S65536x128 main_cst_2
  let main_v15 : IVec S65536x128 1 := cmpf .olt main_v13 main_v14
  (main_v3, main_v7, main_v11, main_v15)
-- ==== Fox.lean ====
abbrev S32x4x2048x128 : Shape := ⟨4, ![32, 4, 2048, 128]⟩
abbrev S65536x128 : Shape := ⟨2, ![65536, 128]⟩
abbrev S32x2048x128 : Shape := ⟨3, ![32, 2048, 128]⟩
abbrev S1x1x2048x128 : Shape := ⟨4, ![1, 1, 2048, 128]⟩
abbrev S1x2048x128 : Shape := ⟨3, ![1, 2048, 128]⟩
abbrev S2x2048x128 : Shape := ⟨3, ![2, 2048, 128]⟩
abbrev S256x128 : Shape := ⟨2, ![256, 128]⟩
abbrev S256x256 : Shape := ⟨2, ![256, 256]⟩
abbrev S512x128 : Shape := ⟨2, ![512, 128]⟩
abbrev S1x1x512x128 : Shape := ⟨4, ![1, 1, 512, 128]⟩
abbrev S1x512x128 : Shape := ⟨3, ![1, 512, 128]⟩
abbrev S1x1x256x128 : Shape := ⟨4, ![1, 1, 256, 128]⟩
abbrev S1x256x128 : Shape := ⟨3, ![1, 256, 128]⟩
abbrev S256 : Shape := ⟨1, ![256]⟩
abbrev S256x1 : Shape := ⟨2, ![256, 1]⟩
abbrev S512x256 : Shape := ⟨2, ![512, 256]⟩
abbrev S256x512 : Shape := ⟨2, ![256, 512]⟩
abbrev S1x1x768x128 : Shape := ⟨4, ![1, 1, 768, 128]⟩
abbrev S768x128 : Shape := ⟨2, ![768, 128]⟩
abbrev S1x768x128 : Shape := ⟨3, ![1, 768, 128]⟩
abbrev S768x256 : Shape := ⟨2, ![768, 256]⟩
abbrev S256x768 : Shape := ⟨2, ![256, 768]⟩
abbrev S1x1x1024x128 : Shape := ⟨4, ![1, 1, 1024, 128]⟩
abbrev S1024x128 : Shape := ⟨2, ![1024, 128]⟩
abbrev S1x1024x128 : Shape := ⟨3, ![1, 1024, 128]⟩
abbrev S1024x256 : Shape := ⟨2, ![1024, 256]⟩
abbrev S256x1024 : Shape := ⟨2, ![256, 1024]⟩
abbrev S1x1x1280x128 : Shape := ⟨4, ![1, 1, 1280, 128]⟩
abbrev S1280x128 : Shape := ⟨2, ![1280, 128]⟩
abbrev S1x1280x128 : Shape := ⟨3, ![1, 1280, 128]⟩
abbrev S1280x256 : Shape := ⟨2, ![1280, 256]⟩
abbrev S256x1280 : Shape := ⟨2, ![256, 1280]⟩
abbrev S1x1x1536x128 : Shape := ⟨4, ![1, 1, 1536, 128]⟩
abbrev S1536x128 : Shape := ⟨2, ![1536, 128]⟩
abbrev S1x1536x128 : Shape := ⟨3, ![1, 1536, 128]⟩
abbrev S1536x256 : Shape := ⟨2, ![1536, 256]⟩
abbrev S256x1536 : Shape := ⟨2, ![256, 1536]⟩
abbrev S1x1x1792x128 : Shape := ⟨4, ![1, 1, 1792, 128]⟩
abbrev S1792x128 : Shape := ⟨2, ![1792, 128]⟩
abbrev S1x1792x128 : Shape := ⟨3, ![1, 1792, 128]⟩
abbrev S1792x256 : Shape := ⟨2, ![1792, 256]⟩
abbrev S256x1792 : Shape := ⟨2, ![256, 1792]⟩
abbrev S2048x128 : Shape := ⟨2, ![2048, 128]⟩
abbrev S2048x256 : Shape := ⟨2, ![2048, 256]⟩
abbrev S256x2048 : Shape := ⟨2, ![256, 2048]⟩

abbrev nBuf : Space → Nat
  | .hbm => 8
  | .vmem => 13
  | .smem => 0
  | _ => 0

abbrev bufTy : (tb : Table) → Fin (tcTables nBuf tb) → BufTy
  | .hbm, ⟨0, _⟩ => ⟨S32x4x2048x128, .bf16⟩
  | .hbm, ⟨1, _⟩ => ⟨S32x4x2048x128, .bf16⟩
  | .hbm, ⟨2, _⟩ => ⟨S32x4x2048x128, .bf16⟩
  | .hbm, ⟨3, _⟩ => ⟨S65536x128, .bf16⟩
  | .hbm, ⟨4, _⟩ => ⟨S65536x128, .bf16⟩
  | .hbm, ⟨5, _⟩ => ⟨S32x2048x128, .bf16⟩
  | .hbm, ⟨6, _⟩ => ⟨S32x2048x128, .bf16⟩
  | .hbm, ⟨7, _⟩ => ⟨S32x4x2048x128, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1x2048x128, .bf16⟩
  | .local _ .vmem, ⟨11, _⟩ => ⟨S1x1x2048x128, .bf16⟩
  | .local _ .vmem, ⟨12, _⟩ => ⟨S2x2048x128, .bf16⟩
  | _, _ => ⟨S32x4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxIdeal.lean ====
variable {F : FTy → Type} [FloatOps F] [Named F]
def κ : String → Option EReal := fun
  | "mask" => some ⊥
  | _ => none
-- ==== FoxRefIdeal.lean ====
abbrev S32x4x2048x128 : Shape := ⟨4, ![32, 4, 2048, 128]⟩
abbrev S65536x128 : Shape := ⟨2, ![65536, 128]⟩
abbrev S32x4x2048x2x64 : Shape := ⟨5, ![32, 4, 2048, 2, 64]⟩
abbrev S32x4x2x2048x64 : Shape := ⟨5, ![32, 4, 2, 2048, 64]⟩
abbrev S32x8x2048x64 : Shape := ⟨4, ![32, 8, 2048, 64]⟩
abbrev S32x8x2048x2048 : Shape := ⟨4, ![32, 8, 2048, 2048]⟩
abbrev S32x2048x8x16 : Shape := ⟨4, ![32, 2048, 8, 16]⟩
abbrev S32x8x2048x16 : Shape := ⟨4, ![32, 8, 2048, 16]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8x2048 : Shape := ⟨3, ![32, 8, 2048]⟩
abbrev S32x8x2048x1 : Shape := ⟨4, ![32, 8, 2048, 1]⟩

abbrev nBuf : Space → Nat
  | .hbm => 61
  | .vmem => 0
  | .smem => 0
  | _ => 0

abbrev bufTy : (tb : Table) → Fin (tcTables nBuf tb) → BufTy
  | .hbm, ⟨0, _⟩ => ⟨S32x4x2048x128, .bf16⟩
  | .hbm, ⟨1, _⟩ => ⟨S32x4x2048x128, .bf16⟩
  | .hbm, ⟨2, _⟩ => ⟨S32x4x2048x128, .bf16⟩
  | .hbm, ⟨3, _⟩ => ⟨S65536x128, .bf16⟩
  | .hbm, ⟨4, _⟩ => ⟨S65536x128, .bf16⟩
  | .hbm, ⟨5, _⟩ => ⟨S32x4x2048x128, .f32⟩
  | .hbm, ⟨6, _⟩ => ⟨S32x4x2048x2x64, .f32⟩
  | .hbm, ⟨7, _⟩ => ⟨S32x4x2x2048x64, .f32⟩
  | .hbm, ⟨8, _⟩ => ⟨S32x8x2048x64, .f32⟩
  | .hbm, ⟨9, _⟩ => ⟨S32x4x2048x128, .f32⟩
  | .hbm, ⟨10, _⟩ => ⟨S32x4x2048x2x64, .f32⟩
  | .hbm, ⟨11, _⟩ => ⟨S32x4x2x2048x64, .f32⟩
  | .hbm, ⟨12, _⟩ => ⟨S32x8x2048x64, .f32⟩
  | .hbm, ⟨13, _⟩ => ⟨S32x4x2048x128, .f32⟩
  | .hbm, ⟨14, _⟩ => ⟨S32x4x2048x2x64, .f32⟩
  | .hbm, ⟨15, _⟩ => ⟨S32x4x2x2048x64, .f32⟩
  | .hbm, ⟨16, _⟩ => ⟨S32x8x2048x64, .f32⟩
  | .hbm, ⟨17, _⟩ => ⟨S32x8x2048x2048, .f32⟩
  | .hbm, ⟨18, _⟩ => ⟨S65536x128, .f32⟩
  | .hbm, ⟨19, _⟩ => ⟨S32x2048x8x16, .f32⟩
  | .hbm, ⟨20, _⟩ => ⟨S32x8x2048x16, .f32⟩
  | .hbm, ⟨21, _⟩ => ⟨S65536x128, .f32⟩
  | .hbm, ⟨22, _⟩ => ⟨S32x2048x8x16, .f32⟩
  | .hbm, ⟨23, _⟩ => ⟨S32x8x2048x16, .f32⟩
  | .hbm, ⟨24, _⟩ => ⟨S32x8x2048x2048, .f32⟩
  | .hbm, ⟨25, _⟩ => ⟨S32x8x2048x2048, .f32⟩
  | .hbm, ⟨26, _⟩ => ⟨S_, .f32⟩
  | .hbm, ⟨27, _⟩ => ⟨S_, .f32⟩
  | .hbm, ⟨28, _⟩ => ⟨S32x8x2048x2048, .f32⟩
  | .hbm, ⟨29, _⟩ => ⟨S32x8x2048x2048, .f32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S1x2048, .i32⟩
  | .hbm, ⟨34, _⟩ => ⟨S2048x2048, .i32⟩
  | .hbm, ⟨35, _⟩ => ⟨S2048x2048, .i32⟩
  | .hbm, ⟨36, _⟩ => ⟨S2048x2048, .i1⟩
  | .hbm, ⟨37, _⟩ => ⟨S_, .f32⟩
  | .hbm, ⟨38, _⟩ => ⟨S_, .f32⟩
  | .hbm, ⟨39, _⟩ => ⟨S32x8x2048x2048, .i1⟩
  | .hbm, ⟨40, _⟩ => ⟨S32x8x2048x2048, .f32⟩
  | .hbm, ⟨41, _⟩ => ⟨S32x8x2048x2048, .f32⟩
  | .hbm, ⟨42, _⟩ => ⟨S_, .f32⟩
  | .hbm, ⟨43, _⟩ => ⟨S32x8x2048, .f32⟩
  | .hbm, ⟨44, _⟩ => ⟨S_, .f32⟩
  | .hbm, ⟨45, _⟩ => ⟨S32x8x2048, .f32⟩
  | .hbm, ⟨46, _⟩ => ⟨S32x8x2048, .f32⟩
  | .hbm, ⟨47, _⟩ => ⟨S32x8x2048x1, .f32⟩
  | .hbm, ⟨48, _⟩ => ⟨S32x8x2048x2048, .f32⟩
  | .hbm, ⟨49, _⟩ => ⟨S32x8x2048x2048, .f32⟩
  | .hbm, ⟨50, _⟩ => ⟨S32x8x2048x2048, .f32⟩
  | .hbm, ⟨51, _⟩ => ⟨S_, .f32⟩
  | .hbm, ⟨52, _⟩ => ⟨S32x8x2048, .f32⟩
  | .hbm, ⟨53, _⟩ => ⟨S32x8x2048x1, .f32⟩
  | .hbm, ⟨54, _⟩ => ⟨S32x8x2048x2048, .f32⟩
  | .hbm, ⟨55, _⟩ => ⟨S32x8x2048x2048, .f32⟩
  | .hbm, ⟨56, _⟩ => ⟨S32x8x2048x64, .f32⟩
  | .hbm, ⟨57, _⟩ => ⟨S32x4x2x2048x64, .f32⟩
  | .hbm, ⟨58, _⟩ => ⟨S32x4x2048x2x64, .f32⟩
  | .hbm, ⟨59, _⟩ => ⟨S32x4x2048x128, .f32⟩
  | .hbm, ⟨60, _⟩ => ⟨S32x4x2048x128, .bf16⟩
  | _, _ => ⟨S32x4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩

abbrev nD : Nat := 1
abbrev τ : Topo := Topo.v7x

variable {F : FTy → Type} [FloatOps F]
-- ==== Ffa.lean ====
abbrev S32x2048x1024 : Shape := ⟨3, ![32, 2048, 1024]⟩
abbrev S32x9x1024 : Shape := ⟨3, ![32, 9, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S2816x1024 : Shape := ⟨2, ![2816, 1024]⟩
abbrev S1024x2816 : Shape := ⟨2, ![1024, 2816]⟩
abbrev S65536x1024 : Shape := ⟨2, ![65536, 1024]⟩
abbrev S1x1024 : Shape := ⟨2, ![1, 1024]⟩
abbrev S1024x1024 : Shape := ⟨2, ![1024, 1024]⟩
abbrev S1x9x1024 : Shape := ⟨3, ![1, 9, 1024]⟩
abbrev S2x512x2816 : Shape := ⟨3, ![2, 512, 2816]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩

abbrev nBuf : Space → Nat
  | .hbm => 23
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1024, .f32⟩
  | .hbm, ⟨3, _⟩ => ⟨S1024, .f32⟩
  | .hbm, ⟨4, _⟩ => ⟨S1024x2752, .f32⟩
  | .hbm, ⟨5, _⟩ => ⟨S1024x2752, .f32⟩
  | .hbm, ⟨6, _⟩ => ⟨S2752x1024, .f32⟩
  | .hbm, ⟨7, _⟩ => ⟨S2752x1024, .bf16⟩
  | .hbm, ⟨8, _⟩ => ⟨S_, .i32⟩
  | .hbm, ⟨9, _⟩ => ⟨S_, .bf16⟩
  | .hbm, ⟨10, _⟩ => ⟨S2816x1024, .bf16⟩
  | .hbm, ⟨11, _⟩ => ⟨S1024x2752, .bf16⟩
  | .hbm, ⟨12, _⟩ => ⟨S_, .i32⟩
  | .hbm, ⟨13, _⟩ => ⟨S_, .bf16⟩
  | .hbm, ⟨14, _⟩ => ⟨S1024x2816, .bf16⟩
  | .hbm, ⟨15, _⟩ => ⟨S1024x2752, .bf16⟩
  | .hbm, ⟨16, _⟩ => ⟨S_, .i32⟩
  | .hbm, ⟨17, _⟩ => ⟨S_, .bf16⟩
  | .hbm, ⟨18, _⟩ => ⟨S1024x2816, .bf16⟩
  | .hbm, ⟨19, _⟩ => ⟨S65536x1024, .f32⟩
  | .hbm, ⟨20, _⟩ => ⟨S1x1024, .f32⟩
  | .hbm, ⟨21, _⟩ => ⟨S1x1024, .f32⟩
  | .hbm, ⟨22, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1024x1024, .f32⟩
  | .local _ .vmem, ⟨10, _⟩ => ⟨S1024x1024, .f32⟩
  | .local _ .vmem, ⟨11, _⟩ => ⟨S2x512x2816, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_call2_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfaRefIdeal.lean ====
abbrev S32x2048x1024 : Shape := ⟨3, ![32, 2048, 1024]⟩
abbrev S32x9x1024 : Shape := ⟨3, ![32, 9, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x1024 : Shape := ⟨2, ![32, 1024]⟩
abbrev S32x2048x2752 : Shape := ⟨3, ![32, 2048, 2752]⟩
abbrev S65536x1024 : Shape := ⟨2, ![65536, 1024]⟩

abbrev nBuf : Space → Nat
  | .hbm => 75
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x9x1024, .f32⟩
  | .hbm, ⟨2, _⟩ => ⟨S1024, .f32⟩
  | .hbm, ⟨3, _⟩ => ⟨S1024, .f32⟩
  | .hbm, ⟨4, _⟩ => ⟨S1024x2752, .f32⟩
  | .hbm, ⟨5, _⟩ => ⟨S1024x2752, .f32⟩
  | .hbm, ⟨6, _⟩ => ⟨S2752x1024, .f32⟩
  | .hbm, ⟨7, _⟩ => ⟨S32x2048x1024, .f32⟩
  | .hbm, ⟨8, _⟩ => ⟨S_, .f32⟩
  | .hbm, ⟨9, _⟩ => ⟨S32x2048, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S_, .f32⟩
  | .hbm, ⟨15, _⟩ => ⟨S32x2048x1, .f32⟩
  | .hbm, ⟨16, _⟩ => ⟨S32x2048x1, .f32⟩
  | .hbm, ⟨17, _⟩ => ⟨S32x2048x1, .f32⟩
  | .hbm, ⟨18, _⟩ => ⟨S32x2048x1024, .f32⟩
  | .hbm, ⟨19, _⟩ => ⟨S32x2048x1024, .f32⟩
  | .hbm, ⟨20, _⟩ => ⟨S1x1x1024, .f32⟩
  | .hbm, ⟨21, _⟩ => ⟨S32x2048x1024, .f32⟩
  | .hbm, ⟨22, _⟩ => ⟨S32x2048x1024, .f32⟩
  | .hbm, ⟨23, _⟩ => ⟨S32x1x1024, .f32⟩
  | .hbm, ⟨24, _⟩ => ⟨S32x1024, .f32⟩
  | .hbm, ⟨25, _⟩ => ⟨S32x1x1024, .f32⟩
  | .hbm, ⟨26, _⟩ => ⟨S_, .f32⟩
  | .hbm, ⟨27, _⟩ => ⟨S32x1x1024, .f32⟩
  | .hbm, ⟨28, _⟩ => ⟨S32x1x1024, .f32⟩
  | .hbm, ⟨29, _⟩ => ⟨S32x2048x1024, .f32⟩
  | .hbm, ⟨30, _⟩ => ⟨S32x2048x1024, .f32⟩
  | .hbm, ⟨31, _⟩ => ⟨S32x1x1024, .f32⟩
  | .hbm, ⟨32, _⟩ => ⟨S32x1024, .f32⟩
  | .hbm, ⟨33, _⟩ => ⟨S32x1x1024, .f32⟩
  | .hbm, ⟨34, _⟩ => ⟨S32x2048x1024, .f32⟩
  | .hbm, ⟨35, _⟩ => ⟨S32x2048x1024, .f32⟩
  | .hbm, ⟨36, _⟩ => ⟨S32x2048x2752, .f32⟩
  | .hbm, ⟨37, _⟩ => ⟨S32x2048x2752, .f32⟩
  | .hbm, ⟨38, _⟩ => ⟨S32x2048x2752, .f32⟩
  | .hbm, ⟨39, _⟩ => ⟨S_, .f32⟩
  | .hbm, ⟨40, _⟩ => ⟨S32x2048x2752, .f32⟩
  | .hbm, ⟨41, _⟩ => ⟨S32x2048x2752, .f32⟩
  | .hbm, ⟨42, _⟩ => ⟨S_, .f32⟩
  | .hbm, ⟨43, _⟩ => ⟨S32x2048x2752, .f32⟩
  | .hbm, ⟨44, _⟩ => ⟨S32x2048x2752, .f32⟩
  | .hbm, ⟨45, _⟩ => ⟨S32x2048x2752, .f32⟩
  | .hbm, ⟨46, _⟩ => ⟨S32x2048x2752, .f32⟩
  | .hbm, ⟨47, _⟩ => ⟨S32x2048x2752, .f32⟩
  | .hbm, ⟨48, _⟩ => ⟨S32x2048x1024, .f32⟩
  | .hbm, ⟨49, _⟩ => ⟨S32x2048x1024, .f32⟩
  | .hbm, ⟨50, _⟩ => ⟨S_, .f32⟩
  | .hbm, ⟨51, _⟩ => ⟨S32x2048, .f32⟩
  | .hbm, ⟨52, _⟩ => ⟨S32x2048x1, .f32⟩
  | .hbm, ⟨53, _⟩ => ⟨S_, .f32⟩
  | .hbm, ⟨54, _⟩ => ⟨S32x2048x1, .f32⟩
  | .hbm, ⟨55, _⟩ => ⟨S32x2048x1, .f32⟩
  | .hbm, ⟨56, _⟩ => ⟨S_, .f32⟩
  | .hbm, ⟨57, _⟩ => ⟨S32x2048x1, .f32⟩
  | .hbm, ⟨58, _⟩ => ⟨S32x2048x1, .f32⟩
  | .hbm, ⟨59, _⟩ => ⟨S32x2048x1, .f32⟩
  | .hbm, ⟨60, _⟩ => ⟨S32x2048x1024, .f32⟩
  | .hbm, ⟨61, _⟩ => ⟨S32x2048x1024, .f32⟩
  | .hbm, ⟨62, _⟩ => ⟨S1x1x1024, .f32⟩
  | .hbm, ⟨63, _⟩ => ⟨S32x2048x1024, .f32⟩
  | .hbm, ⟨64, _⟩ => ⟨S32x2048x1024, .f32⟩
  | .hbm, ⟨65, _⟩ => ⟨S32x1x1024, .f32⟩
  | .hbm, ⟨66, _⟩ => ⟨S32x1024, .f32⟩
  | .hbm, ⟨67, _⟩ => ⟨S32x1x1024, .f32⟩
  | .hbm, ⟨68, _⟩ => ⟨S_, .f32⟩
  | .hbm, ⟨69, _⟩ => ⟨S32x1x1024, .f32⟩
  | .hbm, ⟨70, _⟩ => ⟨S32x1x1024, .f32⟩
  | .hbm, ⟨71, _⟩ => ⟨S32x2048x1024, .f32⟩
  | .hbm, ⟨72, _⟩ => ⟨S32x2048x1024, .f32⟩
  | .hbm, ⟨73, _⟩ => ⟨S32x2048x1024, .f32⟩
  | .hbm, ⟨74, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]
-- ==== Ffb.lean ====
abbrev S32x4x2048x128 : Shape := ⟨4, ![32, 4, 2048, 128]⟩
abbrev S512 : Shape := ⟨1, ![512]⟩
abbrev S1024x1024 : Shape := ⟨2, ![1024, 1024]⟩
abbrev S1024 : Shape := ⟨1, ![1024]⟩
abbrev S32x2048x1024 : Shape := ⟨3, ![32, 2048, 1024]⟩
abbrev S32x9x1024 : Shape := ⟨3, ![32, 9, 1024]⟩
abbrev S1024x2752 : Shape := ⟨2, ![1024, 2752]⟩
abbrev S2752x1024 : Shape := ⟨2, ![2752, 1024]⟩
abbrev S_ : Shape := ⟨0, ![]⟩
abbrev S2816x1024 : Shape := ⟨2, ![2816, 1024]⟩
abbrev S1024x2816 : Shape := ⟨2, ![1024, 2816]⟩
abbrev S1x512 : Shape := ⟨2, ![1, 512]⟩
abbrev S1x1024 : Shape := ⟨2, ![1, 1024]⟩
abbrev S65536x1024 : Shape := ⟨2, ![65536, 1024]⟩
abbrev S1x4x1024x128 : Shape := ⟨4, ![1, 4, 1024, 128]⟩
abbrev S1x9x1024 : Shape := ⟨3, ![1, 9, 1024]⟩
abbrev S2x512x2816 : Shape := ⟨3, ![2, 512, 2816]⟩
abbrev S1x1x1024 : Shape := ⟨3, ![1, 1, 1024]⟩
abbrev S512x1024 : Shape := ⟨2, ![512, 1024]⟩
abbrev S1x1x512x128 : Shape := ⟨4, ![1, 1, 512, 128]⟩
abbrev S512x128 : Shape := ⟨2, ![512, 128]⟩
abbrev S512x512 : Shape := ⟨2, ![512, 512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S1x512x2816 : Shape := ⟨3, ![1, 512, 2816]⟩
abbrev S512x2816 : Shape := ⟨2, ![512, 2816]⟩

abbrev nBuf : Space → Nat
  | .hbm => 33
  | .vmem => 20
  | .smem => 0
  | _ => 0

abbrev bufTy : (tb : Table) → Fin (tcTables nBuf tb) → BufTy
  | .hbm, ⟨0, _⟩ => ⟨S32x4x2048x128, .bf16⟩
  | .hbm, ⟨1, _⟩ => ⟨S32x4x2048x128, .bf16⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S32x2048x1024, .f32⟩
  | .hbm, ⟨7, _⟩ => ⟨S32x9x1024, .f32⟩
  | .hbm, ⟨8, _⟩ => ⟨S1024, .f32⟩
  | .hbm, ⟨9, _⟩ => ⟨S1024, .f32⟩
  | .hbm, ⟨10, _⟩ => ⟨S1024x2752, .f32⟩
  | .hbm, ⟨11, _⟩ => ⟨S1024x2752, .f32⟩
  | .hbm, ⟨12, _⟩ => ⟨S2752x1024, .f32⟩
  | .hbm, ⟨13, _⟩ => ⟨S2752x1024, .bf16⟩
  | .hbm, ⟨14, _⟩ => ⟨S_, .i32⟩
  | .hbm, ⟨15, _⟩ => ⟨S_, .bf16⟩
  | .hbm, ⟨16, _⟩ => ⟨S2816x1024, .bf16⟩
  | .hbm, ⟨17, _⟩ => ⟨S1024x2752, .bf16⟩
  | .hbm, ⟨18, _⟩ => ⟨S_, .i32⟩
  | .hbm, ⟨19, _⟩ => ⟨S_, .bf16⟩
  | .hbm, ⟨20, _⟩ => ⟨S1024x2816, .bf16⟩
  | .hbm, ⟨21, _⟩ => ⟨S1024x2752, .bf16⟩
  | .hbm, ⟨22, _⟩ => ⟨S_, .i32⟩
  | .hbm, ⟨23, _⟩ => ⟨S_, .bf16⟩
  | .hbm, ⟨24, _⟩ => ⟨S1024x2816, .bf16⟩
  | .hbm, ⟨25, _⟩ => ⟨S1x512, .f32⟩
  | .hbm, ⟨26, _⟩ => ⟨S1x512, .f32⟩
  | .hbm, ⟨27, _⟩ => ⟨S1024x1024, .bf16⟩
  | .hbm, ⟨28, _⟩ => ⟨S1x1024, .f32⟩
  | .hbm, ⟨29, _⟩ => ⟨S65536x1024, .f32⟩
  | .hbm, ⟨30, _⟩ => ⟨S1x1024, .f32⟩
  | .hbm, ⟨31, _⟩ => ⟨S1x1024, .f32⟩
  | .hbm, ⟨32, _⟩ => ⟨S65536x1024, .f32⟩
  | .local _ .vmem, ⟨0, _⟩ => ⟨S1x4x1024x128, .bf16⟩
  | .local _ .vmem, ⟨1, _⟩ => ⟨S1x4x1024x128, .bf16⟩
  | .local _ .vmem, ⟨2, _⟩ => ⟨S1x4x1024x128, .bf16⟩
  | .local _ .vmem, ⟨3, _⟩ => ⟨S1x4x1024x128, .bf16⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1x9x1024, .f32⟩
  | .local _ .vmem, ⟨11, _⟩ => ⟨S1x9x1024, .f32⟩
  | .local _ .vmem, ⟨12, _⟩ => ⟨S1x1024, .f32⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1024x1024, .f32⟩
  | .local _ .vmem, ⟨18, _⟩ => ⟨S1024x1024, .f32⟩
  | .local _ .vmem, ⟨19, _⟩ => ⟨S2x512x2816, .bf16⟩
  | _, _ => ⟨S32x4x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_c_1 : Ref sig .tc := ⟨.hbm, 22, rfl⟩
abbrev main_call2_v0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x9x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfbRefIdeal.lean ====
abbrev S32x4x2048x128 : Shape := ⟨4, ![32, 4, 2048, 128]⟩
abbrev S512 : Shape := ⟨1, ![512]⟩
abbrev S1024x1024 : Shape := ⟨2, ![1024, 1024]⟩
abbrev S1024 : Shape := ⟨1, ![1024]⟩
abbrev S32x2048x1024 : Shape := ⟨3, ![32, 2048, 1024]⟩
abbrev S32x9x1024 : Shape := ⟨3, ![32, 9, 1024]⟩
abbrev S1024x2752 : Shape := ⟨2, ![1024, 2752]⟩
abbrev S2752x1024 : Shape := ⟨2, ![2752, 1024]⟩
abbrev S32x2048x4x128 : Shape := ⟨4, ![32, 2048, 4, 128]⟩
abbrev S32x2048x512 : Shape := ⟨3, ![32, 2048, 512]⟩
abbrev S_ : Shape := ⟨0, ![]⟩
abbrev S32x2048 : Shape := ⟨2, ![32, 2048]⟩
abbrev S32x2048x1 : Shape := ⟨3, ![32, 2048, 1]⟩
abbrev S1x1x512 : Shape := ⟨3, ![1, 1, 512]⟩
abbrev S32x1x1024 : Shape := ⟨3, ![32, 1, 1024]⟩
abbrev S32x1024 : Shape := ⟨2, ![32, 1024]⟩
abbrev S1x1x1024 : Shape := ⟨3, ![1, 1, 1024]⟩
abbrev S32x2048x2752 : Shape := ⟨3, ![32, 2048, 2752]⟩
abbrev S65536x1024 : Shape := ⟨2, ![65536, 1024]⟩

abbrev nBuf : Space → Nat
  | .hbm => 143
  | .vmem => 0
  | .smem => 0
  | _ => 0

abbrev hbmTy0_0 (i : Nat) : BufTy := match i % 128 with
  | 0 => ⟨S32x4x2048x128, .bf16⟩
  | 1 => ⟨S32x4x2048x128, .bf16⟩
  | 2 => ⟨S512, .f32⟩
  | 3 => ⟨S512, .f32⟩
  | 4 => ⟨S1024x1024, .f32⟩
  | 5 => ⟨S1024, .f32⟩
  | 6 => ⟨S32x2048x1024, .f32⟩
  | 7 => ⟨S32x9x1024, .f32⟩
  | 8 => ⟨S1024, .f32⟩
  | 9 => ⟨S1024, .f32⟩
  | 10 => ⟨S1024x2752, .f32⟩
  | 11 => ⟨S1024x2752, .f32⟩
  | 12 => ⟨S2752x1024, .f32⟩
  | 13 => ⟨S32x4x2048x128, .f32⟩
  | 14 => ⟨S32x2048x4x128, .f32⟩
  | 15 => ⟨S32x2048x512, .f32⟩
  | 16 => ⟨S32x2048x512, .f32⟩
  | 17 => ⟨S_, .f32⟩
  | 18 => ⟨S32x2048, .f32⟩
  | 19 => ⟨S32x2048x1, .f32⟩
  | 20 => ⟨S_, .f32⟩
  | 21 => ⟨S32x2048x1, .f32⟩
  | 22 => ⟨S32x2048x1, .f32⟩
  | 23 => ⟨S_, .f32⟩
  | 24 => ⟨S32x2048x1, .f32⟩
  | 25 => ⟨S32x2048x1, .f32⟩
  | 26 => ⟨S32x2048x1, .f32⟩
  | 27 => ⟨S32x2048x512, .f32⟩
  | 28 => ⟨S32x2048x512, .f32⟩
  | 29 => ⟨S1x1x512, .f32⟩
  | 30 => ⟨S32x2048x512, .f32⟩
  | 31 => ⟨S32x2048x512, .f32⟩
  | 32 => ⟨S32x4x2048x128, .f32⟩
  | 33 => ⟨S32x2048x4x128, .f32⟩
  | 34 => ⟨S32x2048x512, .f32⟩
  | 35 => ⟨S32x2048x512, .f32⟩
  | 36 => ⟨S_, .f32⟩
  | 37 => ⟨S32x2048, .f32⟩
  | 38 => ⟨S32x2048x1, .f32⟩
  | 39 => ⟨S_, .f32⟩
  | 40 => ⟨S32x2048x1, .f32⟩
  | 41 => ⟨S32x2048x1, .f32⟩
  | 42 => ⟨S_, .f32⟩
  | 43 => ⟨S32x2048x1, .f32⟩
  | 44 => ⟨S32x2048x1, .f32⟩
  | 45 => ⟨S32x2048x1, .f32⟩
  | 46 => ⟨S32x2048x512, .f32⟩
  | 47 => ⟨S32x2048x512, .f32⟩
  | 48 => ⟨S1x1x512, .f32⟩
  | 49 => ⟨S32x2048x512, .f32⟩
  | 50 => ⟨S32x2048x512, .f32⟩
  | 51 => ⟨S32x2048x1024, .f32⟩
  | 52 => ⟨S32x1x1024, .f32⟩
  | 53 => ⟨S32x1024, .f32⟩
  | 54 => ⟨S32x1x1024, .f32⟩
  | 55 => ⟨S32x2048x1024, .f32⟩
  | 56 => ⟨S32x2048x1024, .f32⟩
  | 57 => ⟨S_, .f32⟩
  | 58 => ⟨S32x2048, .f32⟩
  | 59 => ⟨S32x2048x1, .f32⟩
  | 60 => ⟨S_, .f32⟩
  | 61 => ⟨S32x2048x1, .f32⟩
  | 62 => ⟨S32x2048x1, .f32⟩
  | 63 => ⟨S_, .f32⟩
  | 64 => ⟨S32x2048x1, .f32⟩
  | 65 => ⟨S32x2048x1, .f32⟩
  | 66 => ⟨S32x2048x1, .f32⟩
  | 67 => ⟨S32x2048x1024, .f32⟩
  | 68 => ⟨S32x2048x1024, .f32⟩
  | 69 => ⟨S1x1x1024, .f32⟩
  | 70 => ⟨S32x2048x1024, .f32⟩
  | 71 => ⟨S32x2048x1024, .f32⟩
  | 72 => ⟨S32x2048x1024, .f32⟩
  | 73 => ⟨S32x2048x1024, .f32⟩
  | 74 => ⟨S32x2048x1024, .f32⟩
  | 75 => ⟨S32x2048x1024, .f32⟩
  | 76 => ⟨S_, .f32⟩
  | 77 => ⟨S32x2048, .f32⟩
  | 78 => ⟨S32x2048x1, .f32⟩
  | 79 => ⟨S_, .f32⟩
  | 80 => ⟨S32x2048x1, .f32⟩
  | 81 => ⟨S32x2048x1, .f32⟩
  | 82 => ⟨S_, .f32⟩
  | 83 => ⟨S32x2048x1, .f32⟩
  | 84 => ⟨S32x2048x1, .f32⟩
  | 85 => ⟨S32x2048x1, .f32⟩
  | 86 => ⟨S32x2048x1024, .f32⟩
  | 87 => ⟨S32x2048x1024, .f32⟩
  | 88 => ⟨S1x1x1024, .f32⟩
  | 89 => ⟨S32x2048x1024, .f32⟩
  | 90 => ⟨S32x2048x1024, .f32⟩
  | 91 => ⟨S32x1x1024, .f32⟩
  | 92 => ⟨S32x1024, .f32⟩
  | 93 => ⟨S32x1x1024, .f32⟩
  | 94 => ⟨S_, .f32⟩
  | 95 => ⟨S32x1x1024, .f32⟩
  | 96 => ⟨S32x1x1024, .f32⟩
  | 97 => ⟨S32x2048x1024, .f32⟩
  | 98 => ⟨S32x2048x1024, .f32⟩
  | 99 => ⟨S32x1x1024, .f32⟩
  | 100 => ⟨S32x1024, .f32⟩
  | 101 => ⟨S32x1x1024, .f32⟩
  | 102 => ⟨S32x2048x1024, .f32⟩
  | 103 => ⟨S32x2048x1024, .f32⟩
  | 104 => ⟨S32x2048x2752, .f32⟩
  | 105 => ⟨S32x2048x2752, .f32⟩
  | 106 => ⟨S32x2048x2752, .f32⟩
  | 107 => ⟨S_, .f32⟩
  | 108 => ⟨S32x2048x2752, .f32⟩
  | 109 => ⟨S32x2048x2752, .f32⟩
  | 110 => ⟨S_, .f32⟩
  | 111 => ⟨S32x2048x2752, .f32⟩
  | 112 => ⟨S32x2048x2752, .f32⟩
  | 113 => ⟨S32x2048x2752, .f32⟩
  | 114 => ⟨S32x2048x2752, .f32⟩
  | 115 => ⟨S32x2048x2752, .f32⟩
  | 116 => ⟨S32x2048x1024, .f32⟩
  | 117 => ⟨S32x2048x1024, .f32⟩
  | 118 => ⟨S_, .f32⟩
  | 119 => ⟨S32x2048, .f32⟩
  | 120 => ⟨S32x2048x1, .f32⟩
  | 121 => ⟨S_, .f32⟩
  | 122 => ⟨S32x2048x1, .f32⟩
  | 123 => ⟨S32x2048x1, .f32⟩
  | 124 => ⟨S_, .f32⟩
  | 125 => ⟨S32x2048x1, .f32⟩
  | 126 => ⟨S32x2048x1, .f32⟩
  | 127 => ⟨S32x2048x1, .f32⟩
  | _ => ⟨S32x4x2048x128, .bf16⟩

abbrev hbmTy0_1 (i : Nat) : BufTy := match i % 128 with
  | 0 => ⟨S32x2048x1024, .f32⟩
  | 1 => ⟨S32x2048x1024, .f32⟩
  | 2 => ⟨S1x1x1024, .f32⟩
  | 3 => ⟨S32x2048x1024, .f32⟩
  | 4 => ⟨S32x2048x1024, .f32⟩
  | 5 => ⟨S32x1x1024, .f32⟩
  | 6 => ⟨S32x1024, .f32⟩
  | 7 => ⟨S32x1x1024, .f32⟩
  | 8 => ⟨S_, .f32⟩
  | 9 => ⟨S32x1x1024, .f32⟩
  | 10 => ⟨S32x1x1024, .f32⟩
  | 11 => ⟨S32x2048x1024, .f32⟩
  | 12 => ⟨S32x2048x1024, .f32⟩
  | 13 => ⟨S32x2048x1024, .f32⟩
  | 14 => ⟨S65536x1024, .f32⟩
  | _ => ⟨S32x4x2048x128, .bf16⟩

abbrev hbmTy (i : Nat) : BufTy := match i / 128 with
  | 0 => hbmTy0_0 i
  | 1 => hbmTy0_1 i
  | _ => ⟨S32x4x2048x128, .bf16⟩

abbrev bufTy : (tb : Table) → Fin (tcTables nBuf tb) → BufTy
  | .hbm, ⟨i, _⟩ => hbmTy i
  | _, _ => ⟨S32x4x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call0_v0 : Ref sig .tc := ⟨.hbm, 105, rfl⟩
abbrev main_call0_v1 : Ref sig .tc := ⟨.hbm, 106, rfl⟩
abbrev main_call0_cst : Ref sig .tc := ⟨.hbm, 107, rfl⟩
abbrev main_call0_v2 : Ref sig .tc := ⟨.hbm, 108, rfl⟩
abbrev main_call0_v3 : Ref sig .tc := ⟨.hbm, 109, rfl⟩
abbrev main_call0_cst_0 : Ref sig .tc := ⟨.hbm, 110, rfl⟩
abbrev main_call0_v4 : Ref sig .tc := ⟨.hbm, 111, rfl⟩
abbrev main_call0_v5 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_12 : Ref sig .tc := ⟨.hbm, 118, rfl⟩
abbrev main_v84 : Ref sig .tc := ⟨.hbm, 119, rfl⟩
abbrev main_v85 : Ref sig .tc := ⟨.hbm, 120, rfl⟩
abbrev main_cst_13 : Ref sig .tc := ⟨.hbm, 121, rfl⟩
abbrev main_v86 : Ref sig .tc := ⟨.hbm, 122, rfl⟩
abbrev main_v87 : Ref sig .tc := ⟨.hbm, 123, rfl⟩
abbrev main_cst_14 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_15 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== Prj.lean ====
abbrev S32x2048x1024 : Shape := ⟨3, ![32, 2048, 1024]⟩
abbrev S32x9x1024 : Shape := ⟨3, ![32, 9, 1024]⟩
abbrev S1024 : Shape := ⟨1, ![1024]⟩
abbrev S32x2048 : Shape := ⟨2, ![32, 2048]⟩
abbrev S1024x3080 : Shape := ⟨2, ![1024, 3080]⟩
abbrev S8 : Shape := ⟨1, ![8]⟩
abbrev S48x384 : Shape := ⟨2, ![48, 384]⟩
abbrev S_ : Shape := ⟨0, ![]⟩
abbrev S1x384 : Shape := ⟨2, ![1, 384]⟩
abbrev S512x512 : Shape := ⟨2, ![512, 512]⟩
abbrev S128x128 : Shape := ⟨2, ![128, 128]⟩
abbrev S1x128 : Shape := ⟨2, ![1, 128]⟩
abbrev S8x1 : Shape := ⟨2, ![8, 1]⟩
abbrev S1024x8 : Shape := ⟨2, ![1024, 8]⟩
abbrev S1x1024x1x8 : Shape := ⟨4, ![1, 1024, 1, 8]⟩
abbrev S1x1024x3x8 : Shape := ⟨4, ![1, 1024, 3, 8]⟩
abbrev S1024x24 : Shape := ⟨2, ![1024, 24]⟩
abbrev S1024x128 : Shape := ⟨2, ![1024, 128]⟩
abbrev S1x8 : Shape := ⟨2, ![1, 8]⟩
abbrev S3x8 : Shape := ⟨2, ![3, 8]⟩
abbrev S24 : Shape := ⟨1, ![24]⟩
abbrev S128 : Shape := ⟨1, ![128]⟩
abbrev S65536x1024 : Shape := ⟨2, ![65536, 1024]⟩
abbrev S1x1024 : Shape := ⟨2, ![1, 1024]⟩
abbrev S32x1x2048 : Shape := ⟨3, ![32, 1, 2048]⟩
abbrev S32x4x2048x128 : Shape := ⟨4, ![32, 4, 2048, 128]⟩
abbrev S65536x128 : Shape := ⟨2, ![65536, 128]⟩
abbrev S1024x1024 : Shape := ⟨2, ![1024, 1024]⟩
abbrev S1x9x1024 : Shape := ⟨3, ![1, 9, 1024]⟩
abbrev S1x1x1024 : Shape := ⟨3, ![1, 1, 1024]⟩
abbrev S1x4x1024x128 : Shape := ⟨4, ![1, 4, 1024, 128]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x512 : Shape := ⟨2, ![1024, 512]⟩
abbrev S1x1x512x128 : Shape := ⟨4, ![1, 1, 512, 128]⟩
abbrev S1x1x512 : Shape := ⟨3, ![1, 1, 512]⟩
abbrev S1x512 : Shape := ⟨2, ![1, 512]⟩
abbrev S8x512 : Shape := ⟨2, ![8, 512]⟩
abbrev S16x512 : Shape := ⟨2, ![16, 512]⟩
abbrev S48x512 : Shape := ⟨2, ![48, 512]⟩
abbrev S512x384 : Shape := ⟨2, ![512, 384]⟩

abbrev nBuf : Space → Nat
  | .hbm => 200
  | .vmem => 35
  | .smem => 0
  | _ => 0

abbrev hbmTy0_0 (i : Nat) : BufTy := match i % 128 with
  | 0 => ⟨S32x2048x1024, .f32⟩
  | 1 => ⟨S32x9x1024, .f32⟩
  | 2 => ⟨S1024, .f32⟩
  | 3 => ⟨S32x2048, .i32⟩
  | 4 => ⟨S1024x3080, .f32⟩
  | 5 => ⟨S8, .f32⟩
  | 6 => ⟨S48x384, .i32⟩
  | 7 => ⟨S_, .i32⟩
  | 8 => ⟨S48x384, .i32⟩
  | 9 => ⟨S48x384, .i32⟩
  | 10 => ⟨S48x384, .i32⟩
  | 11 => ⟨S_, .i32⟩
  | 12 => ⟨S48x384, .i32⟩
  | 13 => ⟨S48x384, .i32⟩
  | 14 => ⟨S_, .i32⟩
  | 15 => ⟨S48x384, .i32⟩
  | 16 => ⟨S48x384, .i32⟩
  | 17 => ⟨S_, .i32⟩
  | 18 => ⟨S48x384, .i32⟩
  | 19 => ⟨S48x384, .i1⟩
  | 20 => ⟨S_, .i32⟩
  | 21 => ⟨S48x384, .i32⟩
  | 22 => ⟨S48x384, .i1⟩
  | 23 => ⟨S48x384, .i1⟩
  | 24 => ⟨S_, .i32⟩
  | 25 => ⟨S48x384, .i32⟩
  | 26 => ⟨S48x384, .i32⟩
  | 27 => ⟨S48x384, .i1⟩
  | 28 => ⟨S48x384, .i1⟩
  | 29 => ⟨S_, .i32⟩
  | 30 => ⟨S48x384, .i32⟩
  | 31 => ⟨S48x384, .i1⟩
  | 32 => ⟨S_, .i32⟩
  | 33 => ⟨S48x384, .i32⟩
  | 34 => ⟨S48x384, .i1⟩
  | 35 => ⟨S48x384, .i1⟩
  | 36 => ⟨S_, .i32⟩
  | 37 => ⟨S48x384, .i32⟩
  | 38 => ⟨S48x384, .i32⟩
  | 39 => ⟨S48x384, .i1⟩
  | 40 => ⟨S48x384, .i1⟩
  | 41 => ⟨S_, .i32⟩
  | 42 => ⟨S48x384, .i32⟩
  | 43 => ⟨S48x384, .i1⟩
  | 44 => ⟨S_, .i32⟩
  | 45 => ⟨S48x384, .i32⟩
  | 46 => ⟨S48x384, .i1⟩
  | 47 => ⟨S48x384, .i1⟩
  | 48 => ⟨S48x384, .i1⟩
  | 49 => ⟨S48x384, .i1⟩
  | 50 => ⟨S_, .f32⟩
  | 51 => ⟨S_, .f32⟩
  | 52 => ⟨S48x384, .f32⟩
  | 53 => ⟨S48x384, .f32⟩
  | 54 => ⟨S48x384, .f32⟩
  | 55 => ⟨S_, .f32⟩
  | 56 => ⟨S48x384, .f32⟩
  | 57 => ⟨S48x384, .f32⟩
  | 58 => ⟨S_, .f32⟩
  | 59 => ⟨S48x384, .f32⟩
  | 60 => ⟨S48x384, .f32⟩
  | 61 => ⟨S1x384, .i32⟩
  | 62 => ⟨S_, .i32⟩
  | 63 => ⟨S1x384, .i32⟩
  | 64 => ⟨S1x384, .i1⟩
  | 65 => ⟨S_, .i32⟩
  | 66 => ⟨S1x384, .i32⟩
  | 67 => ⟨S1x384, .i32⟩
  | 68 => ⟨S_, .i32⟩
  | 69 => ⟨S1x384, .i32⟩
  | 70 => ⟨S1x384, .i1⟩
  | 71 => ⟨S1x384, .i1⟩
  | 72 => ⟨S_, .f32⟩
  | 73 => ⟨S_, .f32⟩
  | 74 => ⟨S1x384, .f32⟩
  | 75 => ⟨S1x384, .f32⟩
  | 76 => ⟨S1x384, .f32⟩
  | 77 => ⟨S512x512, .i32⟩
  | 78 => ⟨S512x512, .i32⟩
  | 79 => ⟨S512x512, .i1⟩
  | 80 => ⟨S_, .f32⟩
  | 81 => ⟨S_, .f32⟩
  | 82 => ⟨S512x512, .f32⟩
  | 83 => ⟨S512x512, .f32⟩
  | 84 => ⟨S512x512, .f32⟩
  | 85 => ⟨S128x128, .i32⟩
  | 86 => ⟨S128x128, .i32⟩
  | 87 => ⟨S_, .i32⟩
  | 88 => ⟨S128x128, .i32⟩
  | 89 => ⟨S128x128, .i1⟩
  | 90 => ⟨S_, .i32⟩
  | 91 => ⟨S128x128, .i32⟩
  | 92 => ⟨S128x128, .i32⟩
  | 93 => ⟨S_, .i32⟩
  | 94 => ⟨S128x128, .i32⟩
  | 95 => ⟨S128x128, .i32⟩
  | 96 => ⟨S_, .i32⟩
  | 97 => ⟨S128x128, .i32⟩
  | 98 => ⟨S128x128, .i32⟩
  | 99 => ⟨S128x128, .i32⟩
  | 100 => ⟨S128x128, .i1⟩
  | 101 => ⟨S128x128, .i1⟩
  | 102 => ⟨S_, .f32⟩
  | 103 => ⟨S_, .f32⟩
  | 104 => ⟨S128x128, .f32⟩
  | 105 => ⟨S128x128, .f32⟩
  | 106 => ⟨S128x128, .f32⟩
  | 107 => ⟨S_, .i32⟩
  | 108 => ⟨S128x128, .i32⟩
  | 109 => ⟨S128x128, .i1⟩
  | 110 => ⟨S_, .i32⟩
  | 111 => ⟨S128x128, .i32⟩
  | 112 => ⟨S128x128, .i32⟩
  | 113 => ⟨S_, .i32⟩
  | 114 => ⟨S128x128, .i32⟩
  | 115 => ⟨S128x128, .i32⟩
  | 116 => ⟨S_, .i32⟩
  | 117 => ⟨S128x128, .i32⟩
  | 118 => ⟨S128x128, .i32⟩
  | 119 => ⟨S_, .i32⟩
  | 120 => ⟨S128x128, .i32⟩
  | 121 => ⟨S128x128, .i32⟩
  | 122 => ⟨S128x128, .i32⟩
  | 123 => ⟨S128x128, .i1⟩
  | 124 => ⟨S128x128, .i1⟩
  | 125 => ⟨S_, .f32⟩
  | 126 => ⟨S_, .f32⟩
  | 127 => ⟨S128x128, .f32⟩
  | _ => ⟨S32x2048x1024, .f32⟩

abbrev hbmTy0_1 (i : Nat) : BufTy := match i % 128 with
  | 0 => ⟨S128x128, .f32⟩
  | 1 => ⟨S128x128, .f32⟩
  | 2 => ⟨S1x128, .i32⟩
  | 3 => ⟨S_, .i32⟩
  | 4 => ⟨S1x128, .i32⟩
  | 5 => ⟨S1x128, .i32⟩
  | 6 => ⟨S_, .i32⟩
  | 7 => ⟨S1x128, .i32⟩
  | 8 => ⟨S1x128, .i1⟩
  | 9 => ⟨S_, .i32⟩
  | 10 => ⟨S1x128, .i32⟩
  | 11 => ⟨S1x128, .i1⟩
  | 12 => ⟨S1x128, .i1⟩
  | 13 => ⟨S_, .f32⟩
  | 14 => ⟨S_, .f32⟩
  | 15 => ⟨S1x128, .f32⟩
  | 16 => ⟨S1x128, .f32⟩
  | 17 => ⟨S1x128, .f32⟩
  | 18 => ⟨S_, .i32⟩
  | 19 => ⟨S1x128, .i32⟩
  | 20 => ⟨S1x128, .i1⟩
  | 21 => ⟨S_, .f32⟩
  | 22 => ⟨S_, .f32⟩
  | 23 => ⟨S1x128, .f32⟩
  | 24 => ⟨S1x128, .f32⟩
  | 25 => ⟨S1x128, .f32⟩
  | 26 => ⟨S48x384, .bf16⟩
  | 27 => ⟨S512x512, .bf16⟩
  | 28 => ⟨S128x128, .bf16⟩
  | 29 => ⟨S128x128, .bf16⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S8x1, .f32⟩
  | 45 => ⟨S1024x3080, .bf16⟩
  | 46 => ⟨S1024x8, .f32⟩
  | 47 => ⟨S1x1024x1x8, .f32⟩
  | 48 => ⟨S1x1024x3x8, .f32⟩
  | 49 => ⟨S1024x24, .f32⟩
  | 50 => ⟨S_, .i32⟩
  | 51 => ⟨S_, .f32⟩
  | 52 => ⟨S1024x128, .f32⟩
  | 53 => ⟨S1024x128, .bf16⟩
  | 54 => ⟨S1x8, .f32⟩
  | 55 => ⟨S3x8, .f32⟩
  | 56 => ⟨S24, .f32⟩
  | 57 => ⟨S_, .i32⟩
  | 58 => ⟨S_, .f32⟩
  | 59 => ⟨S128, .f32⟩
  | 60 => ⟨S1x128, .f32⟩
  | 61 => ⟨S65536x1024, .f32⟩
  | 62 => ⟨S1x1024, .f32⟩
  | 63 => ⟨S32x1x2048, .i32⟩
  | 64 => ⟨S32x4x2048x128, .f32⟩
  | 65 => ⟨S32x4x2048x128, .f32⟩
  | 66 => ⟨S32x4x2048x128, .f32⟩
  | 67 => ⟨S32x4x2048x128, .bf16⟩
  | 68 => ⟨S32x4x2048x128, .bf16⟩
  | 69 => ⟨S32x4x2048x128, .bf16⟩
  | 70 => ⟨S65536x128, .bf16⟩
  | 71 => ⟨S65536x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x1024, .f32⟩
  | .local _ .vmem, ⟨5, _⟩ => ⟨S1x1x1024, .i32⟩
  | .local _ .vmem, ⟨6, _⟩ => ⟨S1x1x1024, .i32⟩
  | .local _ .vmem, ⟨7, _⟩ => ⟨S8x1, .f32⟩
  | .local _ .vmem, ⟨8, _⟩ => ⟨S1024x3080, .bf16⟩
  | .local _ .vmem, ⟨9, _⟩ => ⟨S1024x128, .bf16⟩
  | .local _ .vmem, ⟨10, _⟩ => ⟨S1x128, .f32⟩
  | .local _ .vmem, ⟨11, _⟩ => ⟨S48x384, .bf16⟩
  | .local _ .vmem, ⟨12, _⟩ => ⟨S1x384, .f32⟩
  | .local _ .vmem, ⟨13, _⟩ => ⟨S512x512, .bf16⟩
  | .local _ .vmem, ⟨14, _⟩ => ⟨S128x128, .bf16⟩
  | .local _ .vmem, ⟨15, _⟩ => ⟨S128x128, .bf16⟩
  | .local _ .vmem, ⟨16, _⟩ => ⟨S1x128, .f32⟩
  | .local _ .vmem, ⟨17, _⟩ => ⟨S1x128, .f32⟩
  | .local _ .vmem, ⟨18, _⟩ => ⟨S1x4x1024x128, .f32⟩
  | .local _ .vmem, ⟨19, _⟩ => ⟨S1x4x1024x128, .f32⟩
  | .local _ .vmem, ⟨20, _⟩ => ⟨S1x4x1024x128, .f32⟩
  | .local _ .vmem, ⟨21, _⟩ => ⟨S1x4x1024x128, .f32⟩
  | .local _ .vmem, ⟨22, _⟩ => ⟨S1x4x1024x128, .f32⟩
  | .local _ .vmem, ⟨23, _⟩ => ⟨S1x4x1024x128, .f32⟩
  | .local _ .vmem, ⟨24, _⟩ => ⟨S1x4x1024x128, .bf16⟩
  | .local _ .vmem, ⟨25, _⟩ => ⟨S1x4x1024x128, .bf16⟩
  | .local _ .vmem, ⟨26, _⟩ => ⟨S1x4x1024x128, .bf16⟩
  | .local _ .vmem, ⟨27, _⟩ => ⟨S1x4x1024x128, .bf16⟩
  | .local _ .vmem, ⟨28, _⟩ => ⟨S1x4x1024x128, .bf16⟩
  | .local _ .vmem, ⟨29, _⟩ => ⟨S1x4x1024x128, .bf16⟩
  | .local _ .vmem, ⟨30, _⟩ => ⟨S1024x128, .bf16⟩
  | .local _ .vmem, ⟨31, _⟩ => ⟨S1024x128, .bf16⟩
  | .local _ .vmem, ⟨32, _⟩ => ⟨S1024x128, .bf16⟩
  | .local _ .vmem, ⟨33, _⟩ => ⟨S1024x128, .bf16⟩
  | .local _ .vmem, ⟨34, _⟩ => ⟨S1x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_8 : Ref sig .tc := ⟨.hbm, 41, rfl⟩
abbrev main_v26 : Ref sig .tc := ⟨.hbm, 42, rfl⟩
abbrev main_v27 : Ref sig .tc := ⟨.hbm, 43, rfl⟩
abbrev main_c_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst : Ref sig .tc := ⟨.hbm, 50, rfl⟩
abbrev main_cst_10 : Ref sig .tc := ⟨.hbm, 51, rfl⟩
abbrev main_call0_v0 : Ref sig .tc := ⟨.hbm, 52, rfl⟩
abbrev main_call0_v1 : Ref sig .tc := ⟨.hbm, 53, rfl⟩
abbrev main_v33 : Ref sig .tc := ⟨.hbm, 54, rfl⟩
abbrev main_cst_11 : Ref sig .tc := ⟨.hbm, 55, rfl⟩
abbrev main_call1_v0 : Ref sig .tc := ⟨.hbm, 56, rfl⟩
abbrev main_v34 : Ref sig .tc := ⟨.hbm, 57, rfl⟩
abbrev main_cst_12 : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_c_13 : Ref sig .tc := ⟨.hbm, 62, rfl⟩
abbrev main_v37 : Ref sig .tc := ⟨.hbm, 63, rfl⟩
abbrev main_v38 : Ref sig .tc := ⟨.hbm, 64, rfl⟩
abbrev main_c_14 : Ref sig .tc := ⟨.hbm, 65, rfl⟩
abbrev main_v39 : Ref sig .tc := ⟨.hbm, 66, rfl⟩
abbrev main_v40 : Ref sig .tc := ⟨.hbm, 67, rfl⟩
abbrev main_c_15 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_16 : Ref sig .tc := ⟨.hbm, 72, rfl⟩
abbrev main_cst_17 : Ref sig .tc := ⟨.hbm, 73, rfl⟩
abbrev main_call3_v0 : Ref sig .tc := ⟨.hbm, 74, rfl⟩
abbrev main_call3_v1 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_18 : Ref sig .tc := ⟨.hbm, 80, rfl⟩
abbrev main_cst_19 : Ref sig .tc := ⟨.hbm, 81, rfl⟩
abbrev main_call4_v0 : Ref sig .tc := ⟨.hbm, 82, rfl⟩
abbrev main_call4_v1 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_20 : Ref sig .tc := ⟨.hbm, 87, rfl⟩
abbrev main_v51 : Ref sig .tc := ⟨.hbm, 88, rfl⟩
abbrev main_v52 : Ref sig .tc := ⟨.hbm, 89, rfl⟩
abbrev main_c_21 : Ref sig .tc := ⟨.hbm, 90, rfl⟩
abbrev main_v53 : Ref sig .tc := ⟨.hbm, 91, rfl⟩
abbrev main_v54 : Ref sig .tc := ⟨.hbm, 92, rfl⟩
abbrev main_c_22 : Ref sig .tc := ⟨.hbm, 93, rfl⟩
abbrev main_v55 : Ref sig .tc := ⟨.hbm, 94, rfl⟩
abbrev main_v56 : Ref sig .tc := ⟨.hbm, 95, rfl⟩
abbrev main_c_23 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_24 : Ref sig .tc := ⟨.hbm, 102, rfl⟩
abbrev main_cst_25 : Ref sig .tc := ⟨.hbm, 103, rfl⟩
abbrev main_call5_v0 : Ref sig .tc := ⟨.hbm, 104, rfl⟩
abbrev main_call5_v1 : Ref sig .tc := ⟨.hbm, 105, rfl⟩
abbrev main_v62 : Ref sig .tc := ⟨.hbm, 106, rfl⟩
abbrev main_c_26 : Ref sig .tc := ⟨.hbm, 107, rfl⟩
abbrev main_v63 : Ref sig .tc := ⟨.hbm, 108, rfl⟩
abbrev main_v64 : Ref sig .tc := ⟨.hbm, 109, rfl⟩
abbrev main_c_27 : Ref sig .tc := ⟨.hbm, 110, rfl⟩
abbrev main_v65 : Ref sig .tc := ⟨.hbm, 111, rfl⟩
abbrev main_v66 : Ref sig .tc := ⟨.hbm, 112, rfl⟩
abbrev main_c_28 : Ref sig .tc := ⟨.hbm, 113, rfl⟩
abbrev main_v67 : Ref sig .tc := ⟨.hbm, 114, rfl⟩
abbrev main_v68 : Ref sig .tc := ⟨.hbm, 115, rfl⟩
abbrev main_c_29 : Ref sig .tc := ⟨.hbm, 116, rfl⟩
abbrev main_v69 : Ref sig .tc := ⟨.hbm, 117, rfl⟩
abbrev main_v70 : Ref sig .tc := ⟨.hbm, 118, rfl⟩
abbrev main_c_30 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_cst_31 : Ref sig .tc := ⟨.hbm, 125, rfl⟩
abbrev main_cst_32 : Ref sig .tc := ⟨.hbm, 126, rfl⟩
abbrev main_call6_v0 : Ref sig .tc := ⟨.hbm, 127, rfl⟩
abbrev main_call6_v1 : Ref sig .tc := ⟨.hbm, 128, rfl⟩
abbrev main_v76 : Ref sig .tc := ⟨.hbm, 129, rfl⟩
abbrev main_v77 : Ref sig .tc := ⟨.hbm, 130, rfl⟩
abbrev main_c_33 : Ref sig .tc := ⟨.hbm, 131, rfl⟩
abbrev main_v78 : Ref sig .tc := ⟨.hbm, 132, rfl⟩
abbrev main_v79 : Ref sig .tc := ⟨.hbm, 133, rfl⟩
abbrev main_c_34 : Ref sig .tc := ⟨.hbm, 134, rfl⟩
abbrev main_v80 : Ref sig .tc := ⟨.hbm, 135, rfl⟩
abbrev main_v81 : Ref sig .tc := ⟨.hbm, 136, rfl⟩
abbrev main_c_35 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_36 : Ref sig .tc := ⟨.hbm, 141, rfl⟩
abbrev main_cst_37 : Ref sig .tc := ⟨.hbm, 142, rfl⟩
abbrev main_call7_v0 : Ref sig .tc := ⟨.hbm, 143, rfl⟩
abbrev main_call7_v1 : Ref sig .tc := ⟨.hbm, 144, rfl⟩
abbrev main_v85 : Ref sig .tc := ⟨.hbm, 145, rfl⟩
abbrev main_c_38 : Ref sig .tc := ⟨.hbm, 146, rfl⟩
abbrev main_v86 : Ref sig .tc := ⟨.hbm, 147, rfl⟩
abbrev main_v87 : Ref sig .tc := ⟨.hbm, 148, rfl⟩
abbrev main_cst_39 : Ref sig .tc := ⟨.hbm, 149, rfl⟩
abbrev main_cst_40 : Ref sig .tc := ⟨.hbm, 150, rfl⟩
abbrev main_call8_v0 : Ref sig .tc := ⟨.hbm, 151, rfl⟩
abbrev main_call8_v1 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_cst_41 : Ref sig .tc := ⟨.hbm, 159, rfl⟩
abbrev main_v94 : Ref sig .tc := ⟨.hbm, 160, rfl⟩
abbrev main_v95 : Ref sig .tc := ⟨.hbm, 161, rfl⟩
abbrev main_cst_42 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_43 : Ref sig .tc := ⟨.hbm, 166, rfl⟩
abbrev main_v99 : Ref sig .tc := ⟨.hbm, 167, rfl⟩
abbrev main_v100 : Ref sig .tc := ⟨.hbm, 168, rfl⟩
abbrev main_cst_44 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_c_45 : Ref sig .tc := ⟨.hbm, 178, rfl⟩
abbrev main_call9_v0 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_c_46 : Ref sig .tc := ⟨.hbm, 185, rfl⟩
abbrev main_call10_v0 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119_0 : Ref sig .tc := ⟨.hbm, 192, rfl⟩
abbrev main_v119_1 : Ref sig .tc := ⟨.hbm, 193, rfl⟩
abbrev main_v119_2 : Ref sig .tc := ⟨.hbm, 194, rfl⟩
abbrev main_v119_3 : Ref sig .tc := ⟨.hbm, 195, rfl⟩
abbrev main_v119_4 : Ref sig .tc := ⟨.hbm, 196, rfl⟩
abbrev main_v119_5 : Ref sig .tc := ⟨.hbm, 197, rfl⟩
abbrev main_v119_6 : Ref sig .tc := ⟨.hbm, 198, rfl⟩
abbrev main_v119_7 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_21 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3080 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S48x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x4x1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x4x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x1024x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1024x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1024x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== PrjIdeal.lean ====
variable {F : FTy → Type} [FloatOps F] [Named F]
def κ : String → Option EReal := fun
  | "qscale" => some (((1 / 8) * (Real.log 2)⁻¹ : ℝ) : EReal)
  | _ => none
-- ==== PrjRefIdeal.lean ====
abbrev S32x2048x1024 : Shape := ⟨3, ![32, 2048, 1024]⟩
abbrev S32x9x1024 : Shape := ⟨3, ![32, 9, 1024]⟩
abbrev S1024 : Shape := ⟨1, ![1024]⟩
abbrev S32x2048 : Shape := ⟨2, ![32, 2048]⟩
abbrev S1024x3080 : Shape := ⟨2, ![1024, 3080]⟩
abbrev S8 : Shape := ⟨1, ![8]⟩
abbrev S_ : Shape := ⟨0, ![]⟩
abbrev S32x2048x1 : Shape := ⟨3, ![32, 2048, 1]⟩
abbrev S1x1x1024 : Shape := ⟨3, ![1, 1, 1024]⟩
abbrev S32x1x1024 : Shape := ⟨3, ![32, 1, 1024]⟩
abbrev S32x1024 : Shape := ⟨2, ![32, 1024]⟩
abbrev S32x2048x3080 : Shape := ⟨3, ![32, 2048, 3080]⟩
abbrev S32x2048x512 : Shape := ⟨3, ![32, 2048, 512]⟩
abbrev S32x2048x8 : Shape := ⟨3, ![32, 2048, 8]⟩
abbrev S32x2048x8x64 : Shape := ⟨4, ![32, 2048, 8, 64]⟩
abbrev S32x8x2048x64 : Shape := ⟨4, ![32, 8, 2048, 64]⟩
abbrev S32x1x2048x1 : Shape := ⟨4, ![32, 1, 2048, 1]⟩
abbrev S1x1x1x8 : Shape := ⟨4, ![1, 1, 1, 8]⟩
abbrev S32x1x2048x8 : Shape := ⟨4, ![32, 1, 2048, 8]⟩
abbrev S32x8x2048x8 : Shape := ⟨4, ![32, 8, 2048, 8]⟩
abbrev S32x8x2048x48 : Shape := ⟨4, ![32, 8, 2048, 48]⟩
abbrev S32x4x2x2048x64 : Shape := ⟨5, ![32, 4, 2, 2048, 64]⟩
abbrev S32x4x2048x2x64 : Shape := ⟨5, ![32, 4, 2048, 2, 64]⟩
abbrev S32x4x2048x128 : Shape := ⟨4, ![32, 4, 2048, 128]⟩

abbrev nBuf : Space → Nat
  | .hbm => 162
  | .vmem => 0
  | .smem => 0
  | _ => 0

abbrev hbmTy0_0 (i : Nat) : BufTy := match i % 128 with
  | 0 => ⟨S32x2048x1024, .f32⟩
  | 1 => ⟨S32x9x1024, .f32⟩
  | 2 => ⟨S1024, .f32⟩
  | 3 => ⟨S32x2048, .i32⟩
  | 4 => ⟨S1024x3080, .f32⟩
  | 5 => ⟨S8, .f32⟩
  | 6 => ⟨S32x2048x1024, .f32⟩
  | 7 => ⟨S_, .f32⟩
  | 8 => ⟨S32x2048, .f32⟩
  | 9 => ⟨S32x2048x1, .f32⟩
  | 10 => ⟨S_, .f32⟩
  | 11 => ⟨S32x2048x1, .f32⟩
  | 12 => ⟨S32x2048x1, .f32⟩
  | 13 => ⟨S_, .f32⟩
  | 14 => ⟨S32x2048x1, .f32⟩
  | 15 => ⟨S32x2048x1, .f32⟩
  | 16 => ⟨S32x2048x1, .f32⟩
  | 17 => ⟨S32x2048x1024, .f32⟩
  | 18 => ⟨S32x2048x1024, .f32⟩
  | 19 => ⟨S1x1x1024, .f32⟩
  | 20 => ⟨S32x2048x1024, .f32⟩
  | 21 => ⟨S32x2048x1024, .f32⟩
  | 22 => ⟨S32x1x1024, .f32⟩
  | 23 => ⟨S32x1024, .f32⟩
  | 24 => ⟨S32x1x1024, .f32⟩
  | 25 => ⟨S_, .f32⟩
  | 26 => ⟨S32x1x1024, .f32⟩
  | 27 => ⟨S32x1x1024, .f32⟩
  | 28 => ⟨S32x2048x1024, .f32⟩
  | 29 => ⟨S32x2048x1024, .f32⟩
  | 30 => ⟨S32x1x1024, .f32⟩
  | 31 => ⟨S32x1024, .f32⟩
  | 32 => ⟨S32x1x1024, .f32⟩
  | 33 => ⟨S32x2048x1024, .f32⟩
  | 34 => ⟨S32x2048x1024, .f32⟩
  | 35 => ⟨S32x2048x3080, .f32⟩
  | 36 => ⟨S32x2048x512, .f32⟩
  | 37 => ⟨S32x2048x512, .f32⟩
  | 38 => ⟨S32x2048x512, .f32⟩
  | 39 => ⟨S32x2048x512, .f32⟩
  | 40 => ⟨S32x2048x512, .f32⟩
  | 41 => ⟨S32x2048x512, .f32⟩
  | 42 => ⟨S32x2048x8, .f32⟩
  | 43 => ⟨S32x2048x8x64, .f32⟩
  | 44 => ⟨S32x8x2048x64, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S32x2048, .f32⟩
  | 60 => ⟨S32x1x2048x1, .f32⟩
  | 61 => ⟨S1x1x1x8, .f32⟩
  | 62 => ⟨S32x1x2048x8, .f32⟩
  | 63 => ⟨S32x1x2048x8, .f32⟩
  | 64 => ⟨S32x1x2048x8, .f32⟩
  | 65 => ⟨S32x1x2048x8, .f32⟩
  | 66 => ⟨S32x1x2048x8, .f32⟩
  | 67 => ⟨S32x8x2048x8, .f32⟩
  | 68 => ⟨S32x8x2048x8, .f32⟩
  | 69 => ⟨S32x8x2048x8, .f32⟩
  | 70 => ⟨S32x8x2048x8, .f32⟩
  | 71 => ⟨S32x8x2048x8, .f32⟩
  | 72 => ⟨S32x8x2048x8, .f32⟩
  | 73 => ⟨S32x8x2048x8, .f32⟩
  | 74 => ⟨S32x8x2048x8, .f32⟩
  | 75 => ⟨S32x8x2048x8, .f32⟩
  | 76 => ⟨S32x8x2048x8, .f32⟩
  | 77 => ⟨S32x8x2048x8, .f32⟩
  | 78 => ⟨S32x8x2048x8, .f32⟩
  | 79 => ⟨S32x8x2048x48, .f32⟩
  | 80 => ⟨S32x8x2048x64, .f32⟩
  | 81 => ⟨S_, .f32⟩
  | 82 => ⟨S32x8x2048x64, .f32⟩
  | 83 => ⟨S32x8x2048x64, .f32⟩
  | 84 => ⟨S_, .f32⟩
  | 85 => ⟨S_, .f32⟩
  | 86 => ⟨S32x8x2048x64, .f32⟩
  | 87 => ⟨S32x8x2048x64, .f32⟩
  | 88 => ⟨S32x4x2x2048x64, .f32⟩
  | 89 => ⟨S32x4x2048x2x64, .f32⟩
  | 90 => ⟨S32x4x2048x128, .f32⟩
  | 91 => ⟨S32x2048x8x64, .f32⟩
  | 92 => ⟨S32x8x2048x64, .f32⟩
  | 93 => ⟨S8, .f32⟩
  | 94 => ⟨S_, .f32⟩
  | 95 => ⟨S8, .f32⟩
  | 96 => ⟨S8, .f32⟩
  | 97 => ⟨S_, .f32⟩
  | 98 => ⟨S8, .f32⟩
  | 99 => ⟨S8, .f32⟩
  | 100 => ⟨S8, .f32⟩
  | 101 => ⟨S_, .f32⟩
  | 102 => ⟨S8, .f32⟩
  | 103 => ⟨S8, .f32⟩
  | 104 => ⟨S_, .f32⟩
  | 105 => ⟨S8, .f32⟩
  | 106 => ⟨S8, .f32⟩
  | 107 => ⟨S32x2048, .f32⟩
  | 108 => ⟨S32x1x2048x1, .f32⟩
  | 109 => ⟨S1x1x1x8, .f32⟩
  | 110 => ⟨S32x1x2048x8, .f32⟩
  | 111 => ⟨S32x1x2048x8, .f32⟩
  | 112 => ⟨S32x1x2048x8, .f32⟩
  | 113 => ⟨S32x1x2048x8, .f32⟩
  | 114 => ⟨S32x1x2048x8, .f32⟩
  | 115 => ⟨S32x8x2048x8, .f32⟩
  | 116 => ⟨S32x8x2048x8, .f32⟩
  | 117 => ⟨S32x8x2048x8, .f32⟩
  | 118 => ⟨S32x8x2048x8, .f32⟩
  | 119 => ⟨S32x8x2048x8, .f32⟩
  | 120 => ⟨S32x8x2048x8, .f32⟩
  | 121 => ⟨S32x8x2048x8, .f32⟩
  | 122 => ⟨S32x8x2048x8, .f32⟩
  | 123 => ⟨S32x8x2048x8, .f32⟩
  | 124 => ⟨S32x8x2048x8, .f32⟩
  | 125 => ⟨S32x8x2048x8, .f32⟩
  | 126 => ⟨S32x8x2048x8, .f32⟩
  | 127 => ⟨S32x8x2048x48, .f32⟩
  | _ => ⟨S32x2048x1024, .f32⟩

abbrev hbmTy0_1 (i : Nat) : BufTy := match i % 128 with
  | 0 => ⟨S32x8x2048x64, .f32⟩
  | 1 => ⟨S32x4x2x2048x64, .f32⟩
  | 2 => ⟨S32x4x2048x2x64, .f32⟩
  | 3 => ⟨S32x4x2048x128, .f32⟩
  | 4 => ⟨S32x2048x8x64, .f32⟩
  | 5 => ⟨S32x8x2048x64, .f32⟩
  | 6 => ⟨S32x4x2x2048x64, .f32⟩
  | 7 => ⟨S32x4x2048x2x64, .f32⟩
  | 8 => ⟨S32x4x2048x128, .f32⟩
  | 9 => ⟨S32x2048x8x64, .f32⟩
  | 10 => ⟨S32x8x2048x64, .f32⟩
  | 11 => ⟨S_, .f32⟩
  | 12 => ⟨S32x8x2048x64, .f32⟩
  | 13 => ⟨S32x8x2048x64, .f32⟩
  | 14 => ⟨S_, .f32⟩
  | 15 => ⟨S_, .f32⟩
  | 16 => ⟨S32x8x2048x64, .f32⟩
  | 17 => ⟨S32x8x2048x64, .f32⟩
  | 18 => ⟨S32x4x2x2048x64, .f32⟩
  | 19 => ⟨S32x4x2048x2x64, .f32⟩
  | 20 => ⟨S32x4x2048x128, .f32⟩
  | 21 => ⟨S32x4x2048x128, .bf16⟩
  | 22 => ⟨S32x2048x8x64, .f32⟩
  | 23 => ⟨S32x8x2048x64, .f32⟩
  | 24 => ⟨S32x4x2x2048x64, .f32⟩
  | 25 => ⟨S32x4x2048x2x64, .f32⟩
  | 26 => ⟨S32x4x2048x128, .f32⟩
  | 27 => ⟨S32x4x2048x128, .bf16⟩
  | 28 => ⟨S32x2048x8x64, .f32⟩
  | 29 => ⟨S32x8x2048x64, .f32⟩
  | 30 => ⟨S32x4x2x2048x64, .f32⟩
  | 31 => ⟨S32x4x2048x2x64, .f32⟩
  | 32 => ⟨S32x4x2048x128, .f32⟩
  | 33 => ⟨S32x4x2048x128, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_cst_8 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_9 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_11 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_13 : Ref sig .tc := ⟨.hbm, 139, rfl⟩
abbrev main_v119 : Ref sig .tc := ⟨.hbm, 140, rfl⟩
abbrev main_v120 : Ref sig .tc := ⟨.hbm, 141, rfl⟩
abbrev main_cst_14 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩

abbrev nD : Nat := 1
abbrev τ : Topo := Topo.v7x

variable {F : FTy → Type} [FloatOps F]
-- ==== Ada.lean ====
abbrev S32x1024 : Shape := ⟨2, ![32, 1024]⟩
abbrev S1024x9216 : Shape := ⟨2, ![1024, 9216]⟩
abbrev S9216 : Shape := ⟨1, ![9216]⟩
abbrev S1x9216 : Shape := ⟨2, ![1, 9216]⟩
abbrev S32x9216 : Shape := ⟨2, ![32, 9216]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S1024x9216, .f32⟩
  | .hbm, ⟨2, _⟩ => ⟨S9216, .f32⟩
  | .hbm, ⟨3, _⟩ => ⟨S1x9216, .f32⟩
  | .hbm, ⟨4, _⟩ => ⟨S32x9216, .f32⟩
  | .local _ .vmem, ⟨0, _⟩ => ⟨S32x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S32x1024 : Shape := ⟨2, ![32, 1024]⟩
abbrev S1024x9216 : Shape := ⟨2, ![1024, 9216]⟩
abbrev S9216 : Shape := ⟨1, ![9216]⟩
abbrev S_ : Shape := ⟨0, ![]⟩
abbrev S32x9216 : Shape := ⟨2, ![32, 9216]⟩
abbrev S1x9216 : Shape := ⟨2, ![1, 9216]⟩

abbrev nBuf : Space → Nat
  | .hbm => 16
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x9216, .f32⟩
  | .hbm, ⟨2, _⟩ => ⟨S9216, .f32⟩
  | .hbm, ⟨3, _⟩ => ⟨S32x1024, .f32⟩
  | .hbm, ⟨4, _⟩ => ⟨S32x1024, .f32⟩
  | .hbm, ⟨5, _⟩ => ⟨S_, .f32⟩
  | .hbm, ⟨6, _⟩ => ⟨S32x1024, .f32⟩
  | .hbm, ⟨7, _⟩ => ⟨S32x1024, .f32⟩
  | .hbm, ⟨8, _⟩ => ⟨S_, .f32⟩
  | .hbm, ⟨9, _⟩ => ⟨S32x1024, .f32⟩
  | .hbm, ⟨10, _⟩ => ⟨S32x1024, .f32⟩
  | .hbm, ⟨11, _⟩ => ⟨S32x1024, .f32⟩
  | .hbm, ⟨12, _⟩ => ⟨S32x9216, .f32⟩
  | .hbm, ⟨13, _⟩ => ⟨S1x9216, .f32⟩
  | .hbm, ⟨14, _⟩ => ⟨S32x9216, .f32⟩
  | .hbm, ⟨15, _⟩ => ⟨S32x9216, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Dil.lean ====
abbrev S32x4x2048x128 : Shape := ⟨4, ![32, 4, 2048, 128]⟩
abbrev S128x256 : Shape := ⟨2, ![128, 256]⟩
abbrev S128x128 : Shape := ⟨2, ![128, 128]⟩
abbrev S128x512 : Shape := ⟨2, ![128, 512]⟩
abbrev S1x1x2048x128 : Shape := ⟨4, ![1, 1, 2048, 128]⟩
abbrev S2x2048x128 : Shape := ⟨3, ![2, 2048, 128]⟩
abbrev S2048x128 : Shape := ⟨2, ![2048, 128]⟩
abbrev S1x1x512x128 : Shape := ⟨4, ![1, 1, 512, 128]⟩
abbrev S512x128 : Shape := ⟨2, ![512, 128]⟩
abbrev S1x512x128 : Shape := ⟨3, ![1, 512, 128]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩
abbrev S1x256x128 : Shape := ⟨3, ![1, 256, 128]⟩
abbrev S256x256 : Shape := ⟨2, ![256, 256]⟩
abbrev S128x384 : Shape := ⟨2, ![128, 384]⟩
abbrev S1x384x128 : Shape := ⟨3, ![1, 384, 128]⟩
abbrev S384x128 : Shape := ⟨2, ![384, 128]⟩
abbrev S256x384 : Shape := ⟨2, ![256, 384]⟩
abbrev S256x512 : Shape := ⟨2, ![256, 512]⟩
abbrev S1x1x128x128 : Shape := ⟨4, ![1, 1, 128, 128]⟩

abbrev nBuf : Space → Nat
  | .hbm => 7
  | .vmem => 16
  | .smem => 0
  | _ => 0

abbrev bufTy : (tb : Table) → Fin (tcTables nBuf tb) → BufTy
  | .hbm, ⟨0, _⟩ => ⟨S32x4x2048x128, .f32⟩
  | .hbm, ⟨1, _⟩ => ⟨S32x4x2048x128, .f32⟩
  | .hbm, ⟨2, _⟩ => ⟨S32x4x2048x128, .f32⟩
  | .hbm, ⟨3, _⟩ => ⟨S128x256, .f32⟩
  | .hbm, ⟨4, _⟩ => ⟨S128x128, .f32⟩
  | .hbm, ⟨5, _⟩ => ⟨S128x512, .f32⟩
  | .hbm, ⟨6, _⟩ => ⟨S32x4x2048x128, .bf16⟩
  | .local _ .vmem, ⟨0, _⟩ => ⟨S1x1x2048x128, .f32⟩
  | .local _ .vmem, ⟨1, _⟩ => ⟨S1x1x2048x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S128x256, .f32⟩
  | .local _ .vmem, ⟨7, _⟩ => ⟨S128x128, .f32⟩
  | .local _ .vmem, ⟨8, _⟩ => ⟨S128x512, .f32⟩
  | .local _ .vmem, ⟨9, _⟩ => ⟨S1x1x2048x128, .bf16⟩
  | .local _ .vmem, ⟨10, _⟩ => ⟨S1x1x2048x128, .bf16⟩
  | .local _ .vmem, ⟨11, _⟩ => ⟨S2x2048x128, .bf16⟩
  | .local _ .vmem, ⟨12, _⟩ => ⟨S2x2048x128, .bf16⟩
  | .local _ .vmem, ⟨13, _⟩ => ⟨S2x2048x128, .bf16⟩
  | .local _ .vmem, ⟨14, _⟩ => ⟨S2048x128, .f32⟩
  | .local _ .vmem, ⟨15, _⟩ => ⟨S2048x128, .f32⟩
  | _, _ => ⟨S32x4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DilIdeal.lean ====
variable {F : FTy → Type} [FloatOps F] [Named F]
def κ : String → Option EReal := fun
  | "log2e" => some (((Real.log 2)⁻¹ : ℝ) : EReal)
  | _ => none
-- ==== Proof.FoxVocab.lean ====
/- The forgetting-attention kernel in words that do not depend on the query block: the scores of a block of 256 query
   rows against the first 256 (q + 1) keys, the 128-lane tiles they are cut into, their row maximum, the weights, and
   the output rows. `piece q` is what the kernel stores for query block `q`; `stores_eq` says the run's eight stores
   are these. -/
module

public import proofs.«01_k».proof.Proof.Gen.FoxIdeal.Value
public import Idealize.ShloMosaic.Lib.Pointwise

@[expose] public section

set_option maxRecDepth 16384

noncomputable section

namespace Cert.FoxIdeal.Val

open Cert.FoxIdeal Cert.FoxIdeal.Gen Idealize.ShloMosaic Idealize.ShloMosaic.TcCoe Idealize.SL.Sem
open Idealize.ShloMosaic.Pipeline (Dat)

/-- A matrix shape with sizes that may be terms. -/
abbrev Mat (a b : ℕ) : Shape := ⟨2, ![a, b]⟩

/-- The lane number. -/
def lanes : IVec S256x128 32 := iota .tc S256x128 32 [1] iota_S256x128_d1_w32

/-- The lanes of the first head of the pair. -/
def firstHead : IVec S256x128 1 := cmpi .slt lanes (broadcast S256x128 64#32)

/-- The lanes of head `hd` of the pair. -/
def headLanes : Fin 2 → IVec S256x128 1
  | 0 => firstHead
  | 1 => xori firstHead (constantI S256x128 1 1#1)

/-- The first of the sixteen lanes of the extra features that head `hd` of pair `p` owns. -/
def ownLow (p : BitVec 32) (hd : Fin 2) : BitVec 32 :=
  Scalar.muli 16#32 (Scalar.addi (Scalar.muli 2#32 p) (match hd with | 0 => 0#32 | 1 => 1#32))

/-- The sixteen lanes of the extra features from lane `lo` on. -/
def ownLanes (lo : BitVec 32) : IVec S256x128 1 :=
  andi (cmpi .sge lanes (broadcast S256x128 lo)) (cmpi .slt lanes (broadcast S256x128 (Scalar.addi lo 16#32)))

/-- The zero the unused lanes are filled with. -/
def zeroLanes : FVec Ideal S256x128 .bf16 := broadcast S256x128 (Scalar.ofBits .bf16 0x0000#16)

theorem casts_block (n : ℕ) : (⟨4, ![1, 1, n, 128]⟩ : Shape).ShapeCasts (Mat n 128) := by
  simp [Shape.ShapeCasts, Shape.numel, Fin.prod_univ_succ]

theorem casts_rows (n : ℕ) : (⟨3, ![1, n, 128]⟩ : Shape).ShapeCasts (Mat n 128) := by
  simp [Shape.ShapeCasts, Shape.numel, Fin.prod_univ_succ]

theorem concatenates_keys (n : ℕ) : Shape.Concatenates [Mat n 128, Mat n 128] (Mat n 256) 1 := by
  refine ⟨by simp, fun s hs => ?_, by simp⟩
  obtain rfl : s = Mat n 128 := by simpa using hs
  refine ⟨rfl, fun b hb => ?_⟩
  match b with
  | 0 => rfl
  | 1 => exact absurd rfl hb

/-- The scores of 256 query rows against `n` keys: one product of depth 256, the head's lanes of the query beside its
    sixteen lanes of the extra features. -/
def scores (p : BitVec 32) (hd : Fin 2) (n : ℕ)
    (q : Vec Ideal S1x1x256x128 .bf16) (a : Vec Ideal S1x256x128 .bf16)
    (k : Vec Ideal ⟨4, ![1, 1, n, 128]⟩ .bf16) (b : Vec Ideal ⟨3, ![1, n, 128]⟩ .bf16) : FVec Ideal (Mat 256 n) .f32 :=
  matmul (φ₁ := .bf16) (φ₂ := .bf16) (DotDims.transposedRhs 256 256 n) none
    (concatenate S256x256 1
      [⟨S256x128, select (headLanes hd) (shapeCast S256x128 q shapeCasts_S1x1x256x128_S256x128) zeroLanes⟩,
       ⟨S256x128, select (ownLanes (ownLow p hd)) (shapeCast S256x128 a shapeCasts_S1x256x128_S256x128) zeroLanes⟩]
      concatenates_S256x128_S256x128_S256x256_d1)
    (concatenate (Mat n 256) 1 [⟨Mat n 128, shapeCast (Mat n 128) k (casts_block n)⟩, ⟨Mat n 128, shapeCast (Mat n 128) b (casts_rows n)⟩]
      (concatenates_keys n))
    (constant (Mat 256 n) .f32 0x00000000#32)

/-- Row and column numbers of the diagonal block compared: key no later than query. -/
def causal : IVec S256x256 1 :=
  cmpi .sle (iota .tc S256x256 32 [1] iota_S256x256_d1_w32) (iota .tc S256x256 32 [0] iota_S256x256_d0_w32)

theorem slices_last (q : ℕ) : (Mat 256 (256 * (q + 1))).Slices ![0, 256 * q] S256x256 :=
  ⟨rfl, fun a => match a with | 0 => by simp | 1 => by simp [Nat.mul_add]⟩

theorem slices_tile (n i : ℕ) (h : 128 * i + 128 ≤ n) : (Mat 256 n).Slices ![0, 128 * i] S256x128 :=
  ⟨rfl, fun a => match a with | 0 => by simp | 1 => by simpa using h⟩

/-- The last 256 columns of the scores. -/
def lastBlock : (q : ℕ) → FVec Ideal (Mat 256 (256 * (q + 1))) .f32 → FVec Ideal S256x256 .f32
  | 0, s => s
  | q + 1, s => extractStridedSlice S256x256 ![0, 256 * (q + 1)] s (slices_last (q + 1))

/-- The diagonal block, its future keys masked. -/
def diagonal (q : ℕ) (s : FVec Ideal (Mat 256 (256 * (q + 1))) .f32) : FVec Ideal S256x256 .f32 :=
  select causal (lastBlock q s) (broadcast S256x256 (Named.named κ "mask" 0xF149F2CA#32))

/-- Tile `i` of the masked scores: 128 columns. -/
def tile (q : ℕ) (s : FVec Ideal (Mat 256 (256 * (q + 1))) .f32) (i : Fin (2 * q + 2)) : FVec Ideal S256x128 .f32 :=
  if h : i.val < 2 * q then extractStridedSlice S256x128 ![0, 128 * i.val] s (slices_tile _ _ (by omega))
  else extractStridedSlice S256x128 ![0, 128 * (i.val - 2 * q)] (diagonal q s) (slices_tile 256 _ (by omega))

/-- The elementwise maximum of tiles `0` to `k`. -/
def maxTiles {N : ℕ} (T : Fin (N + 1) → FVec Ideal S256x128 .f32) : (k : ℕ) → k < N + 1 → FVec Ideal S256x128 .f32
  | 0, h => T ⟨0, h⟩
  | k + 1, h => maximumf (maxTiles T k (by omega)) (T ⟨k + 1, h⟩)

/-- The row maxima, as one column. -/
def rowMax {N : ℕ} (T : Fin (N + 1) → FVec Ideal S256x128 .f32) : FVec Ideal S256x1 .f32 :=
  shapeCast S256x1 (multiReduction .maximumf [1] S256 (maxTiles T N (by omega)) 0xFF800000#32 reduces_S256x128_S256 (.inl rfl) rfl)
    shapeCasts_S256_S256x1

/-- The weights of one tile. -/
def expTile {N : ℕ} (T : Fin (N + 1) → FVec Ideal S256x128 .f32) (i : Fin (N + 1)) : FVec Ideal S256x128 .bf16 :=
  truncf .bf16 (exp2 (subf (T i) (broadcastTo S256x128 (rowMax T) broadcasts_S256x1_S256x128))) bitsLt_bf16_f32

theorem concatenates_tiles (N n : ℕ) (hn : n = 128 * (N + 2)) (f : Fin (N + 2) → FVec Ideal S256x128 .bf16) :
    Shape.Concatenates ((List.ofFn fun i : Fin (N + 2) => (⟨S256x128, f i⟩ : (s : Shape) × (s.Idx → Ideal .bf16))).map (·.1)) (Mat 256 n) 1 := by
  have e : (List.ofFn fun i : Fin (N + 2) => (⟨S256x128, f i⟩ : (s : Shape) × (s.Idx → Ideal .bf16))).map (·.1) = List.replicate (N + 2) S256x128 := by
    rw [List.map_ofFn]; exact List.ofFn_const _ _
  rw [e]
  refine ⟨by simp, fun s hs => ?_, ?_⟩
  · obtain rfl := List.eq_of_mem_replicate hs
    refine ⟨rfl, fun b hb => ?_⟩
    match b with
    | 0 => rfl
    | 1 => exact absurd rfl hb
  · simp [hn, Nat.mul_comm]

/-- The weights of 256 query rows. -/
def weights (q : ℕ) (T : Fin (2 * q + 1 + 1) → FVec Ideal S256x128 .f32) : FVec Ideal (Mat 256 (256 * (q + 1))) .bf16 :=
  concatenate (Mat 256 (256 * (q + 1))) 1 (List.ofFn fun i : Fin (2 * q + 2) => ⟨S256x128, expTile T i⟩)
    (concatenates_tiles (2 * q) _ (by omega) _)

/-- The weighted sum of the values' rows. -/
def weighted (n : ℕ) (w : FVec Ideal (Mat 256 n) .bf16) (v : Vec Ideal ⟨3, ![1, n, 128]⟩ .bf16) : FVec Ideal S256x128 .f32 :=
  matmul (φ₁ := .bf16) (φ₂ := .bf16) (DotDims.plain 256 n 128) none w (shapeCast (Mat n 128) v (casts_rows n)) (constant S256x128 .f32 0x00000000#32)

/-- The output rows from the two heads' sums: each sum carries its head's output in the head's lanes and the sum of the
    weights in the other lanes. -/
def outRows (a0 a1 : FVec Ideal S256x128 .f32) : FVec Ideal S1x1x256x128 .bf16 :=
  shapeCast S1x1x256x128
    (truncf .bf16 (divf (select firstHead a0 a1) (dynamicRotate 1 64#32 none (select firstHead a1 a0) rotates_S256x128_d1)) bitsLt_bf16_f32)
    shapeCasts_S256x128_S1x1x256x128

theorem inb_q (q : Fin 8) : ∀ a, (![0, 0, 256 * q.val, 0] : Fin 4 → ℕ) a + (![1, 1, 256, 128] : Fin 4 → ℕ) a ≤ S1x1x2048x128.size a
  | 0 => by simp | 1 => by simp | 2 => by have := q.isLt; simp; omega | 3 => by simp

theorem inb_a (q : Fin 8) : ∀ a, (![0, 256 * q.val, 0] : Fin 3 → ℕ) a + (![1, 256, 128] : Fin 3 → ℕ) a ≤ S1x2048x128.size a
  | 0 => by simp | 1 => by have := q.isLt; simp; omega | 2 => by simp

theorem inb_k (q : Fin 8) : ∀ a, (![0, 0, 0, 0] : Fin 4 → ℕ) a + (![1, 1, 256 * (q.val + 1), 128] : Fin 4 → ℕ) a ≤ S1x1x2048x128.size a
  | 0 => by simp | 1 => by simp | 2 => by have := q.isLt; simp; omega | 3 => by simp

theorem inb_b (q : Fin 8) : ∀ a, (![0, 0, 0] : Fin 3 → ℕ) a + (![1, 256 * (q.val + 1), 128] : Fin 3 → ℕ) a ≤ S1x2048x128.size a
  | 0 => by simp | 1 => by have := q.isLt; simp; omega | 2 => by simp

theorem inb_v (q : Fin 8) (hd : Fin 2) : ∀ a, (![hd.val, 0, 0] : Fin 3 → ℕ) a + (![1, 256 * (q.val + 1), 128] : Fin 3 → ℕ) a ≤ S2x2048x128.size a
  | 0 => by have := hd.isLt; simp; omega | 1 => by have := q.isLt; simp; omega | 2 => by simp

theorem inb_fill (hd : Fin 2) (i : Fin 4) : ∀ a, (![hd.val, 512 * i.val, 0] : Fin 3 → ℕ) a + (![1, 512, 128] : Fin 3 → ℕ) a ≤ S2x2048x128.size a
  | 0 => by have := hd.isLt; simp; omega | 1 => by have := i.isLt; simp; omega | 2 => by simp

theorem inb_src (i : Fin 4) : ∀ a, (![0, 0, 512 * i.val, 0] : Fin 4 → ℕ) a + (![1, 1, 512, 128] : Fin 4 → ℕ) a ≤ S1x1x2048x128.size a
  | 0 => by simp | 1 => by simp | 2 => by have := i.isLt; simp; omega | 3 => by simp

/-- The lanes of the first head, over 512 rows. -/
def firstHead512 : IVec S512x128 1 := cmpi .slt (iota .tc S512x128 32 [1] iota_S512x128_d1_w32) (broadcast S512x128 64#32)

/-- The lanes of ones that add up the weights. -/
def ones512 : FVec Ideal S512x128 .bf16 := broadcast S512x128 (Scalar.ofBits .bf16 0x3F80#16)

/-- 512 rows of the values, with ones in the other head's lanes. -/
def fillRows (hd : Fin 2) (v : Vec Ideal S1x1x512x128 .bf16) : Vec Ideal S1x512x128 .bf16 :=
  shapeCast S1x512x128
    (match hd with
      | 0 => select firstHead512 (shapeCast S512x128 v shapeCasts_S1x1x512x128_S512x128) ones512
      | 1 => select firstHead512 ones512 (shapeCast S512x128 v shapeCasts_S1x1x512x128_S512x128))
    shapeCasts_S512x128_S1x512x128

/-- One store into the scratch of values. -/
def fillPiece (V : Vec Ideal S1x1x2048x128 .bf16) (hd : Fin 2) (i : Fin 4) : View.Piece (Elt Ideal) S2x2048x128 .bf16 :=
  ⟨Rect.unit (s := S2x2048x128) ![hd.val, 512 * i.val, 0] ![1, 512, 128] (inb_fill hd i),
    fillRows hd (View.ld V (Rect.unit (s := S1x1x2048x128) ![0, 0, 512 * i.val, 0] ![1, 1, 512, 128] (inb_src i)))⟩

/-- The eight stores into the scratch of values, last first. -/
def fill (V : Vec Ideal S1x1x2048x128 .bf16) : List (View.Piece (Elt Ideal) S2x2048x128 .bf16) :=
  [fillPiece V 1 3, fillPiece V 0 3, fillPiece V 1 2, fillPiece V 0 2, fillPiece V 1 1, fillPiece V 0 1, fillPiece V 1 0, fillPiece V 0 0]

/-- The scores of query block `q`, from the point's blocks. -/
def blockScores (p : BitVec 32) (Q K : Vec Ideal S1x1x2048x128 .bf16) (A B : Vec Ideal S1x2048x128 .bf16) (q : Fin 8) (hd : Fin 2) :
    FVec Ideal (Mat 256 (256 * (q.val + 1))) .f32 :=
  scores p hd (256 * (q.val + 1))
    (View.ld Q (Rect.unit (s := S1x1x2048x128) ![0, 0, 256 * q.val, 0] ![1, 1, 256, 128] (inb_q q)))
    (View.ld A (Rect.unit (s := S1x2048x128) ![0, 256 * q.val, 0] ![1, 256, 128] (inb_a q)))
    (View.ld K (Rect.unit (s := S1x1x2048x128) ![0, 0, 0, 0] ![1, 1, 256 * (q.val + 1), 128] (inb_k q)))
    (View.ld B (Rect.unit (s := S1x2048x128) ![0, 0, 0] ![1, 256 * (q.val + 1), 128] (inb_b q)))

/-- One head's weighted sum for query block `q`, the values read back from the scratch through the view `vw`. -/
def blockSum {sig : RefSig} {κ : Kind} {sp : Space} (vw : View sig κ sp S2x2048x128 .bf16) (p : BitVec 32)
    (Q K V : Vec Ideal S1x1x2048x128 .bf16) (A B : Vec Ideal S1x2048x128 .bf16) (q : Fin 8) (hd : Fin 2) : FVec Ideal S256x128 .f32 :=
  weighted (256 * (q.val + 1)) (weights q.val (tile q.val (blockScores p Q K A B q hd)))
    (vw.readCov (fill V) (Rect.unit (s := S2x2048x128) ![hd.val, 0, 0] ![1, 256 * (q.val + 1), 128] (inb_v q hd)).toLoadRect)

/-- What the kernel stores for query block `q`. -/
def piece {sig : RefSig} {κ : Kind} {sp : Space} (vw : View sig κ sp S2x2048x128 .bf16) (p : BitVec 32)
    (Q K V : Vec Ideal S1x1x2048x128 .bf16) (A B : Vec Ideal S1x2048x128 .bf16) (q : Fin 8) : View.Piece (Elt Ideal) S1x1x2048x128 .bf16 :=
  ⟨Rect.unit (s := S1x1x2048x128) ![0, 0, 256 * q.val, 0] ![1, 1, 256, 128] (inb_q q),
    outRows (blockSum vw p Q K V A B q 0) (blockSum vw p Q K V A B q 1)⟩

/-- The eight stores of a point, last first. -/
def stores {sig : RefSig} {κ : Kind} {sp : Space} (vw : View sig κ sp S2x2048x128 .bf16) (p : BitVec 32)
    (Q K V : Vec Ideal S1x1x2048x128 .bf16) (A B : Vec Ideal S1x2048x128 .bf16) : List (View.Piece (Elt Ideal) S1x1x2048x128 .bf16) :=
  [piece vw p Q K V A B 7, piece vw p Q K V A B 6, piece vw p Q K V A B 5, piece vw p Q K V A B 4,
   piece vw p Q K V A B 3, piece vw p Q K V A B 2, piece vw p Q K V A B 1, piece vw p Q K V A B 0]

end Cert.FoxIdeal.Val

end
-- ==== Proof.FoxScores.lean ====
/- The kernel's scores read at an index: the 64 lanes of a head plus its sixteen lanes of the extra features. -/
module

public import proofs.«01_k».proof.Proof.FoxVocab
public import Idealize.ShloMosaic.Lib.MatmulPlain
public import Idealize.ShloMosaic.Lib.FinSumWindow
public import Idealize.ShloMosaic.Lib.Pipeline.Value

@[expose] public section

set_option maxRecDepth 16384

noncomputable section

namespace Cert.FoxIdeal.Val

open Cert.FoxIdeal Cert.FoxIdeal.Gen Idealize.ShloMosaic Idealize.ShloMosaic.TcCoe Idealize.SL.Sem
open Idealize.ShloMosaic.FinSumWindow (sum_window)

/-- A head's lanes are its half of the 128. -/
theorem headLanes_apply (hd : Fin 2) (r : Fin 256) (l : Fin 128) :
    headLanes hd (ix2 r l) = if l.val / 64 = hd.val then 1#1 else 0#1 := by
  match hd with
  | 0 => pointwise [headLanes, firstHead, lanes]; revert l; decide +kernel
  | 1 => pointwise [headLanes, firstHead, lanes]; revert l; decide +kernel

/-- A head's sixteen lanes of the extra features. -/
theorem ownLanes_apply (p : Fin 4) (hd : Fin 2) (r : Fin 256) (l : Fin 128) :
    ownLanes (ownLow (BitVec.ofNat 32 p.val) hd) (ix2 r l) = if l.val / 16 = 2 * p.val + hd.val then 1#1 else 0#1 := by
  pointwise [ownLanes, lanes]
  revert l hd p; decide +kernel

theorem zeroLanes_apply (r : Fin 256) (l : Fin 128) : zeroLanes (ix2 r l) = 0 := by
  pointwise [zeroLanes]

theorem zero_constant {s : Shape} (i : s.Idx) : (constant s .f32 0x00000000#32 : FVec Ideal s .f32) i = 0 := Ideal.ofBits_zero FTy.f32

/-- A block read as a matrix. -/
theorem block_apply (n : ℕ) (v : Vec Ideal ⟨4, ![1, 1, n, 128]⟩ .bf16) (h : (⟨4, ![1, 1, n, 128]⟩ : Shape).ShapeCasts (Mat n 128))
    (r : Fin n) (l : Fin 128) : shapeCast (Mat n 128) v h (ix2 r l) = v (ix4 0 0 r l) := by
  refine shapeCast_apply v h _ _ ?_
  rw [Shape.rowMajor_val_four, Shape.rowMajor_val_two]
  show ((0 * 1 + 0) * n + r.val) * 128 + l.val = r.val * 128 + l.val
  simp

theorem rows_apply (n : ℕ) (v : Vec Ideal ⟨3, ![1, n, 128]⟩ .bf16) (h : (⟨3, ![1, n, 128]⟩ : Shape).ShapeCasts (Mat n 128))
    (r : Fin n) (l : Fin 128) : shapeCast (Mat n 128) v h (ix2 r l) = v (ix3 0 r l) := by
  refine shapeCast_apply v h _ _ ?_
  rw [Shape.rowMajor_val_three, Shape.rowMajor_val_two]
  show (0 * n + r.val) * 128 + l.val = r.val * 128 + l.val
  simp

/-- Two 128-lane pieces side by side: the left one. -/
theorem beside_left {n : ℕ} (x y : FVec Ideal (Mat n 128) .bf16) (h : Shape.Concatenates [Mat n 128, Mat n 128] (Mat n 256) 1)
    (r : Fin n) (l : Fin 128) :
    concatenate (Mat n 256) 1 [⟨Mat n 128, x⟩, ⟨Mat n 128, y⟩] h (ix2 r ⟨l.val, by omega⟩) = x (ix2 r l) :=
  concatenate_pair_apply_left 1 x y h _ rfl _ fun b => match b with | 0 => rfl | 1 => rfl

/-- Two 128-lane pieces side by side: the right one. -/
theorem beside_right {n : ℕ} (x y : FVec Ideal (Mat n 128) .bf16) (h : Shape.Concatenates [Mat n 128, Mat n 128] (Mat n 256) 1)
    (r : Fin n) (l : Fin 128) :
    concatenate (Mat n 256) 1 [⟨Mat n 128, x⟩, ⟨Mat n 128, y⟩] h (ix2 r ⟨128 + l.val, by omega⟩) = y (ix2 r l) :=
  concatenate_pair_apply_right 1 x y h _ rfl rfl _ (fun b hb => match b with | 0 => rfl | 1 => absurd rfl hb) (Nat.add_comm _ _)

/-- A sum of 256 terms is the sum of its halves. -/
theorem sum_halves (f : Fin 256 → EReal) :
    ∑ k, f k = (∑ k : Fin 128, f ⟨k.val, by omega⟩) + ∑ k : Fin 128, f ⟨128 + k.val, by omega⟩ :=
  Fin.sum_univ_add (a := 128) (b := 128) f

/-- A sum of products whose left factor is zero off a window of lanes is the sum over the window. -/
theorem sum_lanes {W : ℕ} (lo : ℕ) (hlo : lo + W ≤ 128) (m : Fin 128 → BitVec 1)
    (hm : ∀ l : Fin 128, m l = if lo ≤ l.val ∧ l.val < lo + W then 1#1 else 0#1) (x y : Fin 128 → EReal) :
    ∑ l, Scalar.select (m l) (x l) 0 * y l = ∑ d : Fin W, x ⟨lo + d.val, by omega⟩ * y ⟨lo + d.val, by omega⟩ := by
  rw [sum_window lo hlo]
  · refine Finset.sum_congr rfl fun d _ => ?_
    rw [hm, if_pos ⟨by simp, by simp⟩]; rfl
  · intro l hl
    rw [hm, if_neg hl]
    exact zero_mul _

/-- One logit: the head's lanes of query and key, and its lanes of the two features. -/
def logit (Q K : Fin 2048 → Fin 128 → EReal) (A B : Fin 2048 → Fin 128 → EReal) (p : Fin 4) (hd : Fin 2) (r c : Fin 2048) : EReal :=
  (∑ d : Fin 64, Q r ⟨64 * hd.val + d.val, by omega⟩ * K c ⟨64 * hd.val + d.val, by omega⟩)
    + ∑ e : Fin 16, A r ⟨16 * (2 * p.val + hd.val) + e.val, by omega⟩ * B c ⟨16 * (2 * p.val + hd.val) + e.val, by omega⟩

theorem scores_apply (p : Fin 4) (hd : Fin 2) (n : ℕ)
    (q : Vec Ideal S1x1x256x128 .bf16) (a : Vec Ideal S1x256x128 .bf16)
    (k : Vec Ideal ⟨4, ![1, 1, n, 128]⟩ .bf16) (b : Vec Ideal ⟨3, ![1, n, 128]⟩ .bf16) (r : Fin 256) (c : Fin n) :
    scores (BitVec.ofNat 32 p.val) hd n q a k b (ix2 r c)
      = (∑ d : Fin 64, q (ix4 0 0 r ⟨64 * hd.val + d.val, by omega⟩) * k (ix4 0 0 c ⟨64 * hd.val + d.val, by omega⟩))
        + ∑ e : Fin 16, a (ix3 0 r ⟨16 * (2 * p.val + hd.val) + e.val, by omega⟩) * b (ix3 0 c ⟨16 * (2 * p.val + hd.val) + e.val, by omega⟩) := by
  unfold scores
  rw [ix2_eq_valueIdx]
  refine (Ideal.matmul_transposedRhs_apply none _ _ _ r c).trans ?_
  rw [← ix2_eq_valueIdx, sum_halves]
  simp only [← ix2_eq_valueIdx, beside_left, beside_right, block_apply, rows_apply]
  rw [zero_constant, zero_add]
  congr 1
  · refine (Finset.sum_congr rfl fun l _ => ?_).trans (sum_lanes (64 * hd.val) (W := 64) (by omega) (fun l => headLanes hd (ix2 r l)) (fun l => ?_)
      (fun l => q (ix4 0 0 r l)) fun l => k (ix4 0 0 c l))
    · rw [ValueIdx.select_apply, zeroLanes_apply, block_apply n]; congr 2; exact block_apply 256 q _ r l
    · rw [headLanes_apply]; congr 1; apply propext; omega
  · refine (Finset.sum_congr rfl fun l _ => ?_).trans (sum_lanes (16 * (2 * p.val + hd.val)) (W := 16) (by omega)
      (fun l => ownLanes (ownLow (BitVec.ofNat 32 p.val) hd) (ix2 r l)) (fun l => ?_) (fun l => a (ix3 0 r l)) fun l => b (ix3 0 c l))
    · rw [ValueIdx.select_apply, zeroLanes_apply, rows_apply n]; congr 2; exact rows_apply 256 a _ r l
    · rw [ownLanes_apply]; congr 1; apply propext; omega

end Cert.FoxIdeal.Val

end
-- ==== Proof.FoxWeights.lean ====
/- The kernel's weights read at an index: the masked scores, their row maximum, and the powers of two. -/
module

public import proofs.«01_k».proof.Proof.FoxScores
public import Idealize.ShloMosaic.Lib.WordCmp

@[expose] public section

set_option maxRecDepth 16384

noncomputable section

namespace Cert.FoxIdeal.Val

open Cert.FoxIdeal Cert.FoxIdeal.Gen Idealize.ShloMosaic Idealize.ShloMosaic.TcCoe Idealize.SL.Sem

/-- The masked scores of query block `q`: minus infinity at the keys after the query. -/
def masked (q : ℕ) (s : FVec Ideal (Mat 256 (256 * (q + 1))) .f32) (r : Fin 256) (c : Fin (256 * (q + 1))) : EReal :=
  if c.val ≤ 256 * q + r.val then s (ix2 r c) else ⊥

theorem causal_apply (r c : Fin 256) : causal (ix2 r c) = if c.val ≤ r.val then 1#1 else 0#1 := by
  pointwise [causal]
  rw [WordCmp.cmpi_sle_ofNat (by omega) (by omega)]
  by_cases h : c.val ≤ r.val <;> simp [h]

theorem lastBlock_apply (q : ℕ) (s : FVec Ideal (Mat 256 (256 * (q + 1))) .f32) (r c : Fin 256) :
    lastBlock q s (ix2 r c) = s (ix2 r ⟨256 * q + c.val, by omega⟩) := by
  match q with
  | 0 => exact congrArg s (congrArg (ix2 r) (Fin.ext (by simp)))
  | q + 1 =>
    exact extractStridedSlice_apply _ _ (slices_last (q + 1)) _ _ fun a => match a with | 0 => (Nat.zero_add _).symm | 1 => rfl

theorem minus_infinity : Ideal.ofBits .f32 0xFF800000#32 = ⊥ := by
  simp [Ideal.ofBits, Ideal.ieee]

theorem mask_value : (Named.named κ "mask" 0xF149F2CA#32 : Ideal .f32) = ⊥ :=
  IdealRules.named_const.ideal_named_scalar _ _ _ _ rfl

theorem diagonal_apply (q : ℕ) (s : FVec Ideal (Mat 256 (256 * (q + 1))) .f32) (r c : Fin 256) :
    diagonal q s (ix2 r c) = masked q s r ⟨256 * q + c.val, by omega⟩ := by
  unfold diagonal masked
  rw [ValueIdx.select_apply, causal_apply, lastBlock_apply]
  by_cases h : c.val ≤ r.val
  · rw [if_pos h, if_pos (by simpa using h)]; rfl
  · rw [if_neg h, if_neg (by simpa using h)]; exact mask_value

theorem tile_apply (q : ℕ) (s : FVec Ideal (Mat 256 (256 * (q + 1))) .f32) (i : Fin (2 * q + 2)) (r : Fin 256) (l : Fin 128) :
    tile q s i (ix2 r l) = masked q s r ⟨128 * i.val + l.val, by omega⟩ := by
  unfold tile
  by_cases h : i.val < 2 * q
  · rw [dif_pos h, masked, if_pos (by simp; omega)]
    exact extractStridedSlice_apply _ _ _ _ _ fun a => match a with | 0 => (Nat.zero_add _).symm | 1 => rfl
  · rw [dif_neg h]
    refine (extractStridedSlice_apply _ _ _ _ (ix2 r ⟨128 * (i.val - 2 * q) + l.val, by omega⟩) fun a => match a with | 0 => (Nat.zero_add _).symm | 1 => rfl).trans ?_
    rw [diagonal_apply]
    congr 2; simp; omega

section Max
variable {N : ℕ} (T : Fin (N + 1) → FVec Ideal S256x128 .f32)

theorem maxTiles_ge (j : S256x128.Idx) : (k : ℕ) → (hk : k < N + 1) → (i : Fin (N + 1)) → i.val ≤ k → T i j ≤ maxTiles T k hk j
  | 0, hk, i, hi => by
    have e : i = ⟨0, hk⟩ := Fin.ext (by simpa using hi)
    rw [e]; exact le_refl (T _ j)
  | k + 1, hk, i, hi => by
    rcases Nat.lt_or_ge i.val (k + 1) with h | h
    · exact (maxTiles_ge j k (by omega) i (by omega)).trans (le_max_left (α := EReal) _ _)
    · have e : i = ⟨k + 1, hk⟩ := Fin.ext (by simp; omega)
      rw [e]; exact le_max_right (α := EReal) _ _

theorem maxTiles_mem (j : S256x128.Idx) : (k : ℕ) → (hk : k < N + 1) → ∃ i, maxTiles T k hk j = T i j
  | 0, hk => ⟨_, rfl⟩
  | k + 1, hk => by
    rcases max_choice (α := EReal) (maxTiles T k (by omega) j) (T ⟨k + 1, hk⟩ j) with h | h
    · obtain ⟨i, hi⟩ := maxTiles_mem j k (by omega)
      exact ⟨i, Eq.trans h hi⟩
    · exact ⟨_, h⟩

theorem rowMax_eq_sup (r : Fin 256) (z : Fin 1) :
    rowMax T (ix2 r z) = Finset.univ.sup fun l : Fin 128 => (maxTiles T N (by omega) (ix2 r l) : EReal) := by
  pointwise [rowMax]
  rw [minus_infinity]; rfl

theorem rowMax_ge (r : Fin 256) (z : Fin 1) (i : Fin (N + 1)) (l : Fin 128) : (T i (ix2 r l) : EReal) ≤ rowMax T (ix2 r z) := by
  rw [rowMax_eq_sup]
  exact (maxTiles_ge T _ N _ i (by omega)).trans (Finset.le_sup (f := fun l : Fin 128 => (maxTiles T N (by omega) (ix2 r l) : EReal)) (Finset.mem_univ l))

theorem rowMax_mem (r : Fin 256) (z : Fin 1) : ∃ i l, (rowMax T (ix2 r z) : EReal) = T i (ix2 r l) := by
  obtain ⟨l, -, hl⟩ := Finset.exists_mem_eq_sup Finset.univ ⟨(0 : Fin 128), Finset.mem_univ _⟩ fun l : Fin 128 => (maxTiles T N (by omega) (ix2 r l) : EReal)
  obtain ⟨i, hi⟩ := maxTiles_mem T (ix2 r l) N (by omega)
  exact ⟨i, l, (rowMax_eq_sup T r z).trans (Eq.trans hl hi)⟩

theorem expTile_apply (i : Fin (N + 1)) (r : Fin 256) (l : Fin 128) :
    expTile T i (ix2 r l) = Ideal.exp2 (T i (ix2 r l) - rowMax T (ix2 r 0)) := by
  pointwise [expTile]
  rfl
end Max

/-- The row maximum of the masked scores. -/
def rowTop (q : ℕ) (s : FVec Ideal (Mat 256 (256 * (q + 1))) .f32) (r : Fin 256) : EReal := rowMax (tile q s) (ix2 r 0)

theorem masked_le_rowTop (q : ℕ) (s : FVec Ideal (Mat 256 (256 * (q + 1))) .f32) (r : Fin 256) (c : Fin (256 * (q + 1))) :
    masked q s r c ≤ rowTop q s r := by
  have h := rowMax_ge (tile q s) r 0 ⟨c.val / 128, by omega⟩ ⟨c.val % 128, by omega⟩
  rw [tile_apply] at h
  have e : (⟨128 * (c.val / 128) + c.val % 128, by omega⟩ : Fin (256 * (q + 1))) = c := Fin.ext (Nat.div_add_mod _ _)
  rw [e] at h; exact h

theorem rowTop_mem (q : ℕ) (s : FVec Ideal (Mat 256 (256 * (q + 1))) .f32) (r : Fin 256) : ∃ c, rowTop q s r = masked q s r c := by
  obtain ⟨i, l, h⟩ := rowMax_mem (tile q s) r 0
  exact ⟨_, Eq.trans h (tile_apply q s i r l)⟩

theorem weights_apply (q : ℕ) (s : FVec Ideal (Mat 256 (256 * (q + 1))) .f32) (r : Fin 256) (c : Fin (256 * (q + 1))) :
    weights q (tile q s) (ix2 r c) = Ideal.exp2 (masked q s r c - rowTop q s r) := by
  unfold weights
  refine (concatenate_ofFn_apply (t := Mat 256 (256 * (q + 1))) 1 (expTile (tile q s)) _ rfl 128 rfl (ix2 (n1 := 256 * (q + 1)) r c) ⟨c.val / 128, by omega⟩ rfl (ix2 r ⟨c.val % 128, by omega⟩) rfl
    fun b hb => match b with | 0 => rfl | 1 => absurd rfl hb).trans ?_
  rw [expTile_apply, tile_apply]
  have e : (⟨128 * (c.val / 128) + c.val % 128, by omega⟩ : Fin (256 * (q + 1))) = c := Fin.ext (Nat.div_add_mod _ _)
  simp only [e]; rfl

theorem weighted_apply (n : ℕ) (w : FVec Ideal (Mat 256 n) .bf16) (v : Vec Ideal ⟨3, ![1, n, 128]⟩ .bf16) (r : Fin 256) (l : Fin 128) :
    weighted n w v (ix2 r l) = ∑ c : Fin n, w (ix2 r c) * v (ix3 0 c l) := by
  unfold weighted
  rw [ix2_eq_valueIdx]
  refine (Ideal.matmul_plain_apply none _ _ _ r l).trans ?_
  simp only [← ix2_eq_valueIdx]
  rw [zero_constant, zero_add]
  exact Finset.sum_congr rfl fun c _ => congrArg _ (rows_apply n v _ c l)

end Cert.FoxIdeal.Val

end
-- ==== Proof.FoxStores.lean ====
/- What a grid point leaves in its output block: the eight stores of `stores`, over the point's input blocks. -/
module

public import proofs.«01_k».proof.Proof.FoxVocab

@[expose] public section

set_option maxRecDepth 65536

noncomputable section

namespace Cert.FoxIdeal.Val

open Cert.FoxIdeal Cert.FoxIdeal.Gen Idealize.ShloMosaic Idealize.ShloMosaic.TcCoe Idealize.SL.Sem
open Idealize.ShloMosaic.Pipeline (Dat)

variable (m : (ℓ : Loc nD τ sig) → Buf (Elt Ideal) ℓ)

/-- The point's pair of heads. -/
def pairOf (t : Fin cfg0.N) : BitVec 32 := BitVec.ofNat 32 (grid0.coords t 1).val

theorem run_stores (c : Dev nD) (i : grid0.Coords) (arg2 : Memref sig .tc .vmem S1x1x2048x128 .bf16) (harg2 : arg2.IsWhole) (arg3 : Memref sig .tc .vmem S1x1x2048x128 .bf16) (harg3 : arg3.IsWhole) (arg4 : Memref sig .tc .vmem S1x1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x1x2048x128 .bf16) (harg7 : arg7.IsWhole) (arg8 : Memref sig .tc .vmem S2x2048x128 .bf16) (harg8 : arg8.IsWhole)
    (x0 : Vec Ideal S1x1x2048x128 .bf16) (x1 : Vec Ideal S1x1x2048x128 .bf16) (x2 : Vec Ideal S1x1x2048x128 .bf16) (x3 : Vec Ideal S1x2048x128 .bf16) (x4 : Vec Ideal S1x2048x128 .bf16) :
    (kernelRun0_A c i arg2 harg2 arg3 harg3 arg4 harg4 arg5 harg5 arg6 harg6 arg7 harg7 arg8 harg8 x0 x1 x2 x3 x4).1
      = stores arg8.view (BitVec.ofNat 32 (i 1).val) (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) := by
  unfold kernelRun0_A stores
  dsimp only
  refine congrArg₂ List.cons ?_ (congrArg₂ List.cons ?_ (congrArg₂ List.cons ?_ (congrArg₂ List.cons ?_ (congrArg₂ List.cons ?_ (congrArg₂ List.cons ?_ (congrArg₂ List.cons ?_ (congrArg₂ List.cons ?_ rfl)))))))
  all_goals sl_kernel_rfl

theorem outs_eq (c : Dev nD) (t : Fin cfg0.N) :
    outsAt0 m c t = View.canon (stores scM0_0.view (pairOf t) (iblk m c 0 t) (iblk m c 1 t) (iblk m c 2 t) (iblk m c 3 t) (iblk m c 4 t)) := by
  unfold outsAt0 out0_A_5
  rw [View.read_writes_eq_canon _ _ _ (cover0_A_5 c _ _ _ _ _ _ _ _ _ _ _ _ _ _ _ _ _ _ _ _), run_stores]
  simp only [Memref.IsWhole.read_unread]
  rfl

end Cert.FoxIdeal.Val

end
-- ==== Proof.FoxMath.lean ====
/- The row-wise mathematics: a base-two softmax over the keys up to the query, divided once at the end, is the causal
   softmax over all the keys. -/
module

public import Idealize.ShloMosaic.PureOps.Ideal
public import Idealize.ShloMosaic.PureOps.Ideal.Laws
public import Idealize.ShloMosaic.Lib.FinSumWindow

@[expose] public section

noncomputable section

namespace Cert.Fox

open Idealize.ShloMosaic
open Idealize.ShloMosaic.FinSumWindow (sum_window)

/-- The causal logits in natural units. -/
def natural {N : ℕ} (R : Fin N) (y : Fin N → EReal) (c : Fin N) : EReal := if c.val ≤ R.val then y c * Ideal.log 2 else ⊥

/-- The largest of the causal logits. -/
def largest {N : ℕ} (R : Fin N) (y : Fin N → EReal) : EReal := Finset.univ.fold max ⊥ (natural R y)

/-- The causal softmax's row times the values. -/
def attend {N : ℕ} (R : Fin N) (y v : Fin N → EReal) : EReal :=
  ∑ c, Ideal.div (Ideal.exp (natural R y c - largest R y)) (∑ k, Ideal.exp (natural R y k - largest R y)) * v c

/-- The weights as real numbers: powers of two up to the query, zero after it. -/
def weight {N : ℕ} (R : Fin N) (y : Fin N → ℝ) (t : ℝ) (c : Fin N) : ℝ := if c.val ≤ R.val then 2 ^ (y c - t) else 0

theorem weight_nonneg {N : ℕ} (R : Fin N) (y : Fin N → ℝ) (t : ℝ) (c : Fin N) : 0 ≤ weight R y t c := by
  unfold weight; split
  · exact Real.rpow_nonneg (by norm_num) _
  · exact le_refl 0

theorem exp2_weight {N : ℕ} (R : Fin N) (y : Fin N → ℝ) (t : ℝ) (c : Fin N) :
    Ideal.exp2 ((if c.val ≤ R.val then (y c : EReal) else ⊥) - (t : EReal)) = (weight R y t c : EReal) := by
  unfold weight; split
  · rw [← EReal.coe_sub]; rfl
  · rw [EReal.bot_sub]; rfl

theorem log_two : Ideal.log 2 = ((Real.log 2 : ℝ) : EReal) := by
  show Ideal.log ((2 : ℝ) : EReal) = _
  rw [Ideal.log_coe, if_neg (by norm_num)]

theorem exp_weight {N : ℕ} (R : Fin N) (y : Fin N → ℝ) (t : ℝ) (c : Fin N) :
    Ideal.exp (natural R (fun c => (y c : EReal)) c - ((t * Real.log 2 : ℝ) : EReal)) = (weight R y t c : EReal) := by
  unfold weight natural; split
  · rw [log_two, ← EReal.coe_mul, ← EReal.coe_sub, ← sub_mul, mul_comm, Real.rpow_def_of_pos (by norm_num)]; rfl
  · rw [EReal.bot_sub]; rfl

theorem largest_eq {N : ℕ} (R : Fin N) (y : Fin N → ℝ) (k : Fin N) (hk : k.val ≤ R.val) (h : ∀ c : Fin N, c.val ≤ R.val → y c ≤ y k) :
    largest R (fun c => (y c : EReal)) = ((y k * Real.log 2 : ℝ) : EReal) := by
  have hl : 0 ≤ Real.log 2 := Real.log_nonneg (by norm_num)
  unfold largest
  refine le_antisymm (Finset.fold_max_le _ |>.2 ⟨bot_le, fun c _ => ?_⟩) (Finset.le_fold_max _ |>.2 (.inr ⟨k, Finset.mem_univ _, ?_⟩))
  · unfold natural; split
    · rename_i hc
      rw [log_two, ← EReal.coe_mul]; exact EReal.coe_le_coe_iff.2 (mul_le_mul_of_nonneg_right (h c hc) hl)
    · exact bot_le
  · unfold natural; rw [if_pos hk, log_two, ← EReal.coe_mul]

theorem sum_mul_real {ι : Type} (s : Finset ι) (f : ι → EReal) (a : ℝ) (ha : 0 ≤ a) : (∑ c ∈ s, f c) * (a : EReal) = ∑ c ∈ s, f c * (a : EReal) := by
  classical
  induction s using Finset.induction_on with
  | empty => simp
  | insert c s hc ih =>
    rw [Finset.sum_insert hc, Finset.sum_insert hc, ← ih]
    exact EReal.right_distrib_of_nonneg_of_ne_top (by exact_mod_cast ha) (EReal.coe_ne_top a) _ _

theorem coe_sum {ι : Type} (s : Finset ι) (f : ι → ℝ) : ((∑ c ∈ s, f c : ℝ) : EReal) = ∑ c ∈ s, (f c : EReal) := by
  classical
  induction s using Finset.induction_on with
  | empty => simp
  | insert c s hc ih => rw [Finset.sum_insert hc, Finset.sum_insert hc, EReal.coe_add, ih]

/-- A row of the kernel is a row of the softmax. -/
theorem attend_eq {N n : ℕ} (hn : n ≤ N) (R : Fin N) (hR : R.val < n) (y : Fin N → EReal) (hy : ∀ c, ∃ r : ℝ, y c = (r : EReal)) (v : Fin N → EReal)
    (z : Fin n → EReal) (hz : ∀ c : Fin n, z c = if c.val ≤ R.val then y ⟨c.val, by omega⟩ else ⊥)
    (t : EReal) (ht : ∀ c, z c ≤ t) (ht' : ∃ c, t = z c) :
    Ideal.div (∑ c : Fin n, Ideal.exp2 (z c - t) * v ⟨c.val, by omega⟩) (∑ c : Fin n, Ideal.exp2 (z c - t) * 1) = attend R y v := by
  choose x hx using hy
  obtain rfl : y = fun c => (x c : EReal) := funext hx
  obtain ⟨k, hk⟩ := ht'
  have hkR : k.val ≤ R.val := by
    by_contra hc
    have h1 := ht ⟨R.val, hR⟩
    rw [hk, hz, hz, if_neg hc, if_pos (le_refl _)] at h1
    exact EReal.coe_ne_bot _ (le_bot_iff.1 h1)
  have hkt : t = (x ⟨k.val, by omega⟩ : EReal) := by rw [hk, hz, if_pos hkR]
  have hmax : ∀ c : Fin N, c.val ≤ R.val → x c ≤ x ⟨k.val, by omega⟩ := fun c hc => by
    have h1 := ht ⟨c.val, by omega⟩
    rw [hkt, hz, if_pos hc] at h1
    exact EReal.coe_le_coe_iff.1 h1
  set s := x ⟨k.val, by omega⟩ with hs
  have hw : ∀ c : Fin n, Ideal.exp2 (z c - t) = (weight R x s ⟨c.val, by omega⟩ : EReal) := fun c => by
    rw [hkt, hz]; exact exp2_weight R x s ⟨c.val, by omega⟩
  have hoff : ∀ P : Fin N, ¬(0 ≤ P.val ∧ P.val < 0 + n) → weight R x s P = 0 := fun P hP => by
    unfold weight; rw [if_neg (by omega)]
  have hnum : ∑ c : Fin n, Ideal.exp2 (z c - t) * v ⟨c.val, by omega⟩ = ∑ c, (weight R x s c : EReal) * v c := by
    rw [sum_window (W := n) 0 (by omega) (fun c => (weight R x s c : EReal) * v c) fun P hP => by rw [hoff P hP]; simp]
    refine Finset.sum_congr rfl fun c _ => ?_
    rw [hw]; simp only [Nat.zero_add]
  have hden : ∑ c : Fin n, Ideal.exp2 (z c - t) * 1 = ((∑ c, weight R x s c : ℝ) : EReal) := by
    rw [coe_sum, sum_window (W := n) 0 (by omega) (fun c => (weight R x s c : EReal)) fun P hP => by rw [hoff P hP]; simp]
    refine Finset.sum_congr rfl fun c _ => ?_
    rw [hw, mul_one]; simp only [Nat.zero_add]
  have hpos : 0 < ∑ c, weight R x s c :=
    Finset.sum_pos' (fun c _ => weight_nonneg R x s c) ⟨R, Finset.mem_univ _, by unfold weight; rw [if_pos (le_refl _)]; exact Real.rpow_pos_of_pos (by norm_num) _⟩
  have hdiv : ∀ a : EReal, Ideal.div a ((∑ c, weight R x s c : ℝ) : EReal) = a * (((∑ c, weight R x s c)⁻¹ : ℝ) : EReal) := fun a => by
    unfold Ideal.div
    rw [if_neg (by exact_mod_cast hpos.ne'), EReal.coe_inv]
  unfold attend
  rw [hnum, hden, hdiv, sum_mul_real _ _ _ (inv_nonneg.2 hpos.le), largest_eq R x _ hkR hmax]
  simp only [exp_weight]
  rw [← coe_sum]
  refine Finset.sum_congr rfl fun c _ => ?_
  rw [hdiv, mul_right_comm]

end Cert.Fox

end
-- ==== Proof.FoxOut.lean ====
/- The kernel's output block read at an index: the causal softmax of the block's rows. -/
module

public import proofs.«01_k».proof.Proof.FoxWeights
public import proofs.«01_k».proof.Proof.FoxStores
public import proofs.«01_k».proof.Proof.FoxMath
public import Idealize.ShloMosaic.Lib.IdealHost
public import Idealize.ShloMosaic.Lib.Ring
public import Idealize.ShloMosaic.Lib.Pipeline.FrameBody

@[expose] public section

set_option maxRecDepth 16384

noncomputable section

namespace Cert.FoxIdeal.Val

open Cert.FoxIdeal Cert.FoxIdeal.Gen Idealize.ShloMosaic Idealize.ShloMosaic.TcCoe Idealize.SL.Sem

/-- The first head's lanes, in any of the two lane masks. -/
theorem firstHead_apply (r : Fin 256) (l : Fin 128) : firstHead (ix2 r l) = if l.val < 64 then 1#1 else 0#1 := by
  pointwise [firstHead, lanes]
  revert l; decide +kernel

theorem firstHead512_apply (r : Fin 512) (l : Fin 128) : firstHead512 (ix2 r l) = if l.val < 64 then 1#1 else 0#1 := by
  pointwise [firstHead512]
  revert l; decide +kernel

/-- The output of a lane: its head's sum over the sum of the weights, which is in the lane 64 further on. -/
theorem outRows_apply (a : Fin 2 → FVec Ideal S256x128 .f32) (r : Fin 256) (l : Fin 128) :
    outRows (a 0) (a 1) (ix4 0 0 r l)
      = Ideal.div (a ⟨l.val / 64, by omega⟩ (ix2 r l)) (a ⟨l.val / 64, by omega⟩ (ix2 r ⟨(l.val + 64) % 128, by omega⟩)) := by
  pointwise [outRows]
  rw [firstHead_apply, firstHead_apply]
  have e : (⟨(l.val + 128 - 64) % 128, by omega⟩ : Fin 128) = ⟨(l.val + 64) % 128, by omega⟩ := Fin.ext (by simp only []; omega)
  rw [e]
  by_cases h : l.val < 64
  · have e0 : (⟨l.val / 64, by omega⟩ : Fin 2) = 0 := Fin.ext (by simp only [Fin.val_zero]; omega)
    rw [if_pos h, if_neg (by simp only []; omega), e0]; rfl
  · have e1 : (⟨l.val / 64, by omega⟩ : Fin 2) = 1 := Fin.ext (by simp only [Fin.val_one]; omega)
    rw [if_neg h, if_pos (by simp only []; omega), e1]; rfl

/-- The scratch of values of head `hd`: the head's values in its lanes, ones in the others. -/
def augmented (V : Fin 2048 → Fin 128 → EReal) (hd : Fin 2) (c : Fin 2048) (l : Fin 128) : EReal := if l.val / 64 = hd.val then V c l else 1

theorem fillRows_apply (hd : Fin 2) (v : Vec Ideal S1x1x512x128 .bf16) (z : Fin 1) (r : Fin 512) (l : Fin 128) :
    fillRows hd v (ix3 z r l) = if l.val / 64 = hd.val then v (ix4 0 0 r l) else 1 := by
  match hd with
  | 0 =>
    pointwise [fillRows, firstHead512_apply, ones512]
    by_cases h : l.val < 64
    · rw [if_pos h, if_pos (by omega)]; rfl
    · rw [if_neg h, if_neg (by omega)]; rfl
  | 1 =>
    pointwise [fillRows, firstHead512_apply, ones512]
    by_cases h : l.val < 64
    · rw [if_pos h, if_neg (by omega)]; rfl
    · rw [if_neg h, if_pos (by omega)]; rfl

/-- The scratch's contents after the eight stores. -/
def filled (V : Vec Ideal S1x1x2048x128 .bf16) (y : S2x2048x128.Idx) : EReal := augmented (fun c l => V (ix4 0 0 c l)) (y 0) (y 1) (y 2)

theorem fillPiece_apply (V : Vec Ideal S1x1x2048x128 .bf16) (hd : Fin 2) (i : Fin 4) (x : S1x512x128.Idx) :
    (fillPiece V hd i).2 x = filled V ((fillPiece V hd i).1.emb x) := by
  obtain ⟨z, r, l, rfl⟩ : ∃ z r l, x = ix3 z r l := ⟨x 0, x 1, x 2, by funext a; match a with | 0 => rfl | 1 => rfl | 2 => rfl⟩
  refine (fillRows_apply hd _ z r l).trans ?_
  have e : (fillPiece V hd i).1.emb (ix3 z r l) = (ix3 hd ⟨512 * i.val + r.val, by omega⟩ l : S2x2048x128.Idx) := by
    funext a; apply Fin.ext
    match a with
    | 0 => show hd.val + 1 * z.val = hd.val; omega
    | 1 => show 512 * i.val + 1 * r.val = 512 * i.val + r.val; omega
    | 2 => show 0 + 1 * l.val = l.val; omega
  rw [e]
  show (if l.val / 64 = hd.val then V _ else 1) = if l.val / 64 = hd.val then V _ else 1
  congr 2
  funext a; apply Fin.ext
  match a with
  | 0 => rfl
  | 1 => rfl
  | 2 => show 512 * i.val + 1 * r.val = 512 * i.val + r.val; omega
  | 3 => show 0 + 1 * l.val = l.val; omega

theorem fill_cover (V : Vec Ideal S1x1x2048x128 .bf16) : ∀ y, ∃ p ∈ fill V, y ∈ p.1.set :=
  View.cover_of_tiledL (fill V) ![1, 512, 128] (by sl_kernel_rfl)

theorem canon_fill (V : Vec Ideal S1x1x2048x128 .bf16) (y : S2x2048x128.Idx) : View.canon (fill V) y = filled V y := by
  refine View.canon_apply_of_pieces (filled V) (fill V) (fun p hp x => ?_) y (fill_cover V y)
  simp only [fill, List.mem_cons, List.not_mem_nil, or_false] at hp
  rcases hp with rfl | rfl | rfl | rfl | rfl | rfl | rfl | rfl <;> exact fillPiece_apply V _ _ x

/-- The values read back from the scratch. -/
theorem readBack_apply {sig : RefSig} {κ : Kind} {sp : Space} (vw : View sig κ sp S2x2048x128 .bf16) (V : Vec Ideal S1x1x2048x128 .bf16)
    (q : Fin 8) (hd : Fin 2) (c : Fin (256 * (q.val + 1))) (l : Fin 128) :
    vw.readCov (fill V) (Rect.unit (s := S2x2048x128) ![hd.val, 0, 0] ![1, 256 * (q.val + 1), 128] (inb_v q hd)).toLoadRect (ix3 0 c l)
      = augmented (fun c l => V (ix4 0 0 c l)) hd ⟨c.val, by have := q.isLt; omega⟩ l := by
  rw [View.readCov_eq_canon_ld vw _ _ (fill_cover V)]
  refine (canon_fill V _).trans ?_
  unfold filled
  congr 1
  · exact Fin.ext (show 0 + 1 * c.val = c.val by omega)
  · exact Fin.ext (show 0 + 1 * l.val = l.val by omega)

end Cert.FoxIdeal.Val

end
-- ==== Proof.FoxPoint.lean ====
/- One grid point's output block: the causal softmax of every row, whatever query block the row is in. -/
module

public import proofs.«01_k».proof.Proof.FoxOut

@[expose] public section

set_option maxRecDepth 16384

noncomputable section

namespace Cert.FoxIdeal.Val

open Cert.FoxIdeal Cert.FoxIdeal.Gen Idealize.ShloMosaic Idealize.ShloMosaic.TcCoe Idealize.SL.Sem
open Cert.Fox (attend attend_eq)

/-- A block of 2048 rows as a function of row and lane. -/
def rows4 (Q : Vec Ideal S1x1x2048x128 .bf16) (r : Fin 2048) (l : Fin 128) : EReal := Q (ix4 0 0 r l)
def rows3 (A : Vec Ideal S1x2048x128 .bf16) (r : Fin 2048) (l : Fin 128) : EReal := A (ix3 0 r l)

/-- The output of a row and a lane, by the softmax. -/
def attended (Q K V A B : Fin 2048 → Fin 128 → EReal) (p : Fin 4) (R : Fin 2048) (l : Fin 128) : EReal :=
  attend R (logit Q K A B p ⟨l.val / 64, by omega⟩ R) fun c => V c l

theorem ld_block (Q : Vec Ideal S1x1x2048x128 .bf16) (o m : ℕ) (h) (r : Fin m) (l : Fin 128) (R : Fin 2048) (hR : R.val = o + r.val) :
    View.ld Q (Rect.unit (s := S1x1x2048x128) ![0, 0, o, 0] ![1, 1, m, 128] h) (ix4 0 0 r l) = rows4 Q R l := by
  refine congrArg Q ?_
  funext a; apply Fin.ext
  match a with
  | 0 => rfl
  | 1 => rfl
  | 2 => show o + 1 * r.val = R.val; omega
  | 3 => show 0 + 1 * l.val = l.val; omega

theorem ld_rows (A : Vec Ideal S1x2048x128 .bf16) (o m : ℕ) (h) (r : Fin m) (l : Fin 128) (R : Fin 2048) (hR : R.val = o + r.val) :
    View.ld A (Rect.unit (s := S1x2048x128) ![0, o, 0] ![1, m, 128] h) (ix3 0 r l) = rows3 A R l := by
  refine congrArg A ?_
  funext a; apply Fin.ext
  match a with
  | 0 => rfl
  | 1 => show o + 1 * r.val = R.val; omega
  | 2 => show 0 + 1 * l.val = l.val; omega

variable (p : Fin 4) (Q K V : Vec Ideal S1x1x2048x128 .bf16) (A B : Vec Ideal S1x2048x128 .bf16)

theorem blockScores_apply (q : Fin 8) (hd : Fin 2) (r : Fin 256) (c : Fin (256 * (q.val + 1))) (R C : Fin 2048)
    (hR : R.val = 256 * q.val + r.val) (hC : C.val = c.val) :
    blockScores (BitVec.ofNat 32 p.val) Q K A B q hd (ix2 r c) = logit (rows4 Q) (rows4 K) (rows3 A) (rows3 B) p hd R C := by
  unfold blockScores
  rw [scores_apply]
  unfold logit
  congr 1
  · exact Finset.sum_congr rfl fun d _ => congrArg₂ (· * ·) (ld_block Q _ _ _ _ _ R hR) (ld_block K _ _ _ _ _ C (by omega))
  · exact Finset.sum_congr rfl fun d _ => congrArg₂ (· * ·) (ld_rows A _ _ _ _ _ R hR) (ld_rows B _ _ _ _ _ C (by omega))

variable {sig : RefSig} {κ : Kind} {sp : Space} (vw : View sig κ sp S2x2048x128 .bf16)

theorem blockSum_apply (q : Fin 8) (hd : Fin 2) (r : Fin 256) (l : Fin 128) :
    blockSum vw (BitVec.ofNat 32 p.val) Q K V A B q hd (ix2 r l)
      = ∑ c : Fin (256 * (q.val + 1)),
          Ideal.exp2 (masked q.val (blockScores (BitVec.ofNat 32 p.val) Q K A B q hd) r c - rowTop q.val (blockScores (BitVec.ofNat 32 p.val) Q K A B q hd) r)
            * augmented (rows4 V) hd ⟨c.val, by have := q.isLt; omega⟩ l := by
  unfold blockSum
  rw [weighted_apply]
  exact Finset.sum_congr rfl fun c _ => congrArg₂ (· * ·) (weights_apply q.val _ r c) (readBack_apply vw V q hd c l)

/-- A stored element is the softmax's. -/
theorem piece_apply (hfin : ∀ hd R C, ∃ x : ℝ, logit (rows4 Q) (rows4 K) (rows3 A) (rows3 B) p hd R C = (x : EReal)) (q : Fin 8)
    (r : Fin 256) (l : Fin 128) (R : Fin 2048) (hR : R.val = 256 * q.val + r.val) :
    outRows (blockSum vw (BitVec.ofNat 32 p.val) Q K V A B q 0) (blockSum vw (BitVec.ofNat 32 p.val) Q K V A B q 1) (ix4 0 0 r l)
      = attended (rows4 Q) (rows4 K) (rows4 V) (rows3 A) (rows3 B) p R l := by
  refine (outRows_apply (fun hd => blockSum vw (BitVec.ofNat 32 p.val) Q K V A B q hd) r l).trans ?_
  have hq := q.isLt
  rw [blockSum_apply, blockSum_apply]
  have h0 : ∀ c, augmented (rows4 V) ⟨l.val / 64, by omega⟩ c l = rows4 V c l := fun c => if_pos rfl
  have h1 : ∀ c, augmented (rows4 V) ⟨l.val / 64, by omega⟩ c ⟨(l.val + 64) % 128, by omega⟩ = 1 := fun c => if_neg (by simp only []; omega)
  simp only [h0, h1]
  exact attend_eq (n := 256 * (q.val + 1)) (by omega) R (by omega) (logit (rows4 Q) (rows4 K) (rows3 A) (rows3 B) p ⟨l.val / 64, by omega⟩ R)
    (hfin _ R) (fun c => rows4 V c l) _ (fun c => by
      unfold masked
      rw [hR, blockScores_apply p Q K A B q _ r c R ⟨c.val, by omega⟩ hR rfl]) _
    (masked_le_rowTop q.val _ r) (rowTop_mem q.val _ r)

theorem stores_apply (hfin : ∀ hd R C, ∃ x : ℝ, logit (rows4 Q) (rows4 K) (rows3 A) (rows3 B) p hd R C = (x : EReal)) (y : S1x1x2048x128.Idx) :
    View.canon (stores vw (BitVec.ofNat 32 p.val) Q K V A B) y
      = attended (rows4 Q) (rows4 K) (rows4 V) (rows3 A) (rows3 B) p (y 2) (y 3) := by
  refine View.canon_apply_of_pieces (Val := Elt Ideal) (e := .bf16) (S := S1x1x2048x128) (fun y => attended (rows4 Q) (rows4 K) (rows4 V) (rows3 A) (rows3 B) p (y 2) (y 3)) _
    (fun w hw x => ?_) y (View.cover_of_tiledL _ ![1, 1, 256, 128] (by sl_kernel_rfl) y)
  have key : ∀ q : Fin 8, ∀ x : S1x1x256x128.Idx, (piece vw (BitVec.ofNat 32 p.val) Q K V A B q).2 x
      = attended (rows4 Q) (rows4 K) (rows4 V) (rows3 A) (rows3 B) p ((piece vw (BitVec.ofNat 32 p.val) Q K V A B q).1.emb x 2)
          ((piece vw (BitVec.ofNat 32 p.val) Q K V A B q).1.emb x 3) := fun q x => by
    obtain ⟨z, z', r, l, rfl⟩ : ∃ z z' r l, x = ix4 z z' r l := ⟨x 0, x 1, x 2, x 3, by funext a; match a with | 0 => rfl | 1 => rfl | 2 => rfl | 3 => rfl⟩
    obtain rfl : z = 0 := Subsingleton.elim _ _
    obtain rfl : z' = 0 := Subsingleton.elim _ _
    have hq := q.isLt
    refine (piece_apply p Q K V A B vw hfin q r l ⟨256 * q.val + r.val, by omega⟩ rfl).trans ?_
    congr 1
    · exact Fin.ext (show 256 * q.val + r.val = 256 * q.val + 1 * r.val by omega)
    · exact Fin.ext (show l.val = 0 + 1 * l.val by omega)
  simp only [stores, List.mem_cons, List.not_mem_nil, or_false] at hw
  rcases hw with rfl | rfl | rfl | rfl | rfl | rfl | rfl | rfl <;> exact key _ x

end Cert.FoxIdeal.Val

end
-- ==== Proof.FoxArray.lean ====
/- The kernel's result array: each grid point writes its pair of heads of one batch row, and the blocks tile the array. -/
module

public import proofs.«01_k».proof.Proof.FoxPoint

@[expose] public section

set_option maxRecDepth 16384

noncomputable section

namespace Cert.FoxIdeal.Val

open Cert.FoxIdeal Cert.FoxIdeal.Gen Cert.FoxIdeal.Value Idealize.ShloMosaic Idealize.ShloMosaic.TcCoe Idealize.SL.Sem
open Idealize.ShloMosaic.Pipeline (Dat)

/-- One batch row's pair of heads, as a function of row and lane. -/
def heads (x : FVec Ideal S32x4x2048x128 .bf16) (b : Fin 32) (p : Fin 4) (r : Fin 2048) (l : Fin 128) : EReal := x (ix4 b p r l)

/-- One batch row's features, as a function of row and lane. -/
def feats (x : FVec Ideal S65536x128 .bf16) (b : Fin 32) (r : Fin 2048) (l : Fin 128) : EReal := x (ix2 ⟨b.val * 2048 + r.val, by omega⟩ l)

/-- The attention's result from the call's arguments. -/
def attention (q k v : FVec Ideal S32x4x2048x128 .bf16) (a f : FVec Ideal S65536x128 .bf16) : FVec Ideal S32x4x2048x128 .bf16 := fun i =>
  attended (heads q (i 0) (i 1)) (heads k (i 0) (i 1)) (heads v (i 0) (i 1)) (feats a (i 0)) (feats f (i 0)) (i 1) (i 2) (i 3)

/-- Every logit is a real number. -/
def FiniteLogits (q k : FVec Ideal S32x4x2048x128 .bf16) (a f : FVec Ideal S65536x128 .bf16) : Prop :=
  ∀ b p hd R C, ∃ x : ℝ, logit (heads q b p) (heads k b p) (feats a b) (feats f b) p hd R C = (x : EReal)

variable (m : (ℓ : Loc nD τ sig) → Buf (Elt Ideal) ℓ) (ρ : Dev nD → PrngReg) (c : Dev nD)

/-- The point's batch row and pair of heads. -/
def batchAt (t : Fin cfg0.N) : Fin 32 := grid0.coords t 0
def pairAt (t : Fin cfg0.N) : Fin 4 := grid0.coords t 1

theorem index_heads : ∀ t : Fin grid0.N,
    (win0_0.index t 0 = (grid0.coords t 0).val ∧ win0_0.index t 1 = (grid0.coords t 1).val ∧ win0_0.index t 2 = 0 ∧ win0_0.index t 3 = 0)
    ∧ (win0_1.index t 0 = (grid0.coords t 0).val ∧ win0_1.index t 1 = (grid0.coords t 1).val ∧ win0_1.index t 2 = 0 ∧ win0_1.index t 3 = 0)
    ∧ (win0_2.index t 0 = (grid0.coords t 0).val ∧ win0_2.index t 1 = (grid0.coords t 1).val ∧ win0_2.index t 2 = 0 ∧ win0_2.index t 3 = 0)
    ∧ (win0_5.index t 0 = (grid0.coords t 0).val ∧ win0_5.index t 1 = (grid0.coords t 1).val ∧ win0_5.index t 2 = 0 ∧ win0_5.index t 3 = 0) := by
  decide +kernel

theorem index_feats : ∀ t : Fin grid0.N,
    (win0_3.index t 0 = (grid0.coords t 0).val ∧ win0_3.index t 1 = 0 ∧ win0_3.index t 2 = 0)
    ∧ (win0_4.index t 0 = (grid0.coords t 0).val ∧ win0_4.index t 1 = 0 ∧ win0_4.index t 2 = 0) := by
  decide +kernel

/-- Every batch row and pair of heads is a point's. -/
theorem point_of (b : Fin 32) (p : Fin 4) : ∃ t : Fin grid0.N, grid0.coords t 0 = b ∧ grid0.coords t 1 = p := by
  have h : ∀ (b : Fin 32) (p : Fin 4), (grid0.coords (⟨4 * b.val + p.val, (by omega : 4 * b.val + p.val < 128)⟩ : Fin grid0.N) 0).val = b.val
      ∧ (grid0.coords (⟨4 * b.val + p.val, (by omega : 4 * b.val + p.val < 128)⟩ : Fin grid0.N) 1).val = p.val := by decide +kernel
  exact ⟨_, Fin.ext (h b p).1, Fin.ext (h b p).2⟩

theorem emb5 (t : Fin cfg0.N) (j : S1x1x2048x128.Idx) :
    ((cfg0.win 5).blk t).view.emb j = (ix4 (batchAt t) (pairAt t) (j 2) (j 3) : S32x4x2048x128.Idx) := by
  obtain ⟨e0, e1, e2, e3⟩ := (index_heads t).2.2.2
  have h0 : (j 0).val < 1 := (j 0).isLt
  have h1 : (j 1).val < 1 := (j 1).isLt
  funext a; apply Fin.ext
  match a with
  | 0 => show win0_5.index t 0 * 1 + 1 * (j 0).val = (grid0.coords t 0).val; omega
  | 1 => show win0_5.index t 1 * 1 + 1 * (j 1).val = (grid0.coords t 1).val; omega
  | 2 => show win0_5.index t 2 * 2048 + 1 * (j 2).val = (j 2).val; omega
  | 3 => show win0_5.index t 3 * 128 + 1 * (j 3).val = (j 3).val; omega

theorem emb_heads0 (t : Fin cfg0.N) (r : Fin 2048) (l : Fin 128) :
    ((cfg0.win 0).blk t).view.emb (ix4 0 0 r l : S1x1x2048x128.Idx) = (ix4 (batchAt t) (pairAt t) r l : S32x4x2048x128.Idx) := by
  obtain ⟨e0, e1, e2, e3⟩ := (index_heads t).1
  funext a; apply Fin.ext
  match a with
  | 0 => show win0_0.index t 0 * 1 + 1 * 0 = (grid0.coords t 0).val; omega
  | 1 => show win0_0.index t 1 * 1 + 1 * 0 = (grid0.coords t 1).val; omega
  | 2 => show win0_0.index t 2 * 2048 + 1 * r.val = r.val; omega
  | 3 => show win0_0.index t 3 * 128 + 1 * l.val = l.val; omega

theorem emb_heads1 (t : Fin cfg0.N) (r : Fin 2048) (l : Fin 128) :
    ((cfg0.win 1).blk t).view.emb (ix4 0 0 r l : S1x1x2048x128.Idx) = (ix4 (batchAt t) (pairAt t) r l : S32x4x2048x128.Idx) := by
  obtain ⟨e0, e1, e2, e3⟩ := (index_heads t).2.1
  funext a; apply Fin.ext
  match a with
  | 0 => show win0_1.index t 0 * 1 + 1 * 0 = (grid0.coords t 0).val; omega
  | 1 => show win0_1.index t 1 * 1 + 1 * 0 = (grid0.coords t 1).val; omega
  | 2 => show win0_1.index t 2 * 2048 + 1 * r.val = r.val; omega
  | 3 => show win0_1.index t 3 * 128 + 1 * l.val = l.val; omega

theorem emb_heads2 (t : Fin cfg0.N) (r : Fin 2048) (l : Fin 128) :
    ((cfg0.win 2).blk t).view.emb (ix4 0 0 r l : S1x1x2048x128.Idx) = (ix4 (batchAt t) (pairAt t) r l : S32x4x2048x128.Idx) := by
  obtain ⟨e0, e1, e2, e3⟩ := (index_heads t).2.2.1
  funext a; apply Fin.ext
  match a with
  | 0 => show win0_2.index t 0 * 1 + 1 * 0 = (grid0.coords t 0).val; omega
  | 1 => show win0_2.index t 1 * 1 + 1 * 0 = (grid0.coords t 1).val; omega
  | 2 => show win0_2.index t 2 * 2048 + 1 * r.val = r.val; omega
  | 3 => show win0_2.index t 3 * 128 + 1 * l.val = l.val; omega

theorem emb_feats3 (t : Fin cfg0.N) (r : Fin 2048) (l : Fin 128) :
    ((cfg0.win 3).blk t).view.emb (ix3 0 r l : S1x2048x128.Idx) = (ix3 (batchAt t) r l : S32x2048x128.Idx) := by
  obtain ⟨e0, e1, e2⟩ := (index_feats t).1
  funext a; apply Fin.ext
  match a with
  | 0 => show win0_3.index t 0 * 1 + 1 * 0 = (grid0.coords t 0).val; omega
  | 1 => show win0_3.index t 1 * 2048 + 1 * r.val = r.val; omega
  | 2 => show win0_3.index t 2 * 128 + 1 * l.val = l.val; omega

theorem emb_feats4 (t : Fin cfg0.N) (r : Fin 2048) (l : Fin 128) :
    ((cfg0.win 4).blk t).view.emb (ix3 0 r l : S1x2048x128.Idx) = (ix3 (batchAt t) r l : S32x2048x128.Idx) := by
  obtain ⟨e0, e1, e2⟩ := (index_feats t).2
  funext a; apply Fin.ext
  match a with
  | 0 => show win0_4.index t 0 * 1 + 1 * 0 = (grid0.coords t 0).val; omega
  | 1 => show win0_4.index t 1 * 2048 + 1 * r.val = r.val; omega
  | 2 => show win0_4.index t 2 * 128 + 1 * l.val = l.val; omega

/-- The features as the region finds them: the argument's rows, one batch row after the other. -/
theorem rows_split (x : FVec Ideal S65536x128 .bf16) (h : S65536x128.ShapeCasts S32x2048x128) (b : Fin 32) (r : Fin 2048) (l : Fin 128) :
    shapeCast S32x2048x128 x h (ix3 b r l) = feats x b r l := by
  refine shapeCast_apply x h _ _ ?_
  rw [Shape.rowMajor_val_two, Shape.rowMajor_val_three]
  rfl

theorem V_main_v0 : V m c main_v0 = shapeCast S32x2048x128 (m ((c : Thread nD τ).loc main_arg3)) shapeCasts_S65536x128_S32x2048x128 := by
  show StableHlo.after hostOps0 _ _ = _
  simp only [hostOps0]
  after_results
  rfl

theorem V_main_v1 : V m c main_v1 = shapeCast S32x2048x128 (m ((c : Thread nD τ).loc main_arg4)) shapeCasts_S65536x128_S32x2048x128 := by
  show StableHlo.after hostOps0 _ _ = _
  simp only [hostOps0]
  after_results
  rfl

theorem block0 (t : Fin cfg0.N) : rows4 (iblk m c 0 t) = heads (m ((c : Thread nD τ).loc main_arg0)) (batchAt t) (pairAt t) := by
  funext r l
  show V m c main_arg0 (((cfg0.win 0).blk t).view.emb (ix4 0 0 r l : S1x1x2048x128.Idx)) = _
  rw [emb_heads0, V_main_arg0]; rfl

theorem block1 (t : Fin cfg0.N) : rows4 (iblk m c 1 t) = heads (m ((c : Thread nD τ).loc main_arg1)) (batchAt t) (pairAt t) := by
  funext r l
  show V m c main_arg1 (((cfg0.win 1).blk t).view.emb (ix4 0 0 r l : S1x1x2048x128.Idx)) = _
  rw [emb_heads1, V_main_arg1]; rfl

theorem block2 (t : Fin cfg0.N) : rows4 (iblk m c 2 t) = heads (m ((c : Thread nD τ).loc main_arg2)) (batchAt t) (pairAt t) := by
  funext r l
  show V m c main_arg2 (((cfg0.win 2).blk t).view.emb (ix4 0 0 r l : S1x1x2048x128.Idx)) = _
  rw [emb_heads2, V_main_arg2]; rfl

theorem block3 (t : Fin cfg0.N) : rows3 (iblk m c 3 t) = feats (m ((c : Thread nD τ).loc main_arg3)) (batchAt t) := by
  funext r l
  show V m c main_v0 (((cfg0.win 3).blk t).view.emb (ix3 0 r l : S1x2048x128.Idx)) = _
  rw [emb_feats3, V_main_v0]; exact rows_split _ _ _ _ _

theorem block4 (t : Fin cfg0.N) : rows3 (iblk m c 4 t) = feats (m ((c : Thread nD τ).loc main_arg4)) (batchAt t) := by
  funext r l
  show V m c main_v1 (((cfg0.win 4).blk t).view.emb (ix3 0 r l : S1x2048x128.Idx)) = _
  rw [emb_feats4, V_main_v1]; exact rows_split _ _ _ _ _

/-- The attention of the launched arguments. -/
def result : FVec Ideal S32x4x2048x128 .bf16 :=
  attention (m ((c : Thread nD τ).loc main_arg0)) (m ((c : Thread nD τ).loc main_arg1)) (m ((c : Thread nD τ).loc main_arg2))
    (m ((c : Thread nD τ).loc main_arg3)) (m ((c : Thread nD τ).loc main_arg4))

def FiniteAt : Prop :=
  FiniteLogits (m ((c : Thread nD τ).loc main_arg0)) (m ((c : Thread nD τ).loc main_arg1)) (m ((c : Thread nD τ).loc main_arg3)) (m ((c : Thread nD τ).loc main_arg4))

theorem flushed_eq (hfin : FiniteAt m c) (t : Fin cfg0.N) :
    (dats m 0 c).flushed 5 t = ((cfg0.win 5).blk t).view.read (Elt Ideal) (result m c) := by
  rw [flushed5, outs_eq]
  funext j
  show View.canon (Val := Elt Ideal) (e := .bf16) _ (j : S1x1x2048x128.Idx) = result m c (((cfg0.win 5).blk t).view.emb j)
  rw [emb5]
  refine (stores_apply (pairAt t) _ _ _ _ _ scM0_0.view (fun hd R C => ?_) j).trans ?_
  · rw [block0, block1, block3, block4]; exact hfin _ _ _ _ _
  · rw [block0, block1, block2, block3, block4]; rfl

theorem covered (i : S32x4x2048x128.Idx) : ∃ t : Fin cfg0.N, (cfg0.win 5).flush t = true ∧ i ∈ ((cfg0.win 5).blk t).view.set := by
  obtain ⟨t, h0, h1⟩ := point_of (i 0) (i 1)
  refine ⟨t, flush0_5 t, ?_⟩
  have h := ((cfg0.win 5).blk t).view.emb_mem_set (ix4 0 0 (i 2) (i 3) : S1x1x2048x128.Idx)
  rw [emb5] at h
  have e : (ix4 (batchAt t) (pairAt t) (i 2) (i 3) : S32x4x2048x128.Idx) = i := by
    funext a
    match a with
    | 0 => exact h0
    | 1 => exact h1
    | 2 => rfl
    | 3 => rfl
  exact e ▸ h

theorem final (hfin : FiniteAt m c) : (dats m 0 c).arrAt 5 cfg0.N = result m c :=
  (dats m 0 c).arrAt_eq_of_cover 5 (result m c) (fun t _ => flushed_eq m c hfin t) covered

end Cert.FoxIdeal.Val

end
-- ==== Proof.FoxReference.lean ====
/- The reference's result read at an index: the same causal softmax of the same logits. -/
module

public import proofs.«01_k».proof.Proof.FoxArray
public import proofs.«01_k».proof.Proof.Gen.FoxRefIdeal.Read

@[expose] public section

set_option maxRecDepth 16384

noncomputable section

namespace Cert.FoxRefIdeal.Val

open Cert.FoxRefIdeal Cert.FoxRefIdeal.Gen Cert.FoxRefIdeal.Read Idealize.ShloMosaic Idealize.ShloMosaic.TcCoe Idealize.SL.Sem
open Cert.FoxIdeal.Val (heads feats logit attended attention)
open Cert.Fox (natural largest attend)

/-- Head `hd` of pair `p`. -/
abbrev headOf (p : Fin 4) (hd : Fin 2) : Fin 8 := ⟨2 * p.val + hd.val, by omega⟩

variable (x0 x1 x2 : FVec Ideal S32x4x2048x128 .bf16) (x3 x4 : FVec Ideal S65536x128 .bf16)
variable (b : Fin 32) (p : Fin 4) (hd : Fin 2) (R c : Fin 2048)

/-- The flat place of a head's lane. -/
abbrev flat (d : Fin 64) : ℕ := ((b.val * 8 + (2 * p.val + hd.val)) * 2048 + R.val) * 64 + d.val

theorem idx3 (d : Fin 64) : idx_main_v3 (ix4 b (headOf p hd) R d) = ix5 b p hd R d := by
  funext a; apply Fin.ext
  match a with
  | 0 => show flat b p hd R d / 1048576 = b.val; unfold flat; omega
  | 1 => show flat b p hd R d / 262144 % 4 = p.val; unfold flat; omega
  | 2 => show flat b p hd R d / 131072 % 2 = hd.val; unfold flat; omega
  | 3 => show flat b p hd R d / 64 % 2048 = R.val; unfold flat; omega
  | 4 => show flat b p hd R d % 64 = d.val; unfold flat; omega

theorem idx2 (d : Fin 64) : idx_main_v2 (ix5 b p hd R d) = ix5 b p R hd d := by
  funext a; match a with | 0 => rfl | 1 => rfl | 2 => rfl | 3 => rfl | 4 => rfl

theorem idx1 (d : Fin 64) : idx_main_v1 (ix5 b p R hd d) = ix4 b p R ⟨64 * hd.val + d.val, by omega⟩ := by
  funext a; apply Fin.ext
  match a with
  | 0 => show ((((b.val * 4 + p.val) * 2048 + R.val) * 2 + hd.val) * 64 + d.val) / 1048576 = b.val; omega
  | 1 => show ((((b.val * 4 + p.val) * 2048 + R.val) * 2 + hd.val) * 64 + d.val) / 262144 % 4 = p.val; omega
  | 2 => show ((((b.val * 4 + p.val) * 2048 + R.val) * 2 + hd.val) * 64 + d.val) / 128 % 2048 = R.val; omega
  | 3 => show ((((b.val * 4 + p.val) * 2048 + R.val) * 2 + hd.val) * 64 + d.val) % 128 = 64 * hd.val + d.val; omega

theorem v3_at (d : Fin 64) : val_main_v3 (F := Ideal) x0 (ix4 b (headOf p hd) R d) = heads x0 b p R ⟨64 * hd.val + d.val, by omega⟩ := by
  rw [val_main_v3_apply, idx3, val_main_v2_apply, idx2, val_main_v1_apply, idx1, val_main_v0_apply]; rfl

theorem v7_at (d : Fin 64) : val_main_v7 (F := Ideal) x0 (ix4 b (headOf p hd) R d) = heads x0 b p R ⟨64 * hd.val + d.val, by omega⟩ :=
  v3_at x0 b p hd R d

theorem v11_at (d : Fin 64) : val_main_v11 (F := Ideal) x0 (ix4 b (headOf p hd) R d) = heads x0 b p R ⟨64 * hd.val + d.val, by omega⟩ :=
  v3_at x0 b p hd R d

theorem idx15 (e : Fin 16) : idx_main_v15 (ix4 b (headOf p hd) R e) = ix4 b R (headOf p hd) e := by
  funext a; match a with | 0 => rfl | 1 => rfl | 2 => rfl | 3 => rfl

theorem idx14 (e : Fin 16) : idx_main_v14 (ix4 b R (headOf p hd) e)
    = ix2 ⟨b.val * 2048 + R.val, by omega⟩ ⟨16 * (2 * p.val + hd.val) + e.val, by omega⟩ := by
  funext a; apply Fin.ext
  match a with
  | 0 => show (((b.val * 2048 + R.val) * 8 + (2 * p.val + hd.val)) * 16 + e.val) / 128 = b.val * 2048 + R.val; omega
  | 1 => show (((b.val * 2048 + R.val) * 8 + (2 * p.val + hd.val)) * 16 + e.val) % 128 = 16 * (2 * p.val + hd.val) + e.val; omega

theorem v15_at (e : Fin 16) : val_main_v15 (F := Ideal) x3 (ix4 b (headOf p hd) R e) = feats x3 b R ⟨16 * (2 * p.val + hd.val) + e.val, by omega⟩ := by
  rw [val_main_v15_apply, idx15, val_main_v14_apply, idx14, val_main_v13_apply]; rfl

theorem v18_at (e : Fin 16) : val_main_v18 (F := Ideal) x3 (ix4 b (headOf p hd) R e) = feats x3 b R ⟨16 * (2 * p.val + hd.val) + e.val, by omega⟩ :=
  v15_at x3 b p hd R e

/-- The reference's logits. -/
theorem v20_at : val_main_v20 (F := Ideal) x0 x1 x3 x4 (ix4 b (headOf p hd) R c)
    = logit (heads x0 b p) (heads x1 b p) (feats x3 b) (feats x4 b) p hd R c := by
  rw [val_main_v20_apply, val_main_v12_apply, val_main_v19_apply]
  refine congrArg₂ (α := EReal) (β := EReal) (· + ·) (Finset.sum_congr rfl fun d _ => ?_) (Finset.sum_congr rfl fun e _ => ?_)
  · refine congrArg₂ (α := EReal) (β := EReal) (· * ·) (Eq.trans (congrArg _ ?_) (v3_at x0 b p hd R d)) (Eq.trans (congrArg _ ?_) (v7_at x1 b p hd c d))
    · funext a; match a with | 0 => rfl | 1 => rfl | 2 => rfl | 3 => rfl
    · funext a; match a with | 0 => rfl | 1 => rfl | 2 => rfl | 3 => rfl
  · refine congrArg₂ (α := EReal) (β := EReal) (· * ·) (Eq.trans (congrArg _ ?_) (v15_at x3 b p hd R e)) (Eq.trans (congrArg _ ?_) (v18_at x4 b p hd c e))
    · funext a; match a with | 0 => rfl | 1 => rfl | 2 => rfl | 3 => rfl
    · funext a; match a with | 0 => rfl | 1 => rfl | 2 => rfl | 3 => rfl

theorem two_value : Ideal.ofBits .f32 0x40000000#32 = 2 := by
  rw [show (2 : EReal) = ((2 : ℝ) : EReal) by norm_cast]
  simp [Ideal.ofBits, Ideal.ieee, -EReal.coe_mul]; norm_num

/-- The masked logits. -/
theorem v31_at : val_main_v31 (F := Ideal) x0 x1 x3 x4 (ix4 b (headOf p hd) R c)
    = natural R (logit (heads x0 b p) (heads x1 b p) (feats x3 b) (feats x4 b) p hd R) c := by
  rw [val_main_v31_apply, val_main_call0_v1_apply, val_main_v30_apply, val_main_v28_apply, val_main_v25_apply, val_main_v24_apply,
    val_main_v29_apply, val_main_v27_apply, val_main_v26_apply, val_main_v23_apply, val_main_v22_apply, val_main_v21_apply,
    val_main_cst_apply, v20_at, val_main_call0_v2_apply, val_main_call0_v0_apply, val_main_cst_0_apply]
  unfold natural
  show Scalar.select (IntOp.cmpi .sge (BitVec.ofNat 32 R.val) (BitVec.ofNat 32 c.val)) (_ * Ideal.log (Ideal.ofBits .f32 0x40000000#32)) (Ideal.ofBits .f32 0xFF800000#32) = _
  rw [WordCmp.cmpi_sge_ofNat (by omega) (by omega), two_value, Cert.FoxIdeal.Val.minus_infinity]
  by_cases h : c.val ≤ R.val
  · rw [if_pos h, decide_eq_true h]; rfl
  · rw [if_neg h, decide_eq_false h]; rfl

/-- The row maximum. -/
theorem v34_at : val_main_v34 (F := Ideal) x0 x1 x3 x4 (ix3 b (headOf p hd) R)
    = largest R (logit (heads x0 b p) (heads x1 b p) (feats x3 b) (feats x4 b) p hd R) := by
  rw [val_main_v34_apply, val_main_v33_apply, val_main_cst_2_apply]
  have e : val_main_v32 (F := Ideal) x0 x1 x3 x4 (ix3 b (headOf p hd) R)
      = Finset.univ.fold max ⊥ fun c : Fin 2048 => (val_main_v31 (F := Ideal) x0 x1 x3 x4 (ix4 b (headOf p hd) R c) : EReal) := by
    unfold val_main_v32
    generalize val_main_v31 (F := Ideal) x0 x1 x3 x4 = y
    pointwise [val_main_cst_1]
    rw [Cert.FoxIdeal.Val.minus_infinity]
  rw [e]
  simp only [v31_at]
  show max (Ideal.ofBits .f32 0xFF800000#32) (largest R _) = _
  rw [Cert.FoxIdeal.Val.minus_infinity]
  exact max_eq_right bot_le

theorem v38_at : val_main_v38 (F := Ideal) x0 x1 x3 x4 (ix4 b (headOf p hd) R c)
    = Ideal.exp (natural R (logit (heads x0 b p) (heads x1 b p) (feats x3 b) (feats x4 b) p hd R) c
        - largest R (logit (heads x0 b p) (heads x1 b p) (feats x3 b) (feats x4 b) p hd R)) := by
  rw [val_main_v38_apply, val_main_v37_apply, v31_at, val_main_v36_apply, val_main_v35_apply]
  have e : idx_main_v35 (idx_main_v36 (ix4 b (headOf p hd) R c)) = ix3 b (headOf p hd) R := by
    funext a; match a with | 0 => rfl | 1 => rfl | 2 => rfl
  rw [e, v34_at]; rfl

theorem v42_at : val_main_v42 (F := Ideal) x0 x1 x3 x4 (ix4 b (headOf p hd) R c)
    = Ideal.div (Ideal.exp (natural R (logit (heads x0 b p) (heads x1 b p) (feats x3 b) (feats x4 b) p hd R) c
        - largest R (logit (heads x0 b p) (heads x1 b p) (feats x3 b) (feats x4 b) p hd R)))
        (∑ k, Ideal.exp (natural R (logit (heads x0 b p) (heads x1 b p) (feats x3 b) (feats x4 b) p hd R) k
        - largest R (logit (heads x0 b p) (heads x1 b p) (feats x3 b) (feats x4 b) p hd R))) := by
  rw [val_main_v42_apply, v38_at, val_main_v41_apply, val_main_v40_apply]
  have e : idx_main_v40 (idx_main_v41 (ix4 b (headOf p hd) R c)) = ix3 b (headOf p hd) R := by
    funext a; match a with | 0 => rfl | 1 => rfl | 2 => rfl
  rw [e, val_main_v39_apply]
  have e' : ∀ k, idx_main_v39 (ix3 b (headOf p hd) R) k = ix4 b (headOf p hd) R k := fun k => by
    funext a; match a with | 0 => rfl | 1 => rfl | 2 => rfl | 3 => rfl
  simp only [e', v38_at, val_main_cst_3_apply]
  refine congrArg (Ideal.div _) ?_
  show Ideal.ofBits .f32 0x00000000#32 + _ = _
  rw [Ideal.ofBits_zero FTy.f32, zero_add]

theorem v43_at (d : Fin 64) : val_main_v43 (F := Ideal) x0 x1 x2 x3 x4 (ix4 b (headOf p hd) R d)
    = attend R (logit (heads x0 b p) (heads x1 b p) (feats x3 b) (feats x4 b) p hd R) fun c => heads x2 b p c ⟨64 * hd.val + d.val, by omega⟩ := by
  rw [val_main_v43_apply]
  unfold attend
  refine Finset.sum_congr rfl fun k _ => congrArg₂ (α := EReal) (β := EReal) (· * ·) (Eq.trans (congrArg _ ?_) (v42_at x0 x1 x3 x4 b p hd R k)) (Eq.trans (congrArg _ ?_) (v11_at x2 b p hd k d))
  · funext a; match a with | 0 => rfl | 1 => rfl | 2 => rfl | 3 => rfl
  · funext a; match a with | 0 => rfl | 1 => rfl | 2 => rfl | 3 => rfl

theorem idx46 (l : Fin 128) : idx_main_v46 (ix4 b p R l) = ix5 b p R ⟨l.val / 64, by omega⟩ ⟨l.val % 64, by omega⟩ := by
  funext a; apply Fin.ext
  match a with
  | 0 => show (((b.val * 4 + p.val) * 2048 + R.val) * 128 + l.val) / 1048576 = b.val; omega
  | 1 => show (((b.val * 4 + p.val) * 2048 + R.val) * 128 + l.val) / 262144 % 4 = p.val; omega
  | 2 => show (((b.val * 4 + p.val) * 2048 + R.val) * 128 + l.val) / 128 % 2048 = R.val; omega
  | 3 => show (((b.val * 4 + p.val) * 2048 + R.val) * 128 + l.val) / 64 % 2 = l.val / 64; omega
  | 4 => show (((b.val * 4 + p.val) * 2048 + R.val) * 128 + l.val) % 64 = l.val % 64; omega

theorem idx45 (d : Fin 64) : idx_main_v45 (ix5 b p R hd d) = ix5 b p hd R d := by
  funext a; match a with | 0 => rfl | 1 => rfl | 2 => rfl | 3 => rfl | 4 => rfl

theorem idx44 (d : Fin 64) : idx_main_v44 (ix5 b p hd R d) = ix4 b (headOf p hd) R d := by
  funext a; apply Fin.ext
  match a with
  | 0 => show ((((b.val * 4 + p.val) * 2 + hd.val) * 2048 + R.val) * 64 + d.val) / 1048576 = b.val; omega
  | 1 => show ((((b.val * 4 + p.val) * 2 + hd.val) * 2048 + R.val) * 64 + d.val) / 131072 % 8 = 2 * p.val + hd.val; omega
  | 2 => show ((((b.val * 4 + p.val) * 2 + hd.val) * 2048 + R.val) * 64 + d.val) / 64 % 2048 = R.val; omega
  | 3 => show ((((b.val * 4 + p.val) * 2 + hd.val) * 2048 + R.val) * 64 + d.val) % 64 = d.val; omega

/-- The reference computes the attention. -/
theorem reference_eq : val_main_v47 (F := Ideal) x0 x1 x2 x3 x4 = attention x0 x1 x2 x3 x4 := by
  funext i
  obtain ⟨b, p, R, l, rfl⟩ : ∃ b p R l, i = ix4 b p R l := ⟨i 0, i 1, i 2, i 3, by funext a; match a with | 0 => rfl | 1 => rfl | 2 => rfl | 3 => rfl⟩
  rw [val_main_v47_apply, val_main_v46_apply, idx46, val_main_v45_apply, idx45, val_main_v44_apply, idx44, v43_at]
  show attend R (logit (heads x0 b p) (heads x1 b p) (feats x3 b) (feats x4 b) p ⟨l.val / 64, by omega⟩ R)
      (fun c => heads x2 b p c ⟨64 * (l.val / 64) + l.val % 64, by omega⟩)
    = attend R (logit (heads x0 b p) (heads x1 b p) (feats x3 b) (feats x4 b) p ⟨l.val / 64, by omega⟩ R) fun c => heads x2 b p c l
  refine congrArg (attend R _) (funext fun c => ?_)
  exact congrArg (heads x2 b p c) (Fin.ext (Nat.div_add_mod _ _))

end Cert.FoxRefIdeal.Val

end
-- ==== Proof.FoxClaim.lean ====
/- The attention's value claim: on finite queries, keys and features both programs leave the same array. -/
module

public import proofs.«01_k».proof.Defs
public import proofs.«01_k».proof.Proof.FoxReference
public import proofs.«01_k».proof.Proof.Gen.FoxIdeal.Frame
public import proofs.«01_k».proof.Proof.Gen.FoxRefIdeal.Run

@[expose] public section

noncomputable section

namespace Cert.Proof.Fox

open Idealize.ShloMosaic Idealize.ShloMosaic.TcCoe Idealize.SL.Sem
open Cert.FoxIdeal.Val (heads feats logit FiniteLogits)

/-- The precondition's shape facts. -/
theorem preFacts : Cert.Pre_finite_scores.Facts :=
  { bitsLt_bf16_f32 := by decide
    bcast_S_S32x4x2048x128 := by decide
    bcast_S_S65536x128 := by decide }

theorem real_of_abs_lt {x : EReal} (h : Ideal.cmp .olt (max x (-x)) (Ideal.ofBits .f32 0x7F800000#32) = 1#1) : ∃ r : ℝ, x = (r : EReal) := by
  have e : Ideal.ofBits .f32 0x7F800000#32 = ⊤ := by simp [Ideal.ofBits, Ideal.ieee]
  rw [e] at h
  induction x using EReal.rec with
  | coe r => exact ⟨r, rfl⟩
  | bot => simp [Ideal.cmp] at h
  | top => simp [Ideal.cmp] at h

theorem real_sum {ι : Type} (s : Finset ι) (f : ι → EReal) (h : ∀ i, ∃ r : ℝ, f i = (r : EReal)) : ∃ r : ℝ, ∑ i ∈ s, f i = (r : EReal) := by
  choose g hg using h
  exact ⟨∑ i ∈ s, g i, by rw [Cert.Fox.coe_sum]; exact Finset.sum_congr rfl fun i _ => hg i⟩

theorem real_mul {x y : EReal} (hx : ∃ r : ℝ, x = (r : EReal)) (hy : ∃ r : ℝ, y = (r : EReal)) : ∃ r : ℝ, x * y = (r : EReal) := by
  obtain ⟨a, rfl⟩ := hx; obtain ⟨b, rfl⟩ := hy; exact ⟨a * b, (EReal.coe_mul a b).symm⟩

theorem finite_logits {q k : FVec Ideal Cert.FoxIdeal.S32x4x2048x128 .bf16} {a f : FVec Ideal Cert.FoxIdeal.S65536x128 .bf16}
    (hq : ∀ i, ∃ r : ℝ, q i = (r : EReal)) (hk : ∀ i, ∃ r : ℝ, k i = (r : EReal)) (ha : ∀ i, ∃ r : ℝ, a i = (r : EReal)) (hf : ∀ i, ∃ r : ℝ, f i = (r : EReal)) :
    FiniteLogits q k a f := by
  intro b p hd R C
  obtain ⟨x, hx⟩ := real_sum Finset.univ _ fun d : Fin 64 => real_mul (hq (ix4 b p R ⟨64 * hd.val + d.val, by omega⟩)) (hk (ix4 b p C ⟨64 * hd.val + d.val, by omega⟩))
  obtain ⟨y, hy⟩ := real_sum Finset.univ _ fun e : Fin 16 =>
    real_mul (ha (ix2 ⟨b.val * 2048 + R.val, by omega⟩ ⟨16 * (2 * p.val + hd.val) + e.val, by omega⟩)) (hf (ix2 ⟨b.val * 2048 + C.val, by omega⟩ ⟨16 * (2 * p.val + hd.val) + e.val, by omega⟩))
  exact ⟨x + y, Eq.trans (congrArg₂ (· + ·) hx hy) (EReal.coe_add x y).symm⟩

/-- The precondition makes every logit a real number. -/
theorem finite_of_pre (m : (ℓ : Loc Cert.FoxIdeal.nD Cert.FoxIdeal.τ Cert.FoxIdeal.sig) → Buf (Elt Ideal) ℓ)
    (h : Pre_FoxIdeal_finite_scores (hPre_finite_scores := preFacts) m) (c : Dev Cert.FoxIdeal.nD) : Cert.FoxIdeal.Val.FiniteAt m c := by
  obtain ⟨h1, h2, h3, h4⟩ := h c
  exact finite_logits (fun i => real_of_abs_lt (congrFun h1 i)) (fun i => real_of_abs_lt (congrFun h2 i))
    (fun i => real_of_abs_lt (congrFun h3 i)) (fun i => real_of_abs_lt (congrFun h4 i))

theorem algebraic : algebraic_FoxIdeal_FoxRefIdeal_pre_finite_scores (hFoxIdeal := Cert.FoxIdeal.Gen.facts) (hFoxRefIdeal := Cert.FoxRefIdeal.Gen.facts)
    (hPre_finite_scores := preFacts) := fun m ρ m' ρ' hpre hag =>
  ⟨fun c => Cert.FoxIdeal.Val.result m c,
    (θ_run _ _ _).mono (fun _ h c => ⟨(h c).1.trans (Cert.FoxIdeal.Val.final m c (finite_of_pre m hpre c)), (h c).2⟩) (Cert.FoxIdeal.Value.run_blocks m ρ),
    (θ_run _ _ _).mono (fun _ h c => ⟨(h c).1.trans (by
      rw [Cert.FoxRefIdeal.Read.val_main_v47_eq, Cert.FoxRefIdeal.Val.reference_eq]
      obtain ⟨e0, e1, e2, e3, e4⟩ := hag c
      rw [e0, e1, e2, e3, e4]; rfl), (h c).2⟩) (Cert.FoxRefIdeal.Value.run m' ρ')⟩

end Cert.Proof.Fox

end
-- ==== Proof.FfnVocab.lean ====
/- The feed-forward kernel in words: a root-mean-square norm of 512 rows, one chunk of 256 columns of the gated hidden layer,
   the scratch of 2816 hidden columns that the chunks fill, and the 512 output rows. The shapes are written out, so that both
   feed-forward calls use the same words. -/
module

public import Idealize.ShloMosaic.Lib.Pointwise
public import Idealize.ShloMosaic.Lib.Ring
public import Idealize.ShloMosaic.Lib.IdealHost
public import Idealize.ShloMosaic.Lib.Pipeline.FrameBody
public import Idealize.ShloMosaic.Lib.Pipeline.Value

@[expose] public section

set_option maxRecDepth 16384

noncomputable section

namespace Cert.Ffn

open Idealize.ShloMosaic Idealize.SL.Sem

abbrev Mat (a b : ℕ) : Shape := ⟨2, ![a, b]⟩
abbrev Box (a b c : ℕ) : Shape := ⟨3, ![a, b, c]⟩
abbrev Column : Shape := ⟨1, ![512]⟩

/-- What the operations of a norm over 512 rows of `w` columns ask of the shapes. -/
structure Rows (w : ℕ) : Prop where
  reduces : (Mat 512 w).Reduces [1] Column
  column : Column.ShapeCasts (Mat 512 1)
  spread : (Mat 512 1).Broadcasts (Mat 512 w)
  gain : (Mat 1 w).Broadcasts (Mat 512 w)

theorem rows1024 : Rows 1024 := ⟨by decide, by decide, by decide, by decide⟩
theorem rows512 : Rows 512 := ⟨by decide, by decide, by decide, by decide⟩

/-- The norm: every row over the root of its mean square, times the gain. The word `n` is the number of columns. -/
def rms {w : ℕ} (h : Rows w) (n : BitVec 32) (x : FVec Ideal (Mat 512 w) .f32) (g : FVec Ideal (Mat 1 w) .f32) : FVec Ideal (Mat 512 w) .f32 :=
  mulf (mulf x (broadcastTo (Mat 512 w)
    (rsqrt (addf (divf (shapeCast (Mat 512 1) (multiReduction .add [1] Column (mulf x x) 0x00000000#32 h.reduces (.inl rfl) rfl) h.column)
      (broadcast (Mat 512 1) (Scalar.ofBits .f32 n))) (broadcast (Mat 512 1) (Scalar.ofBits .f32 0x358637BD#32)))) h.spread))
    (broadcastTo (Mat 512 w) g h.gain)

/-- One row of the conditioning block. -/
def modRow (v : Vec Ideal (Box 1 1 1024) .f32) : FVec Ideal (Mat 1 1024) .f32 := shapeCast (Mat 1 1024) v (by decide)

/-- A gain row as loaded. -/
def gainRow (v : Vec Ideal (Mat 1 1024) .f32) : FVec Ideal (Mat 1 1024) .f32 := shapeCast (Mat 1 1024) v (by decide)

/-- The gain in front of the hidden layer. -/
def gainIn (g : Vec Ideal (Mat 1 1024) .f32) (v : Vec Ideal (Box 1 1 1024) .f32) : FVec Ideal (Mat 1 1024) .f32 :=
  mulf (gainRow g) (addf (broadcast (Mat 1 1024) (Scalar.ofBits .f32 0x3F800000#32)) (modRow v))

/-- The gain behind it. -/
def gainOut (g : Vec Ideal (Mat 1 1024) .f32) (v : Vec Ideal (Box 1 1 1024) .f32) : FVec Ideal (Mat 1 1024) .f32 :=
  mulf (gainRow g) (mulf (broadcast (Mat 1 1024) (Scalar.ofBits .f32 0x3F000000#32)) (modRow v))

/-- 512 rows as loaded. -/
def rowsIn (x : Vec Ideal (Mat 512 1024) .f32) : FVec Ideal (Mat 512 1024) .f32 := shapeCast (Mat 512 1024) x (by decide)

/-- The input of the hidden layer. -/
def hiddenIn (x : FVec Ideal (Mat 512 1024) .f32) (g s : FVec Ideal (Mat 1 1024) .f32) : FVec Ideal (Mat 512 1024) .bf16 :=
  truncf .bf16 (addf (rms rows1024 0x44800000#32 x g) (broadcastTo (Mat 512 1024) s rows1024.gain)) (by decide)

/-- One product with 256 columns of a weight. -/
def cols (h : FVec Ideal (Mat 512 1024) .bf16) (w : Vec Ideal (Mat 1024 256) .bf16) : FVec Ideal (Mat 512 256) .f32 :=
  matmul (φ₁ := .bf16) (φ₂ := .bf16) (DotDims.plain 512 1024 256) none h (shapeCast (Mat 1024 256) w (by decide)) (constant (Mat 512 256) .f32 0x00000000#32)

/-- 256 columns of the gated hidden layer. -/
def chunk (h : FVec Ideal (Mat 512 1024) .bf16) (wg wu : Vec Ideal (Mat 1024 256) .bf16) : FVec Ideal (Box 1 512 256) .bf16 :=
  shapeCast (Box 1 512 256) (truncf .bf16 (mulf (mulf (cols h wg) (logistic (cols h wg))) (cols h wu)) (by decide) : FVec Ideal (Mat 512 256) .bf16) (by decide)

theorem inb_w (c : Fin 11) : ∀ a, (![0, 256 * c.val] : Fin 2 → ℕ) a + (![1024, 256] : Fin 2 → ℕ) a ≤ (Mat 1024 2816).size a
  | 0 => by simp | 1 => by have := c.isLt; simp; omega

theorem inb_a (t : Fin 2) (c : Fin 11) : ∀ a, (![t.val, 0, 256 * c.val] : Fin 3 → ℕ) a + (![1, 512, 256] : Fin 3 → ℕ) a ≤ (Box 2 512 2816).size a
  | 0 => by have := t.isLt; simp; omega | 1 => by simp | 2 => by have := c.isLt; simp; omega

theorem inb_back (t : Fin 2) : ∀ a, (![t.val, 0, 0] : Fin 3 → ℕ) a + (![1, 512, 2816] : Fin 3 → ℕ) a ≤ (Box 2 512 2816).size a
  | 0 => by have := t.isLt; simp; omega | 1 => by simp | 2 => by simp

theorem inb_x (t : Fin 2) : ∀ a, (![512 * t.val, 0] : Fin 2 → ℕ) a + (![512, 1024] : Fin 2 → ℕ) a ≤ (Mat 1024 1024).size a
  | 0 => by have := t.isLt; simp; omega | 1 => by simp

theorem inb_m (i : Fin 9) : ∀ a, (![0, i.val, 0] : Fin 3 → ℕ) a + (![1, 1, 1024] : Fin 3 → ℕ) a ≤ (Box 1 9 1024).size a
  | 0 => by simp | 1 => by have := i.isLt; simp | 2 => by simp

theorem inb_g : ∀ a, (![0, 0] : Fin 2 → ℕ) a + (![1, 1024] : Fin 2 → ℕ) a ≤ (Mat 1 1024).size a
  | 0 => by simp | 1 => by simp

theorem inb_d : ∀ a, (![0, 0] : Fin 2 → ℕ) a + (![2816, 1024] : Fin 2 → ℕ) a ≤ (Mat 2816 1024).size a
  | 0 => by simp | 1 => by simp

/-- The store of chunk `c` of half `t` into the scratch. -/
def fillPiece (h : FVec Ideal (Mat 512 1024) .bf16) (Wg Wu : Vec Ideal (Mat 1024 2816) .bf16) (t : Fin 2) (c : Fin 11) : View.Piece (Elt Ideal) (Box 2 512 2816) .bf16 :=
  ⟨Rect.unit (s := Box 2 512 2816) ![t.val, 0, 256 * c.val] ![1, 512, 256] (inb_a t c),
    chunk h (View.ld Wg (Rect.unit (s := Mat 1024 2816) ![0, 256 * c.val] ![1024, 256] (inb_w c)))
      (View.ld Wu (Rect.unit (s := Mat 1024 2816) ![0, 256 * c.val] ![1024, 256] (inb_w c)))⟩

/-- The eleven stores of half `t`, last first. -/
def fillHalf (h : FVec Ideal (Mat 512 1024) .bf16) (Wg Wu : Vec Ideal (Mat 1024 2816) .bf16) (t : Fin 2) : List (View.Piece (Elt Ideal) (Box 2 512 2816) .bf16) :=
  [fillPiece h Wg Wu t 10, fillPiece h Wg Wu t 9, fillPiece h Wg Wu t 8, fillPiece h Wg Wu t 7, fillPiece h Wg Wu t 6, fillPiece h Wg Wu t 5,
   fillPiece h Wg Wu t 4, fillPiece h Wg Wu t 3, fillPiece h Wg Wu t 2, fillPiece h Wg Wu t 1, fillPiece h Wg Wu t 0]

/-- The scratch when half `t` reads it back. -/
def fill (h : Fin 2 → FVec Ideal (Mat 512 1024) .bf16) (Wg Wu : Vec Ideal (Mat 1024 2816) .bf16) : Fin 2 → List (View.Piece (Elt Ideal) (Box 2 512 2816) .bf16)
  | 0 => fillHalf (h 0) Wg Wu 0
  | 1 => fillHalf (h 1) Wg Wu 1 ++ fillHalf (h 0) Wg Wu 0

/-- The product that leaves the hidden layer. -/
def down (a : Vec Ideal (Box 1 512 2816) .bf16) (wd : Vec Ideal (Mat 2816 1024) .bf16) : FVec Ideal (Mat 512 1024) .f32 :=
  matmul (φ₁ := .bf16) (φ₂ := .bf16) (DotDims.plain 512 2816 1024) none (shapeCast (Mat 512 2816) a (by decide)) (shapeCast (Mat 2816 1024) wd (by decide))
    (constant (Mat 512 1024) .f32 0x00000000#32)

/-- The output rows of half `t`, from the two halves' rows `x` and the gains. -/
def outRows {sig : RefSig} {κ : Kind} {sp : Space} (vw : View sig κ sp (Box 2 512 2816) .bf16)
    (x : Fin 2 → FVec Ideal (Mat 512 1024) .f32) (gi s go : FVec Ideal (Mat 1 1024) .f32)
    (Wg Wu : Vec Ideal (Mat 1024 2816) .bf16) (Wd : Vec Ideal (Mat 2816 1024) .bf16) (t : Fin 2) : FVec Ideal (Mat 512 1024) .f32 :=
  addf (x t) (rms rows1024 0x44800000#32
    (down (vw.readCov (fill (fun u => hiddenIn (x u) gi s) Wg Wu t) (Rect.unit (s := Box 2 512 2816) ![t.val, 0, 0] ![1, 512, 2816] (inb_back t)).toLoadRect)
      (View.ld Wd (Rect.unit (s := Mat 2816 1024) ![0, 0] ![2816, 1024] inb_d))) go)

/-- Row `i` of the conditioning block. -/
def modAt (M : Vec Ideal (Box 1 9 1024) .f32) (i : Fin 9) : Vec Ideal (Box 1 1 1024) .f32 :=
  View.ld M (Rect.unit (s := Box 1 9 1024) ![0, i.val, 0] ![1, 1, 1024] (inb_m i))

/-- A gain as loaded. -/
def gainAt (G : Vec Ideal (Mat 1 1024) .f32) : Vec Ideal (Mat 1 1024) .f32 := View.ld G (Rect.unit (s := Mat 1 1024) ![0, 0] ![1, 1024] inb_g)

/-- Half `t` of the block of rows. -/
def half (X : Vec Ideal (Mat 1024 1024) .f32) (t : Fin 2) : FVec Ideal (Mat 512 1024) .f32 :=
  rowsIn (View.ld X (Rect.unit (s := Mat 1024 1024) ![512 * t.val, 0] ![512, 1024] (inb_x t)))

/-- The store of half `t`. -/
def piece {sig : RefSig} {κ : Kind} {sp : Space} (vw : View sig κ sp (Box 2 512 2816) .bf16)
    (x : Fin 2 → FVec Ideal (Mat 512 1024) .f32) (gi s go : FVec Ideal (Mat 1 1024) .f32)
    (Wg Wu : Vec Ideal (Mat 1024 2816) .bf16) (Wd : Vec Ideal (Mat 2816 1024) .bf16) (t : Fin 2) : View.Piece (Elt Ideal) (Mat 1024 1024) .f32 :=
  ⟨Rect.unit (s := Mat 1024 1024) ![512 * t.val, 0] ![512, 1024] (inb_x t), outRows vw x gi s go Wg Wu Wd t⟩

/-- A point's two stores, last first. -/
def stores {sig : RefSig} {κ : Kind} {sp : Space} (vw : View sig κ sp (Box 2 512 2816) .bf16)
    (x : Fin 2 → FVec Ideal (Mat 512 1024) .f32) (gi s go : FVec Ideal (Mat 1 1024) .f32)
    (Wg Wu : Vec Ideal (Mat 1024 2816) .bf16) (Wd : Vec Ideal (Mat 2816 1024) .bf16) : List (View.Piece (Elt Ideal) (Mat 1024 1024) .f32) :=
  [piece vw x gi s go Wg Wu Wd 1, piece vw x gi s go Wg Wu Wd 0]

end Cert.Ffn

end
-- ==== Proof.FfaStores.lean ====
/- What a grid point of the first feed-forward call leaves in its output block: the two stores of `Cert.Ffn.stores`. -/
module

public import proofs.«01_k».proof.Proof.Gen.FfaIdeal.Value
public import proofs.«01_k».proof.Proof.FfnVocab

@[expose] public section

set_option maxRecDepth 65536

noncomputable section

namespace Cert.FfaIdeal.Val

open Cert.FfaIdeal Cert.FfaIdeal.Gen Idealize.ShloMosaic Idealize.ShloMosaic.TcCoe Idealize.SL.Sem
open Idealize.ShloMosaic.Pipeline (Dat)
open Cert.Ffn

variable (m : (ℓ : Loc nD τ sig) → Buf (Elt Ideal) ℓ)

/-- A point's two stores from its blocks. -/
def pointStores {sig : RefSig} {κ : Kind} {sp : Space} (vw : View sig κ sp (Box 2 512 2816) .bf16) (X : Vec Ideal S1024x1024 .f32) (M : Vec Ideal S1x9x1024 .f32)
    (Gi Go : Vec Ideal S1x1024 .f32) (Wg Wu : Vec Ideal S1024x2816 .bf16) (Wd : Vec Ideal S2816x1024 .bf16) : List (View.Piece (Elt Ideal) S1024x1024 .f32) :=
  stores vw (half X) (gainIn (gainAt Gi) (modAt M 1)) (modRow (modAt M 0)) (gainOut (gainAt Go) (modAt M 2)) Wg Wu Wd

theorem run_stores (c : Dev nD) (i : grid0.Coords) (arg1 : Memref sig .tc .vmem S1024x1024 .f32) (harg1 : arg1.IsWhole) (arg2 : Memref sig .tc .vmem S1x9x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1024x2816 .bf16) (harg5 : arg5.IsWhole) (arg6 : Memref sig .tc .vmem S1024x2816 .bf16) (harg6 : arg6.IsWhole) (arg7 : Memref sig .tc .vmem S2816x1024 .bf16) (harg7 : arg7.IsWhole) (arg8 : Memref sig .tc .vmem S1024x1024 .f32) (harg8 : arg8.IsWhole) (arg9 : Memref sig .tc .vmem S2x512x2816 .bf16) (harg9 : arg9.IsWhole)
    (x0 : Vec Ideal S1024x1024 .f32) (x1 : Vec Ideal S1x9x1024 .f32) (x2 : Vec Ideal S1x1024 .f32) (x3 : Vec Ideal S1x1024 .f32) (x4 : Vec Ideal S1024x2816 .bf16) (x5 : Vec Ideal S1024x2816 .bf16) (x6 : Vec Ideal S2816x1024 .bf16) :
    (kernelRun0_A c i arg1 harg1 arg2 harg2 arg3 harg3 arg4 harg4 arg5 harg5 arg6 harg6 arg7 harg7 arg8 harg8 arg9 harg9 x0 x1 x2 x3 x4 x5 x6).1
      = pointStores arg9.view (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) := by
  unfold kernelRun0_A pointStores stores
  dsimp only
  refine congrArg₂ List.cons ?_ (congrArg₂ List.cons ?_ rfl)
  all_goals sl_kernel_rfl

theorem outs_eq (c : Dev nD) (t : Fin cfg0.N) :
    outsAt0 m c t = View.canon (pointStores scM0_0.view (iblk m c 0 t) (iblk m c 1 t) (iblk m c 2 t) (iblk m c 3 t) (iblk m c 4 t) (iblk m c 5 t) (iblk m c 6 t)) := by
  unfold outsAt0 out0_A_7
  rw [View.read_writes_eq_canon _ _ _ (cover0_A_7 c _ _ _ _ _ _ _ _ _ _ _ _ _ _ _ _ _ _ _ _ _ _ _ _ _ _), run_stores]
  simp only [Memref.IsWhole.read_unread]

end Cert.FfaIdeal.Val

end
-- ==== Proof.FfnRows.lean ====
/- The feed-forward kernel's words read at an index: each output row depends on its own input row, and the scratch read back
   is the gated hidden layer. -/
module

public import proofs.«01_k».proof.Proof.FfnVocab
public import Idealize.ShloMosaic.Lib.MatmulPlain

@[expose] public section

set_option maxRecDepth 16384

noncomputable section

namespace Cert.Ffn

open Idealize.ShloMosaic Idealize.SL.Sem

/-- The root-mean-square norm of one row. The word `n` is the number of its columns. -/
def normed (n : BitVec 32) {w : ℕ} (x : Fin w → EReal) (j : Fin w) : EReal :=
  x j * Ideal.rsqrt (Ideal.div (∑ k, x k * x k) (Ideal.ofBits .f32 n) + Ideal.ofBits .f32 0x358637BD#32)

/-- A row normed, scaled and shifted. -/
def hidden (x g s : Fin 1024 → EReal) (i : Fin 1024) : EReal := normed 0x44800000#32 x i * g i + s i

/-- A column of the gated hidden layer. -/
def gated {n : ℕ} (h : Fin 1024 → EReal) (wg wu : Fin 1024 → Fin n → EReal) (k : Fin n) : EReal :=
  ((∑ i, h i * wg i k) * Ideal.logistic (∑ i, h i * wg i k)) * ∑ i, h i * wu i k

/-- One row of the feed-forward half-step. -/
def ffn {n : ℕ} (x g s o : Fin 1024 → EReal) (wg wu : Fin 1024 → Fin n → EReal) (wd : Fin n → Fin 1024 → EReal) (j : Fin 1024) : EReal :=
  x j + normed 0x44800000#32 (fun j => ∑ k, gated (hidden x g s) wg wu k * wd k j) j * o j

/-- Row `r` of a matrix. -/
def row {a b : ℕ} {φ : FTy} (x : FVec Ideal (Mat a b) φ) (r : Fin a) (j : Fin b) : EReal := x (ix2 r j)

theorem gain_apply {w : ℕ} (g : FVec Ideal (Mat 1 w) .f32) (h : (Mat 1 w).Broadcasts (Mat 512 w)) (r : Fin 512) (j : Fin w) :
    broadcastTo (Mat 512 w) g h (ix2 r j) = row g 0 j := by
  pointwise []
  refine congrArg g ?_
  funext a
  match a with
  | 0 => rfl
  | 1 =>
    by_cases hw : w = 1
    · subst hw; exact Subsingleton.elim (α := Fin 1) _ _
    · exact dif_neg hw

theorem rms_apply {w : ℕ} (h : Rows w) (n : BitVec 32) (x : FVec Ideal (Mat 512 w) .f32) (g : FVec Ideal (Mat 1 w) .f32) (r : Fin 512) (j : Fin w) :
    rms h n x g (ix2 r j) = normed n (row x r) j * row g 0 j := by
  unfold rms normed
  pointwise [gain_apply]
  rfl

theorem hiddenIn_apply (x : FVec Ideal (Mat 512 1024) .f32) (g s : FVec Ideal (Mat 1 1024) .f32) (r : Fin 512) (j : Fin 1024) :
    hiddenIn x g s (ix2 r j) = hidden (row x r) (row g 0) (row s 0) j := by
  unfold hiddenIn hidden
  pointwise [rms_apply]
  rfl

theorem zero_constant {s : Shape} (i : s.Idx) : (constant s .f32 0x00000000#32 : FVec Ideal s .f32) i = 0 := Ideal.ofBits_zero FTy.f32

theorem cols_apply (h : FVec Ideal (Mat 512 1024) .bf16) (w : Vec Ideal (Mat 1024 256) .bf16) (r : Fin 512) (k : Fin 256) :
    cols h w (ix2 r k) = ∑ i, row h r i * w (ix2 i k) := by
  unfold cols
  rw [shapeCast_self, ix2_eq_valueIdx]
  refine (Ideal.matmul_plain_apply none _ _ _ r k).trans ?_
  rw [zero_constant, zero_add]
  simp only [← ix2_eq_valueIdx]
  rfl

theorem chunk_apply (h : FVec Ideal (Mat 512 1024) .bf16) (wg wu : Vec Ideal (Mat 1024 256) .bf16) (z : Fin 1) (r : Fin 512) (k : Fin 256) :
    chunk h wg wu (ix3 z r k) = gated (row h r) (fun i k => wg (ix2 i k)) (fun i k => wu (ix2 i k)) k := by
  unfold chunk gated
  pointwise [cols_apply]

theorem down_apply (a : Vec Ideal (Box 1 512 2816) .bf16) (wd : Vec Ideal (Mat 2816 1024) .bf16) (r : Fin 512) (j : Fin 1024) :
    down a wd (ix2 r j) = ∑ k, a (ix3 0 r k) * wd (ix2 k j) := by
  unfold down
  rw [shapeCast_self, ix2_eq_valueIdx]
  refine (Ideal.matmul_plain_apply none _ _ _ r j).trans ?_
  rw [zero_constant, zero_add]
  simp only [← ix2_eq_valueIdx]
  refine Finset.sum_congr rfl fun k _ => congrArg (· * wd (ix2 k j)) ?_
  pointwise []

/-- A weight as a function of row and column. -/
def entries {a b : ℕ} (x : Vec Ideal (Mat a b) .bf16) (i : Fin a) (j : Fin b) : EReal := x (ix2 i j)

/-- The scratch after the stores: the gated hidden layer of both halves. -/
def scratch (h : Fin 2 → FVec Ideal (Mat 512 1024) .bf16) (Wg Wu : Vec Ideal (Mat 1024 2816) .bf16) (y : (Box 2 512 2816).Idx) : EReal :=
  gated (row (h (y 0)) (y 1)) (entries Wg) (entries Wu) (y 2)

theorem fillPiece_apply (h : Fin 2 → FVec Ideal (Mat 512 1024) .bf16) (Wg Wu : Vec Ideal (Mat 1024 2816) .bf16) (t : Fin 2) (c : Fin 11) (x : (Box 1 512 256).Idx) :
    (fillPiece (h t) Wg Wu t c).2 x = scratch h Wg Wu ((fillPiece (h t) Wg Wu t c).1.emb x) := by
  obtain ⟨z, r, l, rfl⟩ : ∃ z r l, x = ix3 z r l := ⟨x 0, x 1, x 2, by funext a; match a with | 0 => rfl | 1 => rfl | 2 => rfl⟩
  refine (chunk_apply (h t) _ _ z r l).trans ?_
  have hc := c.isLt
  have e : (fillPiece (h t) Wg Wu t c).1.emb (ix3 z r l) = (ix3 t r ⟨256 * c.val + l.val, by omega⟩ : (Box 2 512 2816).Idx) := by
    funext a; apply Fin.ext
    match a with
    | 0 => show t.val + 1 * z.val = t.val; omega
    | 1 => show 0 + 1 * r.val = r.val; omega
    | 2 => show 256 * c.val + 1 * l.val = 256 * c.val + l.val; omega
  rw [e]
  have ew : ∀ (W : Vec Ideal (Mat 1024 2816) .bf16) (i : Fin 1024),
      View.ld (Val := Elt Ideal) (e' := .bf16) W (Rect.unit (s := Mat 1024 2816) ![0, 256 * c.val] ![1024, 256] (inb_w c)) (ix2 i l) = entries W i ⟨256 * c.val + l.val, by omega⟩ :=
    fun W i => congrArg W (by
      funext a; apply Fin.ext
      match a with
      | 0 => show 0 + 1 * i.val = i.val; omega
      | 1 => show 256 * c.val + 1 * l.val = 256 * c.val + l.val; omega)
  have es := fun W : Vec Ideal (Mat 1024 2816) .bf16 => Finset.sum_congr (rfl : (Finset.univ : Finset (Fin 1024)) = _) fun i _ => congrArg (row (h t) r i * ·) (ew W i)
  exact congrArg₂ (· * ·) (congrArg (fun s => s * Ideal.logistic s) (es Wg)) (es Wu)

/-- Every store of half `t` is in its list. -/
theorem mem_fillHalf (h : FVec Ideal (Mat 512 1024) .bf16) (Wg Wu : Vec Ideal (Mat 1024 2816) .bf16) (t : Fin 2) (c : Fin 11) :
    fillPiece h Wg Wu t c ∈ fillHalf h Wg Wu t := by
  unfold fillHalf
  fin_cases c <;> simp only [List.mem_cons, Fin.reduceFinMk, true_or, or_true]

theorem of_mem_fillHalf {h : FVec Ideal (Mat 512 1024) .bf16} {Wg Wu : Vec Ideal (Mat 1024 2816) .bf16} {t : Fin 2} {p : View.Piece (Elt Ideal) (Box 2 512 2816) .bf16}
    (hp : p ∈ fillHalf h Wg Wu t) : ∃ c, p = fillPiece h Wg Wu t c := by
  simp only [fillHalf, List.mem_cons, List.not_mem_nil, or_false] at hp
  rcases hp with h | h | h | h | h | h | h | h | h | h | h <;> exact ⟨_, h⟩

theorem of_mem_fill {h : Fin 2 → FVec Ideal (Mat 512 1024) .bf16} {Wg Wu : Vec Ideal (Mat 1024 2816) .bf16} {t : Fin 2} {p : View.Piece (Elt Ideal) (Box 2 512 2816) .bf16}
    (hp : p ∈ fill h Wg Wu t) : ∃ u c, p = fillPiece (h u) Wg Wu u c := by
  match t with
  | 0 => exact ⟨0, of_mem_fillHalf hp⟩
  | 1 =>
    rcases List.mem_append.1 hp with hp | hp
    · exact ⟨1, of_mem_fillHalf hp⟩
    · exact ⟨0, of_mem_fillHalf hp⟩

theorem mem_fill (h : Fin 2 → FVec Ideal (Mat 512 1024) .bf16) (Wg Wu : Vec Ideal (Mat 1024 2816) .bf16) (t : Fin 2) (c : Fin 11) :
    fillPiece (h t) Wg Wu t c ∈ fill h Wg Wu t := by
  match t with
  | 0 => exact mem_fillHalf _ _ _ _ _
  | 1 => exact List.mem_append_left _ (mem_fillHalf _ _ _ _ _)

/-- The stores of half `t` cover its part of the scratch. -/
theorem fill_cover (h : Fin 2 → FVec Ideal (Mat 512 1024) .bf16) (Wg Wu : Vec Ideal (Mat 1024 2816) .bf16) (t : Fin 2) (r : Fin 512) (k : Fin 2816) :
    ∃ p ∈ fill h Wg Wu t, (ix3 t r k : (Box 2 512 2816).Idx) ∈ p.1.set := by
  have hk := k.isLt
  refine ⟨_, mem_fill h Wg Wu t ⟨k.val / 256, by omega⟩, (Rect.mem_set_unit (inb := inb_a t ⟨k.val / 256, by omega⟩)).2 fun a => ?_⟩
  match a with
  | 0 => show t.val ≤ t.val ∧ t.val < t.val + 1; omega
  | 1 => show 0 ≤ r.val ∧ r.val < 0 + 512; omega
  | 2 => show 256 * (k.val / 256) ≤ k.val ∧ k.val < 256 * (k.val / 256) + 256; omega

theorem canon_fill (h : Fin 2 → FVec Ideal (Mat 512 1024) .bf16) (Wg Wu : Vec Ideal (Mat 1024 2816) .bf16) (t : Fin 2) (r : Fin 512) (k : Fin 2816) :
    View.canon (fill h Wg Wu t) (ix3 t r k) = gated (row (h t) r) (entries Wg) (entries Wu) k := by
  refine (View.canon_apply_of_pieces (Val := Elt Ideal) (e := .bf16) (S := Box 2 512 2816) (scratch h Wg Wu) _ (fun p hp x => ?_) _ (fill_cover h Wg Wu t r k)).trans rfl
  obtain ⟨u, c, rfl⟩ := of_mem_fill hp
  exact fillPiece_apply h Wg Wu u c x

variable {sig : RefSig} {κ : Kind} {sp : Space} (vw : View sig κ sp (Box 2 512 2816) .bf16)

/-- What half `t` reads back. -/
theorem readBack_apply (h : Fin 2 → FVec Ideal (Mat 512 1024) .bf16) (Wg Wu : Vec Ideal (Mat 1024 2816) .bf16) (t : Fin 2) (r : Fin 512) (k : Fin 2816) :
    vw.readCov (fill h Wg Wu t) (Rect.unit (s := Box 2 512 2816) ![t.val, 0, 0] ![1, 512, 2816] (inb_back t)).toLoadRect (ix3 0 r k)
      = gated (row (h t) r) (entries Wg) (entries Wu) k := by
  rw [View.readCov_eq_canon']
  refine Eq.trans (congrArg (View.canon (fill h Wg Wu t)) ?_) (canon_fill h Wg Wu t r k)
  funext a; apply Fin.ext
  match a with
  | 0 => show t.val + 1 * 0 = t.val; omega
  | 1 => show 0 + 1 * r.val = r.val; omega
  | 2 => show 0 + 1 * k.val = k.val; omega

variable (x : Fin 2 → FVec Ideal (Mat 512 1024) .f32) (gi s go : FVec Ideal (Mat 1 1024) .f32)
  (Wg Wu : Vec Ideal (Mat 1024 2816) .bf16) (Wd : Vec Ideal (Mat 2816 1024) .bf16)

theorem ld_down (k : Fin 2816) (j : Fin 1024) :
    View.ld (Val := Elt Ideal) (e' := .bf16) Wd (Rect.unit (s := Mat 2816 1024) ![0, 0] ![2816, 1024] inb_d) (ix2 k j) = entries Wd k j :=
  congrArg Wd (by
    funext a; apply Fin.ext
    match a with
    | 0 => show 0 + 1 * k.val = k.val; omega
    | 1 => show 0 + 1 * j.val = j.val; omega)

/-- An output row is the half-step of its input row. -/
theorem outRows_apply (t : Fin 2) (r : Fin 512) (j : Fin 1024) :
    outRows vw x gi s go Wg Wu Wd t (ix2 r j) = ffn (row (x t) r) (row gi 0) (row s 0) (row go 0) (entries Wg) (entries Wu) (entries Wd) j := by
  unfold outRows ffn
  pointwise [rms_apply]
  refine congrArg (row (x t) r j + · * row go 0 j) (congrArg (normed 0x44800000#32 · j) ?_)
  funext i
  refine (down_apply _ _ r i).trans (Finset.sum_congr rfl fun k _ => congrArg₂ (· * ·) ((readBack_apply vw _ Wg Wu t r k).trans ?_) (ld_down Wd k i))
  refine congrArg (gated · _ _ k) ?_
  funext i
  exact hiddenIn_apply _ _ _ r i

/-- The output block is the half-step of every row. -/
theorem stores_apply (y : (Mat 1024 1024).Idx) :
    View.canon (stores vw x gi s go Wg Wu Wd) y
      = ffn (row (x ⟨(y 0).val / 512, by have : (y 0).val < 1024 := (y 0).isLt; omega⟩) ⟨(y 0).val % 512, by omega⟩)
          (row gi 0) (row s 0) (row go 0) (entries Wg) (entries Wu) (entries Wd) (y 1) := by
  refine View.canon_apply_of_pieces (Val := Elt Ideal) (e := .f32) (S := Mat 1024 1024)
    (fun y => ffn (row (x ⟨(y 0).val / 512, by have : (y 0).val < 1024 := (y 0).isLt; omega⟩) ⟨(y 0).val % 512, by omega⟩)
          (row gi 0) (row s 0) (row go 0) (entries Wg) (entries Wu) (entries Wd) (y 1)) _
    (fun w hw z => ?_) y (View.cover_of_tiledL _ ![512, 1024] (by sl_kernel_rfl) y)
  have key : ∀ t : Fin 2, w = piece vw x gi s go Wg Wu Wd t → w.2 z = ffn (row (x ⟨(w.1.emb z 0).val / 512, by have : (w.1.emb z 0).val < 1024 := (w.1.emb z 0).isLt; omega⟩) ⟨(w.1.emb z 0).val % 512, by omega⟩)
          (row gi 0) (row s 0) (row go 0) (entries Wg) (entries Wu) (entries Wd) (w.1.emb z 1) := by
    rintro t rfl
    obtain ⟨r, l, rfl⟩ : ∃ (r : Fin 512) (l : Fin 1024), z = ix2 r l := ⟨z 0, z 1, by funext a; match a with | 0 => rfl | 1 => rfl⟩
    have hr := r.isLt
    have ht := t.isLt
    refine (outRows_apply vw x gi s go Wg Wu Wd t r l).trans ?_
    have e0 : (⟨(512 * t.val + 1 * r.val) / 512, by omega⟩ : Fin 2) = t := Fin.ext (show (512 * t.val + 1 * r.val) / 512 = t.val by omega)
    have e1 : (⟨(512 * t.val + 1 * r.val) % 512, by omega⟩ : Fin 512) = r := Fin.ext (show (512 * t.val + 1 * r.val) % 512 = r.val by omega)
    have e2 : (⟨0 + 1 * l.val, by omega⟩ : Fin 1024) = l := Fin.ext (show 0 + 1 * l.val = l.val by omega)
    show _ = ffn (row (x ⟨(512 * t.val + 1 * r.val) / 512, _⟩) ⟨(512 * t.val + 1 * r.val) % 512, _⟩) _ _ _ _ _ _ ⟨0 + 1 * l.val, _⟩
    rw [e0, e1, e2]
  simp only [stores, List.mem_cons, List.not_mem_nil, or_false] at hw
  rcases hw with h | h <;> exact key _ h

end Cert.Ffn

end
-- ==== Proof.FfnMath.lean ====
/- The feed-forward half-step on plain functions: the zero columns that fill the weights up change nothing, and the half-step
   as the reference writes it is the kernel's. -/
module

public import proofs.«01_k».proof.Proof.FfnRows

@[expose] public section

set_option maxRecDepth 16384

noncomputable section

namespace Cert.Ffn

open Idealize.ShloMosaic Idealize.SL.Sem

/-- The half-step of one row, from the row, the two gains, the shift, the scale and the gate of its batch row, and the weights. -/
def step {n : ℕ} (x gpre gpost shift scale gate : Fin 1024 → EReal) (wg wu : Fin 1024 → Fin n → EReal) (wd : Fin n → Fin 1024 → EReal) (j : Fin 1024) : EReal :=
  ffn x (fun k => gpre k * (Ideal.ofBits .f32 0x3F800000#32 + scale k)) shift (fun k => gpost k * (Ideal.ofBits .f32 0x3F000000#32 * gate k)) wg wu wd j

/-- A weight's columns filled up with zeros, and a weight's rows. -/
def padCols (w : Fin 1024 → Fin 2752 → EReal) (i : Fin 1024) (k : Fin 2816) : EReal := if h : k.val < 2752 then w i ⟨k.val, h⟩ else 0
def padRows (w : Fin 2752 → Fin 1024 → EReal) (k : Fin 2816) (j : Fin 1024) : EReal := if h : k.val < 2752 then w ⟨k.val, h⟩ j else 0

/-- A sum whose terms from 2752 on are zero. -/
theorem sum_pad (f : Fin 2816 → EReal) (g : Fin 2752 → EReal) (h : ∀ k : Fin 2816, f k = if h : k.val < 2752 then g ⟨k.val, h⟩ else 0) :
    ∑ k, f k = ∑ k, g k := by
  have e := Fin.sum_univ_add (a := 2752) (b := 64) f
  refine e.trans ?_
  rw [Finset.sum_eq_zero (s := Finset.univ) (f := fun i : Fin 64 => f (Fin.natAdd 2752 i)) fun i _ => (h _).trans (dif_neg (by show ¬ 2752 + i.val < 2752; omega)), add_zero]
  exact Finset.sum_congr rfl fun k _ => (h _).trans (dif_pos k.isLt)

theorem ffn_pad (x g s o : Fin 1024 → EReal) (wg wu : Fin 1024 → Fin 2752 → EReal) (wd : Fin 2752 → Fin 1024 → EReal) (j : Fin 1024) :
    ffn x g s o (padCols wg) (padCols wu) (padRows wd) j = ffn x g s o wg wu wd j := by
  unfold ffn
  refine congrArg (x j + normed 0x44800000#32 · j * o j) ?_
  funext j
  refine sum_pad _ _ fun k => ?_
  by_cases h : k.val < 2752
  · rw [dif_pos h]
    have e : ∀ w i, padCols w i k = w i ⟨k.val, h⟩ := fun w i => dif_pos h
    have e' : padRows wd k j = wd ⟨k.val, h⟩ j := dif_pos h
    unfold gated
    simp only [e, e']
  · rw [dif_neg h]
    have e' : padRows wd k j = 0 := dif_neg h
    rw [e', mul_zero]

theorem step_pad (x gpre gpost shift scale gate : Fin 1024 → EReal) (wg wu : Fin 1024 → Fin 2752 → EReal) (wd : Fin 2752 → Fin 1024 → EReal) (j : Fin 1024) :
    step x gpre gpost shift scale gate (padCols wg) (padCols wu) (padRows wd) j = step x gpre gpost shift scale gate wg wu wd j := ffn_pad _ _ _ _ _ _ _ _

/-- The half-step with the gains applied one after the other, as the reference has it. -/
theorem step_eq {n : ℕ} (x gpre gpost shift scale gate : Fin 1024 → EReal) (wg wu : Fin 1024 → Fin n → EReal) (wd : Fin n → Fin 1024 → EReal) (j : Fin 1024) :
    step x gpre gpost shift scale gate wg wu wd j
      = x j + (Ideal.ofBits .f32 0x3F000000#32 * gate j) * (normed 0x44800000#32 (fun j => ∑ k, gated (fun i => normed 0x44800000#32 x i * gpre i * (Ideal.ofBits .f32 0x3F800000#32 + scale i) + shift i) wg wu k * wd k j) j * gpost j) := by
  unfold step ffn hidden
  simp only [mul_assoc, mul_comm, mul_left_comm]

end Cert.Ffn

end
-- ==== Proof.FfnBlocks.lean ====
/- A feed-forward point's gains and rows read off its blocks, and its output block as the half-step of its rows. -/
module

public import proofs.«01_k».proof.Proof.FfnMath

@[expose] public section

set_option maxRecDepth 16384

noncomputable section

namespace Cert.Ffn

open Idealize.ShloMosaic Idealize.SL.Sem

/-- A block of rows, a gain, and row `i` of a conditioning block, as functions. -/
def rowOf {a b : ℕ} (X : Vec Ideal (Mat a b) .f32) (r : Fin a) (j : Fin b) : EReal := X (ix2 r j)
def condOf (M : Vec Ideal (Box 1 9 1024) .f32) (i : Fin 9) (j : Fin 1024) : EReal := M (ix3 0 i j)

theorem modRow_apply (M : Vec Ideal (Box 1 9 1024) .f32) (i : Fin 9) (j : Fin 1024) : modRow (modAt M i) (ix2 0 j) = condOf M i j := by
  refine (shapeCast_apply _ _ _ (ix3 0 0 j : (Box 1 1 1024).Idx) ?_).trans (congrArg M ?_)
  · rw [Shape.rowMajor_val_two, Shape.rowMajor_val_three]; rfl
  · funext a; apply Fin.ext
    match a with
    | 0 => rfl
    | 1 => show i.val + 1 * 0 = i.val; omega
    | 2 => show 0 + 1 * j.val = j.val; omega

theorem gainRow_apply (G : Vec Ideal (Mat 1 1024) .f32) (j : Fin 1024) : gainRow (gainAt G) (ix2 0 j) = rowOf G 0 j := by
  unfold gainRow
  rw [shapeCast_self]
  refine congrArg G ?_
  funext a; apply Fin.ext
  match a with
  | 0 => rfl
  | 1 => show 0 + 1 * j.val = j.val; omega

theorem half_apply (X : Vec Ideal (Mat 1024 1024) .f32) (t : Fin 2) (r : Fin 512) (j : Fin 1024) (R : Fin 1024) (hR : R.val = 512 * t.val + r.val) :
    half X t (ix2 r j) = rowOf X R j := by
  unfold half rowsIn
  rw [shapeCast_self]
  refine congrArg X ?_
  funext a; apply Fin.ext
  match a with
  | 0 => show 512 * t.val + 1 * r.val = R.val; omega
  | 1 => show 0 + 1 * j.val = j.val; omega

theorem gainIn_apply (G : Vec Ideal (Mat 1 1024) .f32) (M : Vec Ideal (Box 1 9 1024) .f32) (i : Fin 9) (j : Fin 1024) :
    gainIn (gainAt G) (modAt M i) (ix2 0 j) = rowOf G 0 j * (Ideal.ofBits .f32 0x3F800000#32 + condOf M i j) := by
  unfold gainIn
  pointwise [gainRow_apply, modRow_apply]

theorem gainOut_apply (G : Vec Ideal (Mat 1 1024) .f32) (M : Vec Ideal (Box 1 9 1024) .f32) (i : Fin 9) (j : Fin 1024) :
    gainOut (gainAt G) (modAt M i) (ix2 0 j) = rowOf G 0 j * (Ideal.ofBits .f32 0x3F000000#32 * condOf M i j) := by
  unfold gainOut
  pointwise [gainRow_apply, modRow_apply]

variable {sig : RefSig} {κ : Kind} {sp : Space} (vw : View sig κ sp (Box 2 512 2816) .bf16)

/-- The output block, when the rows of the two halves are those of `X` and the conditioning rows are `i`, `i'` and `i''`. -/
theorem block_apply (x : Fin 2 → FVec Ideal (Mat 512 1024) .f32) (X : Fin 1024 → Fin 1024 → EReal) (M : Vec Ideal (Box 1 9 1024) .f32) (Gi Go : Vec Ideal (Mat 1 1024) .f32)
    (i i' i'' : Fin 9) (Wg Wu : Vec Ideal (Mat 1024 2816) .bf16) (Wd : Vec Ideal (Mat 2816 1024) .bf16)
    (hx : ∀ (t : Fin 2) (r : Fin 512) (j R : Fin 1024), R.val = 512 * t.val + r.val → x t (ix2 r j) = X R j) (y : (Mat 1024 1024).Idx) :
    View.canon (stores vw x (gainIn (gainAt Gi) (modAt M i')) (modRow (modAt M i)) (gainOut (gainAt Go) (modAt M i'')) Wg Wu Wd) y
      = step (X (y 0)) (rowOf Gi 0) (rowOf Go 0) (condOf M i) (condOf M i') (condOf M i'') (entries Wg) (entries Wu) (entries Wd) (y 1) := by
  refine (stores_apply vw x _ _ _ Wg Wu Wd y).trans ?_
  unfold step
  congr 1
  · funext j
    exact hx _ _ j (y 0) (show (y 0).val = 512 * ((y 0).val / 512) + (y 0).val % 512 by omega)
  · funext j; exact gainIn_apply _ _ _ j
  · funext j; exact modRow_apply _ _ j
  · funext j; exact gainOut_apply _ _ _ j

/-- The word the padding is made of. -/
theorem pad_word : (FloatOps.sitofp FTy.bf16 0#32 : Ideal .bf16) = 0 := by
  show ((((0#32 : BitVec 32).toInt : ℝ)) : EReal) = 0
  simp

end Cert.Ffn

end
-- ==== Proof.FfaArray.lean ====
/- The first feed-forward call's result array: each grid point writes its 1024 rows, and the blocks tile the array. -/
module

public import proofs.«01_k».proof.Proof.FfaStores
public import proofs.«01_k».proof.Proof.FfnBlocks

@[expose] public section

set_option maxRecDepth 16384

noncomputable section

namespace Cert.FfaIdeal.Val

open Cert.FfaIdeal Cert.FfaIdeal.Gen Cert.FfaIdeal.Value Idealize.ShloMosaic Idealize.ShloMosaic.TcCoe Idealize.SL.Sem
open Idealize.ShloMosaic.Pipeline (Dat)
open Cert.Ffn

/-- The half-step of every row, from the call's arguments. -/
def halfStep (x : FVec Ideal S32x2048x1024 .f32) (mod : FVec Ideal S32x9x1024 .f32) (gpre gpost : FVec Ideal S1024 .f32)
    (wg wu : FVec Ideal S1024x2752 .f32) (wd : FVec Ideal S2752x1024 .f32) : FVec Ideal S65536x1024 .f32 := fun i =>
  have h : (i 0).val < 65536 := (i 0).isLt
  step (fun j => x (ix3 ⟨(i 0).val / 2048, by omega⟩ ⟨(i 0).val % 2048, by omega⟩ j)) (fun j => gpre (ix1 j)) (fun j => gpost (ix1 j))
    (fun j => mod (ix3 ⟨(i 0).val / 2048, by omega⟩ 0 j)) (fun j => mod (ix3 ⟨(i 0).val / 2048, by omega⟩ 1 j)) (fun j => mod (ix3 ⟨(i 0).val / 2048, by omega⟩ 2 j))
    (fun i k => wg (ix2 i k)) (fun i k => wu (ix2 i k)) (fun k j => wd (ix2 k j)) (i 1)

variable (m : (ℓ : Loc nD τ sig) → Buf (Elt Ideal) ℓ) (c : Dev nD)

theorem index_rows : ∀ t : Fin grid0.N,
    (win0_0.index t 0 = t.val ∧ win0_0.index t 1 = 0) ∧ (win0_7.index t 0 = t.val ∧ win0_7.index t 1 = 0)
    ∧ (win0_1.index t 0 = t.val / 2 ∧ win0_1.index t 1 = 0 ∧ win0_1.index t 2 = 0) := by decide +kernel

theorem index_whole : ∀ t : Fin grid0.N,
    (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0) := by decide +kernel

theorem lt_64 (t : Fin cfg0.N) : t.val < 64 := t.isLt

theorem V_main_v6 : V m c main_v6 = shapeCast S65536x1024 (m ((c : Thread nD τ).loc main_arg0)) shapeCasts_S32x2048x1024_S65536x1024 := by
  show StableHlo.after (List.flatten _) _ _ = _
  simp only [hostOps0, hostOps0_1, hostOps0_2, hostOps0_3, hostOps0_4, hostOps0_5, hostOps0_6, List.flatten_cons, List.flatten_nil, List.append_nil, List.cons_append, List.nil_append]
  after_results
  rfl

theorem V_main_v7 : V m c main_v7 = shapeCast S1x1024 (m ((c : Thread nD τ).loc main_arg2)) shapeCasts_S1024_S1x1024 := by
  show StableHlo.after (List.flatten _) _ _ = _
  simp only [hostOps0, hostOps0_1, hostOps0_2, hostOps0_3, hostOps0_4, hostOps0_5, hostOps0_6, List.flatten_cons, List.flatten_nil, List.append_nil, List.cons_append, List.nil_append]
  after_results
  rfl

theorem V_main_v8 : V m c main_v8 = shapeCast S1x1024 (m ((c : Thread nD τ).loc main_arg3)) shapeCasts_S1024_S1x1024 := by
  show StableHlo.after (List.flatten _) _ _ = _
  simp only [hostOps0, hostOps0_1, hostOps0_2, hostOps0_3, hostOps0_4, hostOps0_5, hostOps0_6, List.flatten_cons, List.flatten_nil, List.append_nil, List.cons_append, List.nil_append]
  after_results
  rfl

/-- A weight with its columns filled up, and one with its rows filled up, as the host pads them. -/
def paddedCols (w : FVec Ideal S1024x2752 .f32) : FVec Ideal S1024x2816 .bf16 :=
  pad S1024x2816 ![0, 0] ![0, 64] ![0, 0] (truncf .bf16 w bitsLt_bf16_f32 : FVec Ideal S1024x2752 .bf16) (sitofp .bf16 (constantI S_ 32 0#32) : FVec Ideal S_ .bf16) pads_S1024x2752_S1024x2816_000_0640 h_S_
def paddedRows (w : FVec Ideal S2752x1024 .f32) : FVec Ideal S2816x1024 .bf16 :=
  pad S2816x1024 ![0, 0] ![64, 0] ![0, 0] (truncf .bf16 w bitsLt_bf16_f32 : FVec Ideal S2752x1024 .bf16) (sitofp .bf16 (constantI S_ 32 0#32) : FVec Ideal S_ .bf16) pads_S2752x1024_S2816x1024_0640_000 h_S_

theorem paddedCols_apply (w : FVec Ideal S1024x2752 .f32) (i : Fin 1024) (k : Fin 2816) : paddedCols w (ix2 i k) = padCols (fun i k => w (ix2 i k)) i k := by
  unfold padCols
  pointwise [paddedCols]
  rw [pad_word]

theorem paddedRows_apply (w : FVec Ideal S2752x1024 .f32) (k : Fin 2816) (j : Fin 1024) : paddedRows w (ix2 k j) = padRows (fun k j => w (ix2 k j)) k j := by
  unfold padRows
  pointwise [paddedRows]
  rw [pad_word]

theorem V_main_v1 : V m c main_v1 = paddedRows (m ((c : Thread nD τ).loc main_arg6)) := by
  show StableHlo.after (List.flatten _) _ _ = _
  simp only [hostOps0, hostOps0_1, hostOps0_2, hostOps0_3, hostOps0_4, hostOps0_5, hostOps0_6, List.flatten_cons, List.flatten_nil, List.append_nil, List.cons_append, List.nil_append]
  after_results
  rfl

theorem V_main_v3 : V m c main_v3 = paddedCols (m ((c : Thread nD τ).loc main_arg4)) := by
  show StableHlo.after (List.flatten _) _ _ = _
  simp only [hostOps0, hostOps0_1, hostOps0_2, hostOps0_3, hostOps0_4, hostOps0_5, hostOps0_6, List.flatten_cons, List.flatten_nil, List.append_nil, List.cons_append, List.nil_append]
  after_results
  rfl

theorem V_main_v5 : V m c main_v5 = paddedCols (m ((c : Thread nD τ).loc main_arg5)) := by
  show StableHlo.after (List.flatten _) _ _ = _
  simp only [hostOps0, hostOps0_1, hostOps0_2, hostOps0_3, hostOps0_4, hostOps0_5, hostOps0_6, List.flatten_cons, List.flatten_nil, List.append_nil, List.cons_append, List.nil_append]
  after_results
  rfl

theorem emb7 (t : Fin cfg0.N) (j : S1024x1024.Idx) :
    ((cfg0.win 7).blk t).view.emb j = (ix2 ⟨1024 * t.val + (j 0).val, by have := lt_64 t; have : (j 0).val < 1024 := (j 0).isLt; omega⟩ (j 1) : S65536x1024.Idx) := by
  obtain ⟨e0, e1⟩ := (index_rows t).2.1
  funext a; apply Fin.ext
  match a with
  | 0 => show win0_7.index t 0 * 1024 + 1 * (j 0).val = 1024 * t.val + (j 0).val; omega
  | 1 => show win0_7.index t 1 * 1024 + 1 * (j 1).val = (j 1).val; omega

/-- The rows as the region finds them, one batch row after the other, and a gain. -/
theorem rows_split (x : FVec Ideal S32x2048x1024 .f32) (i : S65536x1024.Idx) (n : ℕ) (hn : n < 65536) (j : Fin 1024) (h0 : (i 0).val = n) (h1 : (i 1).val = j.val) :
    shapeCast S65536x1024 x shapeCasts_S32x2048x1024_S65536x1024 i = x (ix3 ⟨n / 2048, by omega⟩ ⟨n % 2048, by omega⟩ j) := by
  refine shapeCast_apply x _ _ _ ?_
  rw [Shape.rowMajor_val_three, Shape.rowMajor_val_two]
  show (n / 2048 * 2048 + n % 2048) * 1024 + j.val = (i 0).val * 1024 + (i 1).val
  omega

theorem gain_split (g : FVec Ideal S1024 .f32) (i : S1x1024.Idx) (j : Fin 1024) (h1 : (i 1).val = j.val) :
    shapeCast S1x1024 g shapeCasts_S1024_S1x1024 i = g (ix1 j) := by
  refine shapeCast_apply g _ _ _ ?_
  rw [Shape.rowMajor_val_one, Shape.rowMajor_val_two]
  have h0 : (i 0).val < 1 := (i 0).isLt
  show j.val = (i 0).val * 1024 + (i 1).val
  omega

/-- The point's rows, and the point's batch row of the conditioning. -/
theorem block0 (t : Fin cfg0.N) (R j : Fin 1024) :
    rowOf (iblk m c 0 t) R j = m ((c : Thread nD τ).loc main_arg0) (ix3 ⟨(1024 * t.val + R.val) / 2048, by have := lt_64 t; omega⟩ ⟨(1024 * t.val + R.val) % 2048, by omega⟩ j) := by
  show V m c main_v6 (((cfg0.win 0).blk t).view.emb (ix2 R j : S1024x1024.Idx)) = _
  rw [V_main_v6]
  obtain ⟨e0, e1⟩ := (index_rows t).1
  have ht := lt_64 t
  exact rows_split _ _ (1024 * t.val + R.val) (by omega) j (show win0_0.index t 0 * 1024 + 1 * R.val = _ by omega) (show win0_0.index t 1 * 1024 + 1 * j.val = _ by omega)

theorem block1 (t : Fin cfg0.N) (i : Fin 9) (j : Fin 1024) :
    condOf (iblk m c 1 t) i j = m ((c : Thread nD τ).loc main_arg1) (ix3 ⟨t.val / 2, by have := lt_64 t; omega⟩ i j) := by
  show V m c main_arg1 (((cfg0.win 1).blk t).view.emb (ix3 0 i j : S1x9x1024.Idx)) = _
  rw [V_main_arg1]
  refine congrArg (m ((c : Thread nD τ).loc main_arg1)) ?_
  obtain ⟨e0, e1, e2⟩ := (index_rows t).2.2
  funext a; apply Fin.ext
  match a with
  | 0 => show win0_1.index t 0 * 1 + 1 * 0 = t.val / 2; omega
  | 1 => show win0_1.index t 1 * 9 + 1 * i.val = i.val; omega
  | 2 => show win0_1.index t 2 * 1024 + 1 * j.val = j.val; omega

theorem block2 (t : Fin cfg0.N) (j : Fin 1024) : rowOf (iblk m c 2 t) 0 j = m ((c : Thread nD τ).loc main_arg2) (ix1 j) := by
  show V m c main_v7 (((cfg0.win 2).blk t).view.emb (ix2 0 j : S1x1024.Idx)) = _
  rw [V_main_v7]
  obtain ⟨e0, e1⟩ := (index_whole t).1
  exact gain_split _ _ j (show win0_2.index t 1 * 1024 + 1 * j.val = _ by omega)

theorem block3 (t : Fin cfg0.N) (j : Fin 1024) : rowOf (iblk m c 3 t) 0 j = m ((c : Thread nD τ).loc main_arg3) (ix1 j) := by
  show V m c main_v8 (((cfg0.win 3).blk t).view.emb (ix2 0 j : S1x1024.Idx)) = _
  rw [V_main_v8]
  obtain ⟨e0, e1⟩ := (index_whole t).2.1
  exact gain_split _ _ j (show win0_3.index t 1 * 1024 + 1 * j.val = _ by omega)

theorem block4 (t : Fin cfg0.N) : entries (iblk m c 4 t) = padCols (fun i k => m ((c : Thread nD τ).loc main_arg4) (ix2 i k)) := by
  funext i k
  show V m c main_v3 (((cfg0.win 4).blk t).view.emb (ix2 i k : S1024x2816.Idx)) = _
  rw [V_main_v3, ← paddedCols_apply]
  refine congrArg (paddedCols _) ?_
  obtain ⟨e0, e1⟩ := (index_whole t).2.2.1
  funext a; apply Fin.ext
  match a with
  | 0 => show win0_4.index t 0 * 1024 + 1 * i.val = i.val; omega
  | 1 => show win0_4.index t 1 * 2816 + 1 * k.val = k.val; omega

theorem block5 (t : Fin cfg0.N) : entries (iblk m c 5 t) = padCols (fun i k => m ((c : Thread nD τ).loc main_arg5) (ix2 i k)) := by
  funext i k
  show V m c main_v5 (((cfg0.win 5).blk t).view.emb (ix2 i k : S1024x2816.Idx)) = _
  rw [V_main_v5, ← paddedCols_apply]
  refine congrArg (paddedCols _) ?_
  obtain ⟨e0, e1⟩ := (index_whole t).2.2.2.1
  funext a; apply Fin.ext
  match a with
  | 0 => show win0_5.index t 0 * 1024 + 1 * i.val = i.val; omega
  | 1 => show win0_5.index t 1 * 2816 + 1 * k.val = k.val; omega

theorem block6 (t : Fin cfg0.N) : entries (iblk m c 6 t) = padRows (fun k j => m ((c : Thread nD τ).loc main_arg6) (ix2 k j)) := by
  funext k j
  show V m c main_v1 (((cfg0.win 6).blk t).view.emb (ix2 k j : S2816x1024.Idx)) = _
  rw [V_main_v1, ← paddedRows_apply]
  refine congrArg (paddedRows _) ?_
  obtain ⟨e0, e1⟩ := (index_whole t).2.2.2.2
  funext a; apply Fin.ext
  match a with
  | 0 => show win0_6.index t 0 * 2816 + 1 * k.val = k.val; omega
  | 1 => show win0_6.index t 1 * 1024 + 1 * j.val = j.val; omega

/-- The half-step of the launched arguments. -/
def result : FVec Ideal S65536x1024 .f32 :=
  halfStep (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- A point's output block is the half-step of its rows. -/
theorem point_apply (t : Fin cfg0.N) (j : S1024x1024.Idx) :
    View.canon (pointStores scM0_0.view (iblk m c 0 t) (iblk m c 1 t) (iblk m c 2 t) (iblk m c 3 t) (iblk m c 4 t) (iblk m c 5 t) (iblk m c 6 t)) j
      = result m c (ix2 ⟨1024 * t.val + (j 0).val, by have := lt_64 t; have : (j 0).val < 1024 := (j 0).isLt; omega⟩ (j 1)) := by
  refine (block_apply scM0_0.view (half (iblk m c 0 t)) (rowOf (iblk m c 0 t)) (iblk m c 1 t) (iblk m c 2 t) (iblk m c 3 t) 0 1 2 (iblk m c 4 t) (iblk m c 5 t) (iblk m c 6 t)
    (fun t r j R h => half_apply _ t r j R h) j).trans ?_
  rw [block4, block5, block6]
  refine (step_pad _ _ _ _ _ _ _ _ _ (j 1)).trans ?_
  have hj : (j 0).val < 1024 := (j 0).isLt
  have ht := lt_64 t
  have eb : (⟨t.val / 2, by omega⟩ : Fin 32) = ⟨(1024 * t.val + (j 0).val) / 2048, by omega⟩ := Fin.ext (by simp only []; omega)
  unfold result halfStep
  congr 1
  · funext k; exact block0 m c t (j 0) k
  · funext k; exact block2 m c t k
  · funext k; exact block3 m c t k
  · funext k; rw [block1, eb]; rfl
  · funext k; rw [block1, eb]; rfl
  · funext k; rw [block1, eb]; rfl

theorem flushed_eq (t : Fin cfg0.N) : (dats m 0 c).flushed 7 t = ((cfg0.win 7).blk t).view.read (Elt Ideal) (result m c) := by
  rw [flushed7, outs_eq]
  funext j
  show View.canon (Val := Elt Ideal) (e := .f32) _ (j : S1024x1024.Idx) = result m c (((cfg0.win 7).blk t).view.emb j)
  rw [emb7]
  exact point_apply m c t j

theorem covered (i : S65536x1024.Idx) : ∃ t : Fin cfg0.N, (cfg0.win 7).flush t = true ∧ i ∈ ((cfg0.win 7).blk t).view.set := by
  have hi : (i 0).val < 65536 := (i 0).isLt
  refine ⟨⟨(i 0).val / 1024, by show (i 0).val / 1024 < 64; omega⟩, flush0_7 _, ?_⟩
  have h := ((cfg0.win 7).blk ⟨(i 0).val / 1024, by show (i 0).val / 1024 < 64; omega⟩).view.emb_mem_set (ix2 ⟨(i 0).val % 1024, by omega⟩ (i 1) : S1024x1024.Idx)
  rw [emb7] at h
  refine (congrArg (· ∈ _) ?_).mp h
  funext a; apply Fin.ext
  match a with
  | 0 => show 1024 * ((i 0).val / 1024) + (i 0).val % 1024 = (i 0).val; omega
  | 1 => rfl

theorem final : (dats m 0 c).arrAt 7 cfg0.N = result m c :=
  (dats m 0 c).arrAt_eq_of_cover 7 (result m c) (fun t _ => flushed_eq m c t) covered

end Cert.FfaIdeal.Val

end
-- ==== Proof.FfaReference.lean ====
/- The first feed-forward reference's result read at an index: the same half-step of the same row. -/
module

public import proofs.«01_k».proof.Proof.FfaArray
public import proofs.«01_k».proof.Proof.Gen.FfaRefIdeal.Read

@[expose] public section

set_option maxRecDepth 16384

noncomputable section

namespace Cert.FfaRefIdeal.Val

open Cert.FfaRefIdeal Cert.FfaRefIdeal.Gen Cert.FfaRefIdeal.Read Idealize.ShloMosaic Idealize.ShloMosaic.TcCoe Idealize.SL.Sem
open Cert.Ffn (normed gated step step_eq)

variable (x0 : FVec Ideal S32x2048x1024 .f32) (x1 : FVec Ideal S32x9x1024 .f32) (x2 x3 : FVec Ideal S1024 .f32) (x4 x5 : FVec Ideal S1024x2752 .f32) (x6 : FVec Ideal S2752x1024 .f32)
variable (b : Fin 32) (r : Fin 2048) (j : Fin 1024)

/-- The norm of the input rows. -/
theorem v9_at : val_main_v9 (F := Ideal) x0 (ix3 b r j) = normed 0x44800000#32 (fun j => x0 (ix3 b r j)) j := by
  rw [val_main_v9_apply, val_main_v8_apply, val_main_v7_apply, val_main_v6_apply, val_main_v4_apply, val_main_v2_apply, val_main_v1_apply, val_main_v3_apply, val_main_v5_apply,
    val_main_cst_apply, val_main_cst_0_apply, val_main_cst_1_apply]
  have e : ∀ k, idx_main_v1 (idx_main_v2 (idx_main_v8 (ix3 b r j))) k = ix3 b r k := fun k => by
    funext a; match a with | 0 => rfl | 1 => rfl | 2 => rfl
  simp only [e, val_main_v0_apply]
  unfold normed
  show x0 (ix3 b r j) * Ideal.rsqrt (Ideal.div (Ideal.ofBits .f32 0x00000000#32 + _) _ + _) = _
  rw [Ideal.ofBits_zero, zero_add]; rfl

theorem v11_at : val_main_v11 (F := Ideal) x2 (ix3 b r j) = x2 (ix1 j) := by
  rw [val_main_v11_apply, val_main_v10_apply]
  refine congrArg x2 ?_
  funext a; match a with | 0 => rfl

/-- A row of the conditioning, spread over the batch row's tokens. -/
theorem v15_at : val_main_v15 (F := Ideal) x1 (ix3 b 0 j) = x1 (ix3 b 1 j) := by
  rw [val_main_v15_apply, val_main_v14_apply, val_main_v13_apply]
  refine congrArg x1 ?_
  funext a; apply Fin.ext
  match a with
  | 0 => show (b.val * 1024 + j.val) / 1024 = b.val; omega
  | 1 => rfl
  | 2 => show (b.val * 1024 + j.val) % 1024 = j.val; omega

theorem v22_at : val_main_v22 (F := Ideal) x1 (ix3 b 0 j) = x1 (ix3 b 0 j) := by
  rw [val_main_v22_apply, val_main_v21_apply, val_main_v20_apply]
  refine congrArg x1 ?_
  funext a; apply Fin.ext
  match a with
  | 0 => show (b.val * 1024 + j.val) / 1024 = b.val; omega
  | 1 => rfl
  | 2 => show (b.val * 1024 + j.val) % 1024 = j.val; omega

theorem v45_at : val_main_v45 (F := Ideal) x1 (ix3 b 0 j) = x1 (ix3 b 2 j) := by
  rw [val_main_v45_apply, val_main_v44_apply, val_main_v43_apply]
  refine congrArg x1 ?_
  funext a; apply Fin.ext
  match a with
  | 0 => show (b.val * 1024 + j.val) / 1024 = b.val; omega
  | 1 => rfl
  | 2 => show (b.val * 1024 + j.val) % 1024 = j.val; omega

/-- The hidden layer's input. -/
def inner (k : Fin 1024) : EReal :=
  normed 0x44800000#32 (fun j => x0 (ix3 b r j)) k * x2 (ix1 k) * (Ideal.ofBits .f32 0x3F800000#32 + x1 (ix3 b 1 k)) + x1 (ix3 b 0 k)

theorem v24_at : val_main_v24 (F := Ideal) x0 x1 x2 (ix3 b r j) = inner x0 x1 x2 b r j := by
  have e18 : idx_main_v18 (ix3 b r j) = ix3 b 0 j := by funext a; match a with | 0 => rfl | 1 => rfl | 2 => rfl
  have e23 : idx_main_v23 (ix3 b r j) = ix3 b 0 j := by funext a; match a with | 0 => rfl | 1 => rfl | 2 => rfl
  rw [val_main_v24_apply, val_main_v19_apply, val_main_v12_apply, v9_at, v11_at, val_main_v18_apply, e18, val_main_v17_apply, v15_at, val_main_v16_apply, val_main_cst_2_apply,
    val_main_v23_apply, e23, v22_at]
  rfl

theorem one_value : Ideal.ofBits .f32 0x3F800000#32 = 1 := by
  rw [show (1 : EReal) = ((1 : ℝ) : EReal) by norm_cast]
  simp [Ideal.ofBits, Ideal.ieee, -EReal.coe_mul]; norm_num

theorem v25_at (k : Fin 2752) : val_main_v25 (F := Ideal) x0 x1 x2 x4 (ix3 b r k) = ∑ i, inner x0 x1 x2 b r i * x4 (ix2 i k) := by
  rw [val_main_v25_apply]
  refine Finset.sum_congr rfl fun i _ => congrArg₂ (α := EReal) (β := EReal) (· * ·) (Eq.trans (congrArg _ ?_) (v24_at x0 x1 x2 b r i)) (congrArg x4 ?_)
  · funext a; match a with | 0 => rfl | 1 => rfl | 2 => rfl
  · funext a; match a with | 0 => rfl | 1 => rfl

theorem v27_at (k : Fin 2752) : val_main_v27 (F := Ideal) x0 x1 x2 x4 (ix3 b r k) = ∑ i, inner x0 x1 x2 b r i * x4 (ix2 i k) := v25_at x0 x1 x2 x4 b r k

/-- The gated hidden layer. -/
theorem v28_at (k : Fin 2752) : val_main_v28 (F := Ideal) x0 x1 x2 x4 x5 (ix3 b r k) = gated (inner x0 x1 x2 b r) (fun i k => x4 (ix2 i k)) (fun i k => x5 (ix2 i k)) k := by
  rw [val_main_v28_apply, val_main_v26_apply, val_main_call0_v5_apply, val_main_call0_v4_apply, val_main_call0_v3_apply, val_main_call0_v2_apply, val_main_call0_v1_apply, val_main_call0_v0_apply,
    val_main_call0_cst_apply, val_main_call0_cst_0_apply, v25_at, v27_at]
  unfold gated Ideal.logistic
  show _ * Ideal.div (Ideal.ofBits .f32 0x3F800000#32) (Ideal.ofBits .f32 0x3F800000#32 + Ideal.exp (- _)) * _ = _
  rw [one_value]

/-- What leaves the hidden layer. -/
def leaves (j : Fin 1024) : EReal := ∑ k, gated (inner x0 x1 x2 b r) (fun i k => x4 (ix2 i k)) (fun i k => x5 (ix2 i k)) k * x6 (ix2 k j)

theorem v29_at : val_main_v29 (F := Ideal) x0 x1 x2 x4 x5 x6 (ix3 b r j) = leaves x0 x1 x2 x4 x5 x6 b r j := by
  rw [val_main_v29_apply]
  refine Finset.sum_congr rfl fun k _ => congrArg₂ (α := EReal) (β := EReal) (· * ·) (Eq.trans (congrArg _ ?_) (v28_at x0 x1 x2 x4 x5 b r k)) (congrArg x6 ?_)
  · funext a; match a with | 0 => rfl | 1 => rfl | 2 => rfl
  · funext a; match a with | 0 => rfl | 1 => rfl

theorem v39_at : val_main_v39 (F := Ideal) x0 x1 x2 x4 x5 x6 (ix3 b r j) = normed 0x44800000#32 (leaves x0 x1 x2 x4 x5 x6 b r) j := by
  rw [val_main_v39_apply, val_main_v38_apply, val_main_v37_apply, val_main_v36_apply, val_main_v34_apply, val_main_v32_apply, val_main_v31_apply, val_main_v33_apply, val_main_v35_apply,
    val_main_cst_3_apply, val_main_cst_4_apply, val_main_cst_5_apply, v29_at]
  have e : ∀ k, idx_main_v31 (idx_main_v32 (idx_main_v38 (ix3 b r j))) k = ix3 b r k := fun k => by
    funext a; match a with | 0 => rfl | 1 => rfl | 2 => rfl
  simp only [e, val_main_v30_apply, v29_at]
  unfold normed
  show _ * Ideal.rsqrt (Ideal.div (Ideal.ofBits .f32 0x00000000#32 + _) _ + _) = _
  rw [Ideal.ofBits_zero, zero_add]; rfl

theorem v41_at : val_main_v41 (F := Ideal) x3 (ix3 b r j) = x3 (ix1 j) := v11_at x3 b r j

theorem v50_at : val_main_v50 (F := Ideal) x0 x1 x2 x3 x4 x5 x6 (ix3 b r j)
    = step (fun j => x0 (ix3 b r j)) (fun j => x2 (ix1 j)) (fun j => x3 (ix1 j)) (fun j => x1 (ix3 b 0 j)) (fun j => x1 (ix3 b 1 j)) (fun j => x1 (ix3 b 2 j))
        (fun i k => x4 (ix2 i k)) (fun i k => x5 (ix2 i k)) (fun k j => x6 (ix2 k j)) j := by
  have e48 : idx_main_v48 (ix3 b r j) = ix3 b 0 j := by funext a; match a with | 0 => rfl | 1 => rfl | 2 => rfl
  rw [val_main_v50_apply, val_main_v49_apply, val_main_v48_apply, e48, val_main_v47_apply, val_main_v46_apply, val_main_cst_6_apply, v45_at, val_main_v42_apply, v39_at, v41_at, step_eq]
  rfl

/-- The reference's result. -/
theorem reference_eq : val_main_v51 (F := Ideal) x0 x1 x2 x3 x4 x5 x6 = Cert.FfaIdeal.Val.halfStep x0 x1 x2 x3 x4 x5 x6 := by
  funext i
  rw [val_main_v51_apply]
  have h0 : (i 0).val < 65536 := (i 0).isLt
  have h1 : (i 1).val < 1024 := (i 1).isLt
  have e : idx_main_v51 i = ix3 ⟨(i 0).val / 2048, by omega⟩ ⟨(i 0).val % 2048, by omega⟩ (i 1) := by
    funext a; apply Fin.ext
    match a with
    | 0 => show ((i 0).val * 1024 + (i 1).val) / 2097152 = (i 0).val / 2048; omega
    | 1 => show ((i 0).val * 1024 + (i 1).val) / 1024 % 2048 = (i 0).val % 2048; omega
    | 2 => show ((i 0).val * 1024 + (i 1).val) % 1024 = (i 1).val; omega
  rw [e]
  exact v50_at x0 x1 x2 x3 x4 x5 x6 _ _ (i 1)

end Cert.FfaRefIdeal.Val

end
-- ==== Proof.FfaClaim.lean ====
/- The first feed-forward call's value claim: both programs leave the same array. -/
module

public import proofs.«01_k».proof.Defs
public import proofs.«01_k».proof.Proof.FfaReference
public import proofs.«01_k».proof.Proof.Gen.FfaIdeal.Frame
public import proofs.«01_k».proof.Proof.Gen.FfaRefIdeal.Run

@[expose] public section

noncomputable section

namespace Cert.Proof.Ffa

open Idealize.ShloMosaic Idealize.ShloMosaic.TcCoe Idealize.SL.Sem

theorem algebraic : algebraic_FfaIdeal_FfaRefIdeal (hFfaIdeal := Cert.FfaIdeal.Gen.facts) (hFfaRefIdeal := Cert.FfaRefIdeal.Gen.facts) := fun m ρ m' ρ' _ hag =>
  ⟨fun c => Cert.FfaIdeal.Val.result m c,
    (θ_run _ _ _).mono (fun _ h c => ⟨(h c).1.trans (Cert.FfaIdeal.Val.final m c), (h c).2⟩) (Cert.FfaIdeal.Value.run_blocks m ρ),
    (θ_run _ _ _).mono (fun _ h c => ⟨(h c).1.trans (by
      rw [Cert.FfaRefIdeal.Read.val_main_v51_eq, Cert.FfaRefIdeal.Val.reference_eq]
      obtain ⟨e0, e1, e2, e3, e4, e5, e6⟩ := hag c
      rw [e0, e1, e2, e3, e4, e5, e6]; rfl), (h c).2⟩) (Cert.FfaRefIdeal.Value.run m' ρ')⟩

end Cert.Proof.Ffa

end
-- ==== Proof.FfbStores.lean ====
/- The mixer's output projection in words: the two attentions' heads side by side, normed, and multiplied with the two halves of the
   projection; and what a grid point of the second feed-forward call leaves in its output block. -/
module

public import proofs.«01_k».proof.Proof.Gen.FfbIdeal.Value
public import proofs.«01_k».proof.Proof.FfnVocab

@[expose] public section

set_option maxRecDepth 65536

noncomputable section

namespace Cert.FfbIdeal.Val

open Cert.FfbIdeal Cert.FfbIdeal.Gen Idealize.ShloMosaic Idealize.ShloMosaic.TcCoe Idealize.SL.Sem
open Idealize.ShloMosaic.Pipeline (Dat)
open Cert.Ffn

variable (m : (ℓ : Loc nD τ sig) → Buf (Elt Ideal) ℓ)

theorem inb_h (t : Fin 2) (p : Fin 4) : ∀ a, (![0, p.val, 512 * t.val, 0] : Fin 4 → ℕ) a + (![1, 1, 512, 128] : Fin 4 → ℕ) a ≤ S1x4x1024x128.size a
  | 0 => by simp | 1 => by have := p.isLt; simp | 2 => by have := t.isLt; simp; omega | 3 => by simp

theorem inb_gain : ∀ a, (![0, 0] : Fin 2 → ℕ) a + (![1, 512] : Fin 2 → ℕ) a ≤ S1x512.size a
  | 0 => by simp | 1 => by simp

theorem inb_o (u : Fin 2) : ∀ a, (![512 * u.val, 0] : Fin 2 → ℕ) a + (![512, 1024] : Fin 2 → ℕ) a ≤ S1024x1024.size a
  | 0 => by have := u.isLt; simp; omega | 1 => by simp

/-- A pair of heads of half `t`. -/
def headPair (A : Vec Ideal S1x4x1024x128 .bf16) (t : Fin 2) (p : Fin 4) : FVec Ideal S512x128 .bf16 :=
  shapeCast S512x128 (View.ld A (Rect.unit (s := S1x4x1024x128) ![0, p.val, 512 * t.val, 0] ![1, 1, 512, 128] (inb_h t p))) shapeCasts_S1x1x512x128_S512x128

/-- The four pairs side by side. -/
def allHeads (A : Vec Ideal S1x4x1024x128 .bf16) (t : Fin 2) : FVec Ideal S512x512 .f32 :=
  extf .f32 (concatenate S512x512 1 [⟨S512x128, headPair A t 0⟩, ⟨S512x128, headPair A t 1⟩, ⟨S512x128, headPair A t 2⟩, ⟨S512x128, headPair A t 3⟩]
    concatenates_S512x128_S512x128_S512x128_S512x128_S512x512_d1 : FVec Ideal S512x512 .bf16) bitsLt_bf16_f32

/-- The heads normed. -/
def normedHeads (A : Vec Ideal S1x4x1024x128 .bf16) (G : Vec Ideal S1x512 .f32) (t : Fin 2) : FVec Ideal S512x512 .bf16 :=
  truncf .bf16 (rms rows512 0x44000000#32 (allHeads A t)
    (shapeCast S1x512 (View.ld G (Rect.unit (s := S1x512) ![0, 0] ![1, 512] inb_gain)) shapeCasts_S1x512_S1x512)) bitsLt_bf16_f32

/-- The product with rows `512 u` on of the projection. -/
def project (h : FVec Ideal S512x512 .bf16) (W : Vec Ideal S1024x1024 .bf16) (u : Fin 2) : FVec Ideal S512x1024 .f32 :=
  matmul dot_S512x512_S512x1024_S512x1024_1_0_0_1_n_n none h
    (shapeCast S512x1024 (View.ld W (Rect.unit (s := S1024x1024) ![512 * u.val, 0] ![512, 1024] (inb_o u))) shapeCasts_S512x1024_S512x1024 : FVec Ideal S512x1024 .bf16)
    (constant S512x1024 .f32 0x00000000#32)

/-- The rows after the mixer: the residual rows plus the normed projection. -/
def mixed (A B : Vec Ideal S1x4x1024x128 .bf16) (Ga Gb : Vec Ideal S1x512 .f32) (W : Vec Ideal S1024x1024 .bf16) (Gm : Vec Ideal S1x1024 .f32)
    (X : Vec Ideal S1024x1024 .f32) (M : Vec Ideal S1x9x1024 .f32) (t : Fin 2) : FVec Ideal S512x1024 .f32 :=
  addf (half X t) (rms rows1024 0x44800000#32 (addf (project (normedHeads A Ga t) W 0) (project (normedHeads B Gb t) W 1))
    (mulf (gainRow (gainAt Gm)) (modRow (modAt M 5))))

/-- A point's two stores from its blocks. -/
def pointStores {sig : RefSig} {κ : Kind} {sp : Space} (vw : View sig κ sp (Box 2 512 2816) .bf16) (A B : Vec Ideal S1x4x1024x128 .bf16) (Ga Gb : Vec Ideal S1x512 .f32)
    (W : Vec Ideal S1024x1024 .bf16) (Gm : Vec Ideal S1x1024 .f32) (X : Vec Ideal S1024x1024 .f32) (M : Vec Ideal S1x9x1024 .f32)
    (Gi Go : Vec Ideal S1x1024 .f32) (Wg Wu : Vec Ideal S1024x2816 .bf16) (Wd : Vec Ideal S2816x1024 .bf16) : List (View.Piece (Elt Ideal) S1024x1024 .f32) :=
  stores vw (mixed A B Ga Gb W Gm X M) (gainIn (gainAt Gi) (modAt M 7)) (modRow (modAt M 6)) (gainOut (gainAt Go) (modAt M 8)) Wg Wu Wd

theorem run_stores (c : Dev nD) (i : grid0.Coords) (arg1 : Memref sig .tc .vmem S1x4x1024x128 .bf16) (harg1 : arg1.IsWhole) (arg2 : Memref sig .tc .vmem S1x4x1024x128 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x1024 .f32) (harg7 : arg7.IsWhole) (arg8 : Memref sig .tc .vmem S1x9x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x2816 .bf16) (harg11 : arg11.IsWhole) (arg12 : Memref sig .tc .vmem S1024x2816 .bf16) (harg12 : arg12.IsWhole) (arg13 : Memref sig .tc .vmem S2816x1024 .bf16) (harg13 : arg13.IsWhole) (arg14 : Memref sig .tc .vmem S1024x1024 .f32) (harg14 : arg14.IsWhole) (arg15 : Memref sig .tc .vmem S2x512x2816 .bf16) (harg15 : arg15.IsWhole)
    (x0 : Vec Ideal S1x4x1024x128 .bf16) (x1 : Vec Ideal S1x4x1024x128 .bf16) (x2 : Vec Ideal S1x512 .f32) (x3 : Vec Ideal S1x512 .f32) (x4 : Vec Ideal S1024x1024 .bf16) (x5 : Vec Ideal S1x1024 .f32) (x6 : Vec Ideal S1024x1024 .f32) (x7 : Vec Ideal S1x9x1024 .f32) (x8 : Vec Ideal S1x1024 .f32) (x9 : Vec Ideal S1x1024 .f32) (x10 : Vec Ideal S1024x2816 .bf16) (x11 : Vec Ideal S1024x2816 .bf16) (x12 : Vec Ideal S2816x1024 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12).1
      = pointStores arg15.view (arg1.view.read (Elt Ideal) (harg1.unread x0)) (arg2.view.read (Elt Ideal) (harg2.unread x1)) (arg3.view.read (Elt Ideal) (harg3.unread x2)) (arg4.view.read (Elt Ideal) (harg4.unread x3)) (arg5.view.read (Elt Ideal) (harg5.unread x4)) (arg6.view.read (Elt Ideal) (harg6.unread x5)) (arg7.view.read (Elt Ideal) (harg7.unread x6)) (arg8.view.read (Elt Ideal) (harg8.unread x7)) (arg9.view.read (Elt Ideal) (harg9.unread x8)) (arg10.view.read (Elt Ideal) (harg10.unread x9)) (arg11.view.read (Elt Ideal) (harg11.unread x10)) (arg12.view.read (Elt Ideal) (harg12.unread x11)) (arg13.view.read (Elt Ideal) (harg13.unread x12)) := by
  unfold kernelRun0_A pointStores stores
  dsimp only
  refine congrArg₂ List.cons ?_ (congrArg₂ List.cons ?_ rfl)
  all_goals sl_kernel_rfl

theorem outs_eq (c : Dev nD) (t : Fin cfg0.N) :
    outsAt0 m c t = View.canon (pointStores scM0_0.view (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  unfold outsAt0 out0_A_13
  rw [View.read_writes_eq_canon _ _ _ (cover0_A_13 c _ _ _ _ _ _ _ _ _ _ _ _ _ _ _ _ _ _ _ _ _ _ _ _ _ _ _ _ _ _ _ _ _ _ _ _ _ _ _ _ _ _ _ _), run_stores]
  simp only [Memref.IsWhole.read_unread]

end Cert.FfbIdeal.Val

end
-- ==== Proof.FfbMix.lean ====
/- The mixer's output projection read at an index: a row of a block is its residual row plus the normed product of its own heads. -/
module

public import proofs.«01_k».proof.Proof.FfbStores
public import proofs.«01_k».proof.Proof.FfnBlocks

@[expose] public section

set_option maxRecDepth 16384

noncomputable section

namespace Cert.Ffn

open Idealize.ShloMosaic Idealize.SL.Sem

/-- The product of two normed head rows with the projection's upper and lower half. -/
def merge (a b ga gb : Fin 512 → EReal) (w : Fin 1024 → Fin 1024 → EReal) (j : Fin 1024) : EReal :=
  ∑ k : Fin 512, normed 0x44000000#32 a k * ga k * w ⟨k.val, by omega⟩ j + ∑ k : Fin 512, normed 0x44000000#32 b k * gb k * w ⟨512 + k.val, by omega⟩ j

/-- One row after the mixer. -/
def mixRow (x : Fin 1024 → EReal) (a b ga gb : Fin 512 → EReal) (w : Fin 1024 → Fin 1024 → EReal) (gm gate : Fin 1024 → EReal) (j : Fin 1024) : EReal :=
  x j + normed 0x44800000#32 (merge a b ga gb w) j * (gm j * gate j)

/-- A token's heads of a block, side by side. -/
def headRow (A : Vec Ideal (⟨4, ![1, 4, 1024, 128]⟩ : Shape) .bf16) (R : Fin 1024) (k : Fin 512) : EReal :=
  A (ix4 0 ⟨k.val / 128, by omega⟩ R ⟨k.val % 128, by omega⟩)

end Cert.Ffn

namespace Cert.FfbIdeal.Val

open Cert.FfbIdeal Cert.FfbIdeal.Gen Idealize.ShloMosaic Idealize.ShloMosaic.TcCoe Idealize.SL.Sem
open Cert.Ffn

theorem project_apply (r : Fin 512) (h : FVec Ideal S512x512 .bf16) (W : Vec Ideal S1024x1024 .bf16) (u : Fin 2) (j : Fin 1024) :
    project h W u (ix2 r j) = ∑ k : Fin 512, h (ix2 r k) * entries W ⟨512 * u.val + k.val, by omega⟩ j := by
  unfold project
  rw [ix2_eq_valueIdx]
  refine (Ideal.matmul_plain_apply none _ _ _ r j).trans ?_
  rw [zero_constant, zero_add]
  simp only [← ix2_eq_valueIdx]
  refine Finset.sum_congr rfl fun k _ => congrArg (h (ix2 r k) * ·) ((congrFun (shapeCast_self (s := S512x1024) _ _) _).trans (congrArg W ?_))
  funext a; apply Fin.ext
  match a with
  | 0 => show 512 * u.val + 1 * k.val = 512 * u.val + k.val; omega
  | 1 => show 0 + 1 * j.val = j.val; omega

variable (t : Fin 2) (r : Fin 512) (R : Fin 1024) (hR : R.val = 512 * t.val + r.val)

include hR in
theorem headPair_apply (A : Vec Ideal S1x4x1024x128 .bf16) (p : Fin 4) (l : Fin 128) : headPair A t p (ix2 r l) = A (ix4 0 p R l) := by
  refine (shapeCast_apply _ _ _ (ix4 0 0 r l : (⟨4, ![1, 1, 512, 128]⟩ : Shape).Idx) ?_).trans (congrArg A ?_)
  · rw [Shape.rowMajor_val_two, Shape.rowMajor_val_four]; show ((0 * 1 + 0) * 512 + r.val) * 128 + l.val = r.val * 128 + l.val; omega
  · funext a; apply Fin.ext
    match a with
    | 0 => rfl
    | 1 => show p.val + 1 * 0 = p.val; omega
    | 2 => show 512 * t.val + 1 * r.val = R.val; omega
    | 3 => show 0 + 1 * l.val = l.val; omega

include hR in
theorem allHeads_apply (A : Vec Ideal S1x4x1024x128 .bf16) (k : Fin 512) : allHeads A t (ix2 r k) = headRow A R k := by
  show concatenate S512x512 1 (List.ofFn fun n : Fin 4 => (⟨S512x128, headPair A t n⟩ : (s : Shape) × (s.Idx → Elt Ideal .bf16))) concatenates_S512x128_S512x128_S512x128_S512x128_S512x512_d1 (ix2 r k) = _
  refine (concatenate_ofFn_apply (t := S512x512) (s₁ := S512x128) 1 (headPair A t) _ rfl 128 rfl (ix2 r k) ⟨k.val / 128, by omega⟩ rfl (ix2 r ⟨k.val % 128, by omega⟩) rfl ?_).trans (headPair_apply t r R hR A _ _)
  intro b hb
  match b with
  | 0 => rfl
  | 1 => exact absurd rfl hb

include hR in
theorem normedHeads_apply (A : Vec Ideal S1x4x1024x128 .bf16) (G : Vec Ideal S1x512 .f32) (k : Fin 512) :
    normedHeads A G t (ix2 r k) = normed 0x44000000#32 (headRow A R) k * rowOf G 0 k := by
  refine (rms_apply rows512 0x44000000#32 (allHeads A t) _ r k).trans (congrArg₂ (α := EReal) (β := EReal) (· * ·) (congrArg (normed 0x44000000#32 · k) ?_) ?_)
  · funext k; exact allHeads_apply t r R hR A k
  · unfold row
    refine (congrFun (shapeCast_self (s := S1x512) _ _) _).trans (congrArg G ?_)
    funext a; apply Fin.ext
    match a with
    | 0 => rfl
    | 1 => show 0 + 1 * k.val = k.val; omega

include hR in
theorem mixed_apply (A B : Vec Ideal S1x4x1024x128 .bf16) (Ga Gb : Vec Ideal S1x512 .f32) (W : Vec Ideal S1024x1024 .bf16) (Gm : Vec Ideal S1x1024 .f32)
    (X : Vec Ideal S1024x1024 .f32) (M : Vec Ideal S1x9x1024 .f32) (j : Fin 1024) :
    mixed A B Ga Gb W Gm X M t (ix2 r j) = mixRow (rowOf X R) (headRow A R) (headRow B R) (rowOf Ga 0) (rowOf Gb 0) (entries W) (rowOf Gm 0) (condOf M 5) j := by
  refine congrArg₂ (α := EReal) (β := EReal) (· + ·) (half_apply X t r j R hR) ((rms_apply rows1024 0x44800000#32 _ _ r j).trans
    (congrArg₂ (α := EReal) (β := EReal) (· * ·) (congrArg (normed 0x44800000#32 · j) ?_) ?_))
  · funext j
    refine congrArg₂ (α := EReal) (β := EReal) (· + ·) ((project_apply r _ W 0 j).trans ?_) ((project_apply r _ W 1 j).trans ?_)
    · refine Finset.sum_congr rfl fun k _ => congrArg₂ (α := EReal) (β := EReal) (· * ·) (normedHeads_apply t r R hR A Ga k) (congrArg (entries W · j) (Fin.ext ?_))
      show 512 * 0 + k.val = k.val; omega
    · exact Finset.sum_congr rfl fun k _ => congrArg (· * _) (normedHeads_apply t r R hR B Gb k)
  · exact congrArg₂ (α := EReal) (β := EReal) (· * ·) (gainRow_apply Gm j) (modRow_apply M 5 j)

end Cert.FfbIdeal.Val

end
-- ==== Proof.FfbArray.lean ====
/- The second feed-forward call's result array: the half-step of the mixed rows, with the conditioning's last three rows. -/
module

public import proofs.«01_k».proof.Proof.FfbMix
public import proofs.«01_k».proof.Proof.FfaArray

@[expose] public section

set_option maxRecDepth 16384

noncomputable section

namespace Cert.FfbIdeal.Val

open Cert.FfbIdeal Cert.FfbIdeal.Gen Cert.FfbIdeal.Value Idealize.ShloMosaic Idealize.ShloMosaic.TcCoe Idealize.SL.Sem
open Idealize.ShloMosaic.Pipeline (Dat)
open Cert.Ffn
open Cert.FfaIdeal.Val (halfStep paddedCols paddedRows paddedCols_apply paddedRows_apply rows_split gain_split)

/-- Every row after the mixer, from the call's arguments. -/
def mixRows (oa ob : FVec Ideal S32x4x2048x128 .bf16) (ga gb : FVec Ideal S512 .f32) (wo : FVec Ideal S1024x1024 .f32) (gm : FVec Ideal S1024 .f32)
    (x : FVec Ideal S32x2048x1024 .f32) (mod : FVec Ideal S32x9x1024 .f32) : FVec Ideal S32x2048x1024 .f32 := fun i =>
  mixRow (fun j => x (ix3 (i 0) (i 1) j)) (fun k => oa (ix4 (i 0) ⟨k.val / 128, by omega⟩ (i 1) ⟨k.val % 128, by omega⟩))
    (fun k => ob (ix4 (i 0) ⟨k.val / 128, by omega⟩ (i 1) ⟨k.val % 128, by omega⟩)) (fun k => ga (ix1 k)) (fun k => gb (ix1 k)) (fun i j => wo (ix2 i j))
    (fun j => gm (ix1 j)) (fun j => mod (ix3 (i 0) 5 j)) (i 2)

/-- The conditioning with its rows from the sixth on brought to the front. -/
def rolled (mod : FVec Ideal S32x9x1024 .f32) : FVec Ideal S32x9x1024 .f32 := fun i =>
  mod (ix3 (i 0) ⟨((i 1).val + 6) % 9, by omega⟩ (i 2))

variable (m : (ℓ : Loc nD τ sig) → Buf (Elt Ideal) ℓ) (c : Dev nD)

theorem index_rows : ∀ t : Fin grid0.N,
    (win0_0.index t 0 = t.val / 2 ∧ win0_0.index t 1 = 0 ∧ win0_0.index t 2 = t.val % 2 ∧ win0_0.index t 3 = 0)
    ∧ (win0_1.index t 0 = t.val / 2 ∧ win0_1.index t 1 = 0 ∧ win0_1.index t 2 = t.val % 2 ∧ win0_1.index t 3 = 0)
    ∧ (win0_6.index t 0 = t.val ∧ win0_6.index t 1 = 0) ∧ (win0_7.index t 0 = t.val / 2 ∧ win0_7.index t 1 = 0 ∧ win0_7.index t 2 = 0)
    ∧ (win0_13.index t 0 = t.val ∧ win0_13.index t 1 = 0) := by decide +kernel

theorem index_whole : ∀ t : Fin grid0.N,
    (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = 0 ∧ win0_5.index t 1 = 0) ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) ∧ (win0_12.index t 0 = 0 ∧ win0_12.index t 1 = 0) := by decide +kernel

theorem lt_64 (t : Fin cfg0.N) : t.val < 64 := t.isLt

/-- What the host leaves in the arrays the windows read. -/
theorem V_host :
    (V m c main_v1 = paddedRows (m ((c : Thread nD τ).loc main_arg12)) ∧ V m c main_v3 = paddedCols (m ((c : Thread nD τ).loc main_arg10))
      ∧ V m c main_v5 = paddedCols (m ((c : Thread nD τ).loc main_arg11)))
    ∧ (V m c main_v6 = shapeCast S1x512 (m ((c : Thread nD τ).loc main_arg2)) shapeCasts_S512_S1x512 ∧ V m c main_v7 = shapeCast S1x512 (m ((c : Thread nD τ).loc main_arg3)) shapeCasts_S512_S1x512
      ∧ V m c main_v8 = (truncf .bf16 (m ((c : Thread nD τ).loc main_arg4) : FVec Ideal S1024x1024 .f32) bitsLt_bf16_f32 : FVec Ideal S1024x1024 .bf16)
      ∧ V m c main_v9 = shapeCast S1x1024 (m ((c : Thread nD τ).loc main_arg5)) shapeCasts_S1024_S1x1024)
    ∧ (V m c main_v10 = shapeCast S65536x1024 (m ((c : Thread nD τ).loc main_arg6)) shapeCasts_S32x2048x1024_S65536x1024
      ∧ V m c main_v11 = shapeCast S1x1024 (m ((c : Thread nD τ).loc main_arg8)) shapeCasts_S1024_S1x1024
      ∧ V m c main_v12 = shapeCast S1x1024 (m ((c : Thread nD τ).loc main_arg9)) shapeCasts_S1024_S1x1024) := by
  refine ⟨⟨?_, ?_, ?_⟩, ⟨?_, ?_, ?_, ?_⟩, ?_, ?_, ?_⟩ <;>
  · show StableHlo.after (List.flatten _) _ _ = _
    simp only [hostOps0, hostOps0_1, hostOps0_2, hostOps0_3, hostOps0_4, hostOps0_5, hostOps0_6, List.flatten_cons, List.flatten_nil, List.append_nil, List.cons_append, List.nil_append]
    after_results
    all_goals rfl

theorem emb13 (t : Fin cfg0.N) (j : S1024x1024.Idx) :
    ((cfg0.win 13).blk t).view.emb j = (ix2 ⟨1024 * t.val + (j 0).val, by have := lt_64 t; have : (j 0).val < 1024 := (j 0).isLt; omega⟩ (j 1) : S65536x1024.Idx) := by
  obtain ⟨e0, e1⟩ := (index_rows t).2.2.2.2
  funext a; apply Fin.ext
  match a with
  | 0 => show win0_13.index t 0 * 1024 + 1 * (j 0).val = 1024 * t.val + (j 0).val; omega
  | 1 => show win0_13.index t 1 * 1024 + 1 * (j 1).val = (j 1).val; omega

theorem gain_split512 (g : FVec Ideal S512 .f32) (i : S1x512.Idx) (j : Fin 512) (h1 : (i 1).val = j.val) :
    shapeCast S1x512 g shapeCasts_S512_S1x512 i = g (ix1 j) := by
  refine shapeCast_apply g _ _ _ ?_
  rw [Shape.rowMajor_val_one, Shape.rowMajor_val_two]
  have h0 : (i 0).val < 1 := (i 0).isLt
  show j.val = (i 0).val * 512 + (i 1).val
  omega

/-- The point's heads, from each of the two attentions. -/
theorem block0 (t : Fin cfg0.N) (R : Fin 1024) (k : Fin 512) :
    headRow (iblk m c 0 t) R k = m ((c : Thread nD τ).loc main_arg0) (ix4 ⟨(1024 * t.val + R.val) / 2048, by have := lt_64 t; omega⟩ ⟨k.val / 128, by omega⟩ ⟨(1024 * t.val + R.val) % 2048, by omega⟩ ⟨k.val % 128, by omega⟩) := by
  show V m c main_arg0 (((cfg0.win 0).blk t).view.emb (ix4 0 ⟨k.val / 128, by omega⟩ R ⟨k.val % 128, by omega⟩ : S1x4x1024x128.Idx)) = _
  rw [V_main_arg0]
  refine congrArg (m ((c : Thread nD τ).loc main_arg0)) ?_
  obtain ⟨e0, e1, e2, e3⟩ := (index_rows t).1
  funext a; apply Fin.ext
  match a with
  | 0 => show win0_0.index t 0 * 1 + 1 * 0 = (1024 * t.val + R.val) / 2048; omega
  | 1 => show win0_0.index t 1 * 4 + 1 * (k.val / 128) = k.val / 128; omega
  | 2 => show win0_0.index t 2 * 1024 + 1 * R.val = (1024 * t.val + R.val) % 2048; omega
  | 3 => show win0_0.index t 3 * 128 + 1 * (k.val % 128) = k.val % 128; omega

theorem block1 (t : Fin cfg0.N) (R : Fin 1024) (k : Fin 512) :
    headRow (iblk m c 1 t) R k = m ((c : Thread nD τ).loc main_arg1) (ix4 ⟨(1024 * t.val + R.val) / 2048, by have := lt_64 t; omega⟩ ⟨k.val / 128, by omega⟩ ⟨(1024 * t.val + R.val) % 2048, by omega⟩ ⟨k.val % 128, by omega⟩) := by
  show V m c main_arg1 (((cfg0.win 1).blk t).view.emb (ix4 0 ⟨k.val / 128, by omega⟩ R ⟨k.val % 128, by omega⟩ : S1x4x1024x128.Idx)) = _
  rw [V_main_arg1]
  refine congrArg (m ((c : Thread nD τ).loc main_arg1)) ?_
  obtain ⟨e0, e1, e2, e3⟩ := (index_rows t).2.1
  funext a; apply Fin.ext
  match a with
  | 0 => show win0_1.index t 0 * 1 + 1 * 0 = (1024 * t.val + R.val) / 2048; omega
  | 1 => show win0_1.index t 1 * 4 + 1 * (k.val / 128) = k.val / 128; omega
  | 2 => show win0_1.index t 2 * 1024 + 1 * R.val = (1024 * t.val + R.val) % 2048; omega
  | 3 => show win0_1.index t 3 * 128 + 1 * (k.val % 128) = k.val % 128; omega

theorem block2 (t : Fin cfg0.N) (j : Fin 512) : rowOf (iblk m c 2 t) 0 j = m ((c : Thread nD τ).loc main_arg2) (ix1 j) := by
  show V m c main_v6 (((cfg0.win 2).blk t).view.emb (ix2 0 j : S1x512.Idx)) = _
  rw [(V_host m c).2.1.1]
  obtain ⟨e0, e1⟩ := (index_whole t).1
  exact gain_split512 _ _ j (show win0_2.index t 1 * 512 + 1 * j.val = _ by omega)

theorem block3 (t : Fin cfg0.N) (j : Fin 512) : rowOf (iblk m c 3 t) 0 j = m ((c : Thread nD τ).loc main_arg3) (ix1 j) := by
  show V m c main_v7 (((cfg0.win 3).blk t).view.emb (ix2 0 j : S1x512.Idx)) = _
  rw [(V_host m c).2.1.2.1]
  obtain ⟨e0, e1⟩ := (index_whole t).2.1
  exact gain_split512 _ _ j (show win0_3.index t 1 * 512 + 1 * j.val = _ by omega)

theorem block4 (t : Fin cfg0.N) (i j : Fin 1024) : entries (iblk m c 4 t) i j = m ((c : Thread nD τ).loc main_arg4) (ix2 i j) := by
  show V m c main_v8 (((cfg0.win 4).blk t).view.emb (ix2 i j : S1024x1024.Idx)) = _
  rw [(V_host m c).2.1.2.2.1]
  show m ((c : Thread nD τ).loc main_arg4) _ = _
  refine congrArg (m ((c : Thread nD τ).loc main_arg4)) ?_
  obtain ⟨e0, e1⟩ := (index_whole t).2.2.1
  funext a; apply Fin.ext
  match a with
  | 0 => show win0_4.index t 0 * 1024 + 1 * i.val = i.val; omega
  | 1 => show win0_4.index t 1 * 1024 + 1 * j.val = j.val; omega

theorem block5 (t : Fin cfg0.N) (j : Fin 1024) : rowOf (iblk m c 5 t) 0 j = m ((c : Thread nD τ).loc main_arg5) (ix1 j) := by
  show V m c main_v9 (((cfg0.win 5).blk t).view.emb (ix2 0 j : S1x1024.Idx)) = _
  rw [(V_host m c).2.1.2.2.2]
  obtain ⟨e0, e1⟩ := (index_whole t).2.2.2.1
  exact gain_split _ _ j (show win0_5.index t 1 * 1024 + 1 * j.val = _ by omega)

/-- The point's residual rows, and the point's batch row of the conditioning. -/
theorem block6 (t : Fin cfg0.N) (R j : Fin 1024) :
    rowOf (iblk m c 6 t) R j = m ((c : Thread nD τ).loc main_arg6) (ix3 ⟨(1024 * t.val + R.val) / 2048, by have := lt_64 t; omega⟩ ⟨(1024 * t.val + R.val) % 2048, by omega⟩ j) := by
  show V m c main_v10 (((cfg0.win 6).blk t).view.emb (ix2 R j : S1024x1024.Idx)) = _
  rw [(V_host m c).2.2.1]
  obtain ⟨e0, e1⟩ := (index_rows t).2.2.1
  have ht := lt_64 t
  exact rows_split _ _ (1024 * t.val + R.val) (by omega) j (show win0_6.index t 0 * 1024 + 1 * R.val = _ by omega) (show win0_6.index t 1 * 1024 + 1 * j.val = _ by omega)

theorem block7 (t : Fin cfg0.N) (i : Fin 9) (j : Fin 1024) :
    condOf (iblk m c 7 t) i j = m ((c : Thread nD τ).loc main_arg7) (ix3 ⟨t.val / 2, by have := lt_64 t; omega⟩ i j) := by
  show V m c main_arg7 (((cfg0.win 7).blk t).view.emb (ix3 0 i j : S1x9x1024.Idx)) = _
  rw [V_main_arg7]
  refine congrArg (m ((c : Thread nD τ).loc main_arg7)) ?_
  obtain ⟨e0, e1, e2⟩ := (index_rows t).2.2.2.1
  funext a; apply Fin.ext
  match a with
  | 0 => show win0_7.index t 0 * 1 + 1 * 0 = t.val / 2; omega
  | 1 => show win0_7.index t 1 * 9 + 1 * i.val = i.val; omega
  | 2 => show win0_7.index t 2 * 1024 + 1 * j.val = j.val; omega

theorem block8 (t : Fin cfg0.N) (j : Fin 1024) : rowOf (iblk m c 8 t) 0 j = m ((c : Thread nD τ).loc main_arg8) (ix1 j) := by
  show V m c main_v11 (((cfg0.win 8).blk t).view.emb (ix2 0 j : S1x1024.Idx)) = _
  rw [(V_host m c).2.2.2.1]
  obtain ⟨e0, e1⟩ := (index_whole t).2.2.2.2.1
  exact gain_split _ _ j (show win0_8.index t 1 * 1024 + 1 * j.val = _ by omega)

theorem block9 (t : Fin cfg0.N) (j : Fin 1024) : rowOf (iblk m c 9 t) 0 j = m ((c : Thread nD τ).loc main_arg9) (ix1 j) := by
  show V m c main_v12 (((cfg0.win 9).blk t).view.emb (ix2 0 j : S1x1024.Idx)) = _
  rw [(V_host m c).2.2.2.2]
  obtain ⟨e0, e1⟩ := (index_whole t).2.2.2.2.2.1
  exact gain_split _ _ j (show win0_9.index t 1 * 1024 + 1 * j.val = _ by omega)

theorem block10 (t : Fin cfg0.N) : entries (iblk m c 10 t) = padCols (fun i k => m ((c : Thread nD τ).loc main_arg10) (ix2 i k)) := by
  funext i k
  show V m c main_v3 (((cfg0.win 10).blk t).view.emb (ix2 i k : S1024x2816.Idx)) = _
  rw [(V_host m c).1.2.1, ← paddedCols_apply]
  refine congrArg (paddedCols _) ?_
  obtain ⟨e0, e1⟩ := (index_whole t).2.2.2.2.2.2.1
  funext a; apply Fin.ext
  match a with
  | 0 => show win0_10.index t 0 * 1024 + 1 * i.val = i.val; omega
  | 1 => show win0_10.index t 1 * 2816 + 1 * k.val = k.val; omega

theorem block11 (t : Fin cfg0.N) : entries (iblk m c 11 t) = padCols (fun i k => m ((c : Thread nD τ).loc main_arg11) (ix2 i k)) := by
  funext i k
  show V m c main_v5 (((cfg0.win 11).blk t).view.emb (ix2 i k : S1024x2816.Idx)) = _
  rw [(V_host m c).1.2.2, ← paddedCols_apply]
  refine congrArg (paddedCols _) ?_
  obtain ⟨e0, e1⟩ := (index_whole t).2.2.2.2.2.2.2.1
  funext a; apply Fin.ext
  match a with
  | 0 => show win0_11.index t 0 * 1024 + 1 * i.val = i.val; omega
  | 1 => show win0_11.index t 1 * 2816 + 1 * k.val = k.val; omega

theorem block12 (t : Fin cfg0.N) : entries (iblk m c 12 t) = padRows (fun k j => m ((c : Thread nD τ).loc main_arg12) (ix2 k j)) := by
  funext k j
  show V m c main_v1 (((cfg0.win 12).blk t).view.emb (ix2 k j : S2816x1024.Idx)) = _
  rw [(V_host m c).1.1, ← paddedRows_apply]
  refine congrArg (paddedRows _) ?_
  obtain ⟨e0, e1⟩ := (index_whole t).2.2.2.2.2.2.2.2
  funext a; apply Fin.ext
  match a with
  | 0 => show win0_12.index t 0 * 2816 + 1 * k.val = k.val; omega
  | 1 => show win0_12.index t 1 * 1024 + 1 * j.val = j.val; omega

/-- The mixed rows of the launched arguments, and their half-step. -/
def mixedRows : FVec Ideal S32x2048x1024 .f32 :=
  mixRows (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
def result : FVec Ideal S65536x1024 .f32 :=
  halfStep (mixedRows m c) (rolled (m ((c : Thread nD τ).loc main_arg7))) (m ((c : Thread nD τ).loc main_arg8)) (m ((c : Thread nD τ).loc main_arg9))
    (m ((c : Thread nD τ).loc main_arg10)) (m ((c : Thread nD τ).loc main_arg11)) (m ((c : Thread nD τ).loc main_arg12))

/-- A point's rows after the mixer. -/
def pointRows (t : Fin cfg0.N) (R j : Fin 1024) : EReal :=
  mixRow (rowOf (iblk m c 6 t) R) (headRow (iblk m c 0 t) R) (headRow (iblk m c 1 t) R) (rowOf (iblk m c 2 t) 0) (rowOf (iblk m c 3 t) 0) (entries (iblk m c 4 t))
    (rowOf (iblk m c 5 t) 0) (condOf (iblk m c 7 t) 5) j

theorem pointRows_eq (t : Fin cfg0.N) (R j : Fin 1024) :
    pointRows m c t R j = mixedRows m c (ix3 ⟨(1024 * t.val + R.val) / 2048, by have := lt_64 t; omega⟩ ⟨(1024 * t.val + R.val) % 2048, by omega⟩ j) := by
  have ht := lt_64 t
  have eb : (⟨t.val / 2, by omega⟩ : Fin 32) = ⟨(1024 * t.val + R.val) / 2048, by omega⟩ := Fin.ext (by simp only []; omega)
  unfold pointRows mixedRows mixRows
  congr 1
  · funext k; exact block6 m c t R k
  · funext k; exact block0 m c t R k
  · funext k; exact block1 m c t R k
  · funext k; exact block2 m c t k
  · funext k; exact block3 m c t k
  · funext i k; exact block4 m c t i k
  · funext k; exact block5 m c t k
  · funext k; rw [block7, eb]; rfl

/-- A point's output block is the half-step of its mixed rows. -/
theorem point_apply (t : Fin cfg0.N) (j : S1024x1024.Idx) :
    View.canon (pointStores scM0_0.view (iblk m c 0 t) (iblk m c 1 t) (iblk m c 2 t) (iblk m c 3 t) (iblk m c 4 t) (iblk m c 5 t) (iblk m c 6 t) (iblk m c 7 t) (iblk m c 8 t)
        (iblk m c 9 t) (iblk m c 10 t) (iblk m c 11 t) (iblk m c 12 t)) j
      = result m c (ix2 ⟨1024 * t.val + (j 0).val, by have := lt_64 t; have : (j 0).val < 1024 := (j 0).isLt; omega⟩ (j 1)) := by
  refine (block_apply scM0_0.view (mixed (iblk m c 0 t) (iblk m c 1 t) (iblk m c 2 t) (iblk m c 3 t) (iblk m c 4 t) (iblk m c 5 t) (iblk m c 6 t) (iblk m c 7 t))
    (pointRows m c t) (iblk m c 7 t) (iblk m c 8 t) (iblk m c 9 t) 6 7 8 (iblk m c 10 t) (iblk m c 11 t) (iblk m c 12 t)
    (fun t r j R h => mixed_apply t r R h _ _ _ _ _ _ _ _ j) j).trans ?_
  rw [block10, block11, block12]
  refine (step_pad _ _ _ _ _ _ _ _ _ (j 1)).trans ?_
  have hj : (j 0).val < 1024 := (j 0).isLt
  have ht := lt_64 t
  have eb : (⟨t.val / 2, by omega⟩ : Fin 32) = ⟨(1024 * t.val + (j 0).val) / 2048, by omega⟩ := Fin.ext (by simp only []; omega)
  unfold result halfStep
  congr 1
  · funext k; exact pointRows_eq m c t (j 0) k
  · funext k; exact block8 m c t k
  · funext k; exact block9 m c t k
  · funext k; rw [block7, eb]; rfl
  · funext k; rw [block7, eb]; rfl
  · funext k; rw [block7, eb]; rfl

theorem flushed_eq (t : Fin cfg0.N) : (dats m 0 c).flushed 13 t = ((cfg0.win 13).blk t).view.read (Elt Ideal) (result m c) := by
  rw [flushed13, outs_eq]
  funext j
  show View.canon (Val := Elt Ideal) (e := .f32) _ (j : S1024x1024.Idx) = result m c (((cfg0.win 13).blk t).view.emb j)
  rw [emb13]
  exact point_apply m c t j

theorem covered (i : S65536x1024.Idx) : ∃ t : Fin cfg0.N, (cfg0.win 13).flush t = true ∧ i ∈ ((cfg0.win 13).blk t).view.set := by
  have hi : (i 0).val < 65536 := (i 0).isLt
  refine ⟨⟨(i 0).val / 1024, by show (i 0).val / 1024 < 64; omega⟩, flush0_13 _, ?_⟩
  have h := ((cfg0.win 13).blk ⟨(i 0).val / 1024, by show (i 0).val / 1024 < 64; omega⟩).view.emb_mem_set (ix2 ⟨(i 0).val % 1024, by omega⟩ (i 1) : S1024x1024.Idx)
  rw [emb13] at h
  refine (congrArg (· ∈ _) ?_).mp h
  funext a; apply Fin.ext
  match a with
  | 0 => show 1024 * ((i 0).val / 1024) + (i 0).val % 1024 = (i 0).val; omega
  | 1 => rfl

theorem final : (dats m 0 c).arrAt 13 cfg0.N = result m c :=
  (dats m 0 c).arrAt_eq_of_cover 13 (result m c) (fun t _ => flushed_eq m c t) covered

end Cert.FfbIdeal.Val

end
-- ==== Proof.FfbReference.lean ====
/- The second feed-forward reference's result: the rows after the mixer read at an index, and the first reference's half-step of them. -/
module

public import proofs.«01_k».proof.Proof.FfbArray
public import proofs.«01_k».proof.Proof.FfaReference
public import proofs.«01_k».proof.Proof.Gen.FfbRefIdeal.Read

@[expose] public section

set_option maxRecDepth 16384

noncomputable section

namespace Cert.FfbRefIdeal.Val

open Cert.FfbRefIdeal Cert.FfbRefIdeal.Gen Cert.FfbRefIdeal.Read Idealize.ShloMosaic Idealize.ShloMosaic.TcCoe Idealize.SL.Sem
open Cert.Ffn (normed merge mixRow)
open Cert.FfbIdeal.Val (mixRows rolled)
open Cert.FfaIdeal.Val (halfStep)

variable (x0 x1 : FVec Ideal S32x4x2048x128 .bf16) (x2 x3 : FVec Ideal S512 .f32) (x4 : FVec Ideal S1024x1024 .f32) (x5 : FVec Ideal S1024 .f32)
variable (x6 : FVec Ideal S32x2048x1024 .f32) (x7 : FVec Ideal S32x9x1024 .f32) (x8 x9 : FVec Ideal S1024 .f32)
variable (x10 x11 : FVec Ideal S1024x2752 .f32) (x12 : FVec Ideal S2752x1024 .f32)
variable (b : Fin 32) (r : Fin 2048)

/-- A token's heads side by side. -/
def heads (k : Fin 512) : EReal := x0 (ix4 b ⟨k.val / 128, by omega⟩ r ⟨k.val % 128, by omega⟩)

theorem v2_at (k : Fin 512) : val_main_v2 (F := Ideal) x0 (ix3 b r k) = heads x0 b r k := by
  rw [val_main_v2_apply, val_main_v1_apply, val_main_v0_apply]
  show x0 _ = _
  refine congrArg x0 ?_
  have hb := b.isLt; have hr := r.isLt; have hk := k.isLt
  funext a; apply Fin.ext
  match a with
  | 0 => show ((b.val * 2048 + r.val) * 512 + k.val) / 1048576 = b.val; omega
  | 1 => show ((b.val * 2048 + r.val) * 512 + k.val) / 128 % 4 = k.val / 128; omega
  | 2 => show ((b.val * 2048 + r.val) * 512 + k.val) / 512 % 2048 = r.val; omega
  | 3 => show ((b.val * 2048 + r.val) * 512 + k.val) % 128 = k.val % 128; omega

/-- The heads normed. -/
theorem v15_at (k : Fin 512) : val_main_v15 (F := Ideal) x0 x2 (ix3 b r k) = normed 0x44000000#32 (heads x0 b r) k * x2 (ix1 k) := by
  rw [val_main_v15_apply, val_main_v12_apply, val_main_v11_apply, val_main_v10_apply, val_main_v9_apply, val_main_v7_apply, val_main_v5_apply, val_main_v4_apply, val_main_v6_apply, val_main_v8_apply,
    val_main_cst_apply, val_main_cst_0_apply, val_main_cst_1_apply, val_main_v14_apply, val_main_v13_apply]
  have e : ∀ k', idx_main_v4 (idx_main_v5 (idx_main_v11 (ix3 b r k))) k' = ix3 b r k' := fun k' => by
    funext a; match a with | 0 => rfl | 1 => rfl | 2 => rfl
  simp only [e, val_main_v3_apply, v2_at]
  refine congrArg₂ (α := EReal) (β := EReal) (· * ·) ?_ (congrArg x2 ?_)
  · unfold normed
    show _ * Ideal.rsqrt (Ideal.div (Ideal.ofBits .f32 0x00000000#32 + _) _ + _) = _
    rw [Ideal.ofBits_zero, zero_add]; rfl
  · funext a; match a with | 0 => rfl

theorem v31_at (k : Fin 512) : val_main_v31 (F := Ideal) x1 x3 (ix3 b r k) = normed 0x44000000#32 (heads x1 b r) k * x3 (ix1 k) := v15_at x1 x3 b r k

theorem v32_left (k : Fin 1024) (l : Fin 512) (h : l.val = k.val) :
    val_main_v32 (F := Ideal) x0 x1 x2 x3 (ix3 b r k) = normed 0x44000000#32 (heads x0 b r) l * x2 (ix1 l) :=
  (concatenate_pair_apply_left (s₁ := S32x2048x512) (s₂ := S32x2048x512) (t := S32x2048x1024) 2 _ _ concatenates_S32x2048x512_S32x2048x512_S32x2048x1024_d2 (ix3 b r k) rfl (ix3 b r l)
    (fun a => match a with | 0 => rfl | 1 => rfl | 2 => h)).trans (v15_at x0 x2 b r l)

theorem v32_right (k : Fin 1024) (l : Fin 512) (h : l.val + 512 = k.val) :
    val_main_v32 (F := Ideal) x0 x1 x2 x3 (ix3 b r k) = normed 0x44000000#32 (heads x1 b r) l * x3 (ix1 l) :=
  (concatenate_pair_apply_right (s₁ := S32x2048x512) (s₂ := S32x2048x512) (t := S32x2048x1024) 2 _ _ concatenates_S32x2048x512_S32x2048x512_S32x2048x1024_d2 (ix3 b r k) rfl rfl (ix3 b r l)
    (fun a ha => match a with | 0 => rfl | 1 => rfl | 2 => absurd rfl ha) h).trans (v31_at x1 x3 b r l)

/-- The output projection: the sum over both halves. -/
theorem v36_at (j : Fin 1024) : val_main_v36 (F := Ideal) x0 x1 x2 x3 x4 (ix3 b r j)
    = merge (heads x0 b r) (heads x1 b r) (fun k => x2 (ix1 k)) (fun k => x3 (ix1 k)) (fun i j => x4 (ix2 i j)) j := by
  rw [val_main_v36_apply]
  refine (Fin.sum_univ_add (a := 512) (b := 512) (fun k => val_main_v32 (F := Ideal) x0 x1 x2 x3 (lidx_main_v36 (ix3 b r j) k) * x4 (ridx_main_v36 (ix3 b r j) k))).trans ?_
  have el : ∀ k, lidx_main_v36 (ix3 b r j) k = ix3 b r k := fun k => by funext a; match a with | 0 => rfl | 1 => rfl | 2 => rfl
  have er : ∀ k, ridx_main_v36 (ix3 b r j) k = ix2 k j := fun k => by funext a; match a with | 0 => rfl | 1 => rfl
  refine congrArg₂ (α := EReal) (β := EReal) (· + ·) (Finset.sum_congr rfl fun l _ => ?_) (Finset.sum_congr rfl fun l _ => ?_)
  · exact congrArg₂ (α := EReal) (β := EReal) (· * ·) ((congrArg _ (el _)).trans (v32_left x0 x1 x2 x3 b r _ l rfl)) (congrArg x4 (er _))
  · exact congrArg₂ (α := EReal) (β := EReal) (· * ·) ((congrArg _ (el _)).trans (v32_right x0 x1 x2 x3 b r _ l (Nat.add_comm _ _))) (congrArg x4 (er _))

/-- The rows after the mixer. -/
theorem v52_eq : val_main_v52 (F := Ideal) x0 x1 x2 x3 x4 x5 x6 x7 = mixRows x0 x1 x2 x3 x4 x5 x6 x7 := by
  funext i
  obtain ⟨b, r, j, rfl⟩ : ∃ (b : Fin 32) (r : Fin 2048) (j : Fin 1024), i = ix3 b r j := ⟨i 0, i 1, i 2, by funext a; match a with | 0 => rfl | 1 => rfl | 2 => rfl⟩
  rw [val_main_v52_apply, val_main_v51_apply, val_main_v50_apply, val_main_v35_apply, val_main_v34_apply, val_main_v33_apply, val_main_v49_apply, val_main_v46_apply, val_main_v45_apply,
    val_main_v44_apply, val_main_v43_apply, val_main_v41_apply, val_main_v39_apply, val_main_v38_apply, val_main_v40_apply, val_main_v42_apply, val_main_cst_5_apply, val_main_cst_6_apply, val_main_cst_7_apply,
    val_main_v48_apply, val_main_v47_apply]
  have e : ∀ k, idx_main_v38 (idx_main_v39 (idx_main_v45 (ix3 b r j))) k = ix3 b r k := fun k => by
    funext a; match a with | 0 => rfl | 1 => rfl | 2 => rfl
  simp only [e, val_main_v37_apply, v36_at]
  have eg : idx_main_v47 (idx_main_v48 (ix3 b r j)) = ix1 j := by funext a; match a with | 0 => rfl
  have em : idx_main_v33 (idx_main_v34 (idx_main_v35 (idx_main_v50 (ix3 b r j)))) = ix3 b 5 j := by
    have hb := b.isLt; have hj := j.isLt
    funext a; apply Fin.ext
    match a with
    | 0 => show (b.val * 1024 + j.val) / 1024 = b.val; omega
    | 1 => rfl
    | 2 => show (b.val * 1024 + j.val) % 1024 = j.val; omega
  rw [eg, em]
  show x6 (ix3 b r j) + x7 (ix3 b 5 j) * (_ * Ideal.rsqrt (Ideal.div (Ideal.ofBits .f32 0x00000000#32 + _) _ + _) * x5 (ix1 j)) = mixRow _ _ _ _ _ _ _ _ j
  unfold mixRow normed
  rw [Ideal.ofBits_zero, zero_add, mul_comm (x7 (ix3 b 5 j)), mul_assoc]
  rfl

/-- An index of a spread conditioning row. -/
theorem row_index (i : S32x1x1024.Idx) : ∃ (b : Fin 32) (j : Fin 1024), i = ix3 b 0 j :=
  ⟨i 0, i 2, by funext a; match a with | 0 => rfl | 1 => exact Subsingleton.elim (α := Fin 1) _ _ | 2 => rfl⟩

/-- The conditioning rows are those of the first reference over the rolled conditioning. -/
theorem v68_eq : val_main_v68 (F := Ideal) x7 = Cert.FfaRefIdeal.Read.val_main_v15 (F := Ideal) (rolled x7) := by
  funext i
  obtain ⟨b, j, rfl⟩ := row_index i
  rw [val_main_v68_apply, val_main_v67_apply, val_main_v66_apply]
  refine Eq.trans (congrArg x7 ?_) (Cert.FfaRefIdeal.Val.v15_at (rolled x7) b j).symm
  have hb := b.isLt; have hj := j.isLt
  funext a; apply Fin.ext
  match a with
  | 0 => show (b.val * 1024 + j.val) / 1024 = b.val; omega
  | 1 => rfl
  | 2 => show (b.val * 1024 + j.val) % 1024 = j.val; omega

theorem v75_eq : val_main_v75 (F := Ideal) x7 = Cert.FfaRefIdeal.Read.val_main_v22 (F := Ideal) (rolled x7) := by
  funext i
  obtain ⟨b, j, rfl⟩ := row_index i
  rw [val_main_v75_apply, val_main_v74_apply, val_main_v73_apply]
  refine Eq.trans (congrArg x7 ?_) (Cert.FfaRefIdeal.Val.v22_at (rolled x7) b j).symm
  have hb := b.isLt; have hj := j.isLt
  funext a; apply Fin.ext
  match a with
  | 0 => show (b.val * 1024 + j.val) / 1024 = b.val; omega
  | 1 => rfl
  | 2 => show (b.val * 1024 + j.val) % 1024 = j.val; omega

theorem v98_eq : val_main_v98 (F := Ideal) x7 = Cert.FfaRefIdeal.Read.val_main_v45 (F := Ideal) (rolled x7) := by
  funext i
  obtain ⟨b, j, rfl⟩ := row_index i
  rw [val_main_v98_apply, val_main_v97_apply, val_main_v96_apply]
  refine Eq.trans (congrArg x7 ?_) (Cert.FfaRefIdeal.Val.v45_at (rolled x7) b j).symm
  have hb := b.isLt; have hj := j.isLt
  funext a; apply Fin.ext
  match a with
  | 0 => show (b.val * 1024 + j.val) / 1024 = b.val; omega
  | 1 => rfl
  | 2 => show (b.val * 1024 + j.val) % 1024 = j.val; omega

/-- The hidden layer's input, and what leaves the hidden layer, are the first reference's over the mixed rows. -/
theorem v77_eq : val_main_v77 (F := Ideal) x0 x1 x2 x3 x4 x5 x6 x7 x8
    = Cert.FfaRefIdeal.Read.val_main_v24 (F := Ideal) (val_main_v52 (F := Ideal) x0 x1 x2 x3 x4 x5 x6 x7) (rolled x7) x8 := by
  unfold val_main_v77 val_main_v72 val_main_v71 val_main_v70 val_main_v76
  rw [v68_eq, v75_eq]
  rfl

theorem v82_eq : val_main_v82 (F := Ideal) x0 x1 x2 x3 x4 x5 x6 x7 x8 x10 x11 x12
    = Cert.FfaRefIdeal.Read.val_main_v29 (F := Ideal) (val_main_v52 (F := Ideal) x0 x1 x2 x3 x4 x5 x6 x7) (rolled x7) x8 x10 x11 x12 := by
  unfold val_main_v82 val_main_v81 val_main_v80 val_main_v79 val_main_call0_v5 val_main_call0_v3 val_main_call0_v1 val_main_call0_v0
  unfold val_main_v78
  rw [v77_eq]
  rfl

theorem v103_eq : val_main_v103 (F := Ideal) x0 x1 x2 x3 x4 x5 x6 x7 x8 x9 x10 x11 x12
    = Cert.FfaRefIdeal.Read.val_main_v50 (F := Ideal) (val_main_v52 (F := Ideal) x0 x1 x2 x3 x4 x5 x6 x7) (rolled x7) x8 x9 x10 x11 x12 := by
  unfold val_main_v103 val_main_v102 val_main_v101 val_main_v100 val_main_v95 val_main_v92 val_main_v91 val_main_v90 val_main_v89 val_main_v87 val_main_v85 val_main_v84
  unfold val_main_v83
  rw [v98_eq, v82_eq]
  rfl

/-- The reference's result. -/
theorem reference_eq : val_main_v104 (F := Ideal) x0 x1 x2 x3 x4 x5 x6 x7 x8 x9 x10 x11 x12
    = halfStep (mixRows x0 x1 x2 x3 x4 x5 x6 x7) (rolled x7) x8 x9 x10 x11 x12 := by
  unfold val_main_v104
  rw [v103_eq, v52_eq]
  exact Cert.FfaRefIdeal.Val.reference_eq _ (rolled x7) x8 x9 x10 x11 x12

end Cert.FfbRefIdeal.Val

end
-- ==== Proof.FfbClaim.lean ====
/- The second feed-forward call's value claim: both programs leave the same array. -/
module

public import proofs.«01_k».proof.Defs
public import proofs.«01_k».proof.Proof.FfbReference
public import proofs.«01_k».proof.Proof.Gen.FfbIdeal.Frame
public import proofs.«01_k».proof.Proof.Gen.FfbRefIdeal.Run

@[expose] public section

noncomputable section

namespace Cert.Proof.Ffb

open Idealize.ShloMosaic Idealize.ShloMosaic.TcCoe Idealize.SL.Sem

theorem algebraic : algebraic_FfbIdeal_FfbRefIdeal (hFfbIdeal := Cert.FfbIdeal.Gen.facts) (hFfbRefIdeal := Cert.FfbRefIdeal.Gen.facts) := fun m ρ m' ρ' _ hag =>
  ⟨fun c => Cert.FfbIdeal.Val.result m c,
    (θ_run _ _ _).mono (fun _ h c => ⟨(h c).1.trans (Cert.FfbIdeal.Val.final m c), (h c).2⟩) (Cert.FfbIdeal.Value.run_blocks m ρ),
    (θ_run _ _ _).mono (fun _ h c => ⟨(h c).1.trans (by
      refine (Cert.FfbRefIdeal.Read.val_main_v104_eq _).trans ((Cert.FfbRefIdeal.Val.reference_eq _ _ _ _ _ _ _ _ _ _ _ _ _).trans ?_)
      obtain ⟨e0, e1, e2, e3, e4, e5, e6, e7, e8, e9, e10, e11, e12⟩ := hag c
      show _ = Cert.FfbIdeal.Val.result m c
      unfold Cert.FfbIdeal.Val.result Cert.FfbIdeal.Val.mixedRows
      rw [← e0, ← e1, ← e2, ← e3, ← e4, ← e5, ← e6, ← e7, ← e8, ← e9, ← e10, ← e11, ← e12]), (h c).2⟩) (Cert.FfbRefIdeal.Value.run m' ρ')⟩

end Cert.Proof.Ffb

end
-- ==== Proof.PrjVocab.lean ====
/- The mixer's input projection in words: the hidden rows, the six products with the projection's columns, the rotary tables of the positions, and the
   eight stores a grid point leaves in each of its six blocks. -/
module

public import proofs.«01_k».proof.Proof.Gen.PrjIdeal.Frame.Runs
public import proofs.«01_k».proof.Proof.FfnVocab

@[expose] public section

set_option maxRecDepth 65536

noncomputable section

namespace Cert.PrjIdeal.Val

open Cert.PrjIdeal Cert.PrjIdeal.Gen Idealize.ShloMosaic Idealize.ShloMosaic.TcCoe Idealize.SL.Sem
open Idealize.ShloMosaic.Pipeline (Dat)
open Cert.Ffn

theorem inb_cols (s : Fin 6) : ∀ a, (![0, 512 * s.val] : Fin 2 → ℕ) a + (![1024, 512] : Fin 2 → ℕ) a ≤ S1024x3080.size a
  | 0 => by simp | 1 => by have := s.isLt; simp; omega

theorem inb_pair (t : Fin 2) (p : Fin 4) : ∀ a, (![0, p.val, 512 * t.val, 0] : Fin 4 → ℕ) a + S1x1x512x128.size a ≤ S1x4x1024x128.size a
  | 0 => by simp | 1 => by have := p.isLt; simp | 2 => by have := t.isLt; simp; omega | 3 => by simp

theorem inb_pos (t : Fin 2) : ∀ a, (![0, 0, 512 * t.val] : Fin 3 → ℕ) a + S1x1x512.size a ≤ S1x1x1024.size a
  | 0 => by simp | 1 => by simp | 2 => by have := t.isLt; simp; omega

theorem cuts_pair (p : Fin 4) : S512x512.Slices ![0, 128 * p.val] S512x128 := by revert p; decide
theorem cuts_table (k : Fin 3) : S512x384.Slices ![0, 128 * k.val] S512x128 := by revert k; decide

/-- The rows that enter the mixer. -/
def hiddenRows (X : Vec Ideal S1024x1024 .f32) (M : Vec Ideal S1x9x1024 .f32) (G : Vec Ideal S1x1024 .f32) (t : Fin 2) : FVec Ideal S512x1024 .bf16 :=
  hiddenIn (half X t) (gainIn (gainAt G) (modAt M 4)) (modRow (modAt M 3))

/-- Their product with the projection's columns from `512 s` on. -/
def product (h : FVec Ideal S512x1024 .bf16) (W : Vec Ideal S1024x3080 .bf16) (s : Fin 6) : FVec Ideal S512x512 .f32 :=
  matmul dot_S512x1024_S1024x512_S512x512_1_0_0_1_n_n none h
    (shapeCast S1024x512 (View.ld W (Rect.unit (s := S1024x3080) ![0, 512 * s.val] S1024x512.size (inb_cols s))) shapeCasts_S1024x512_S1024x512 : FVec Ideal S1024x512 .bf16)
    (constant S512x512 .f32 0x00000000#32)

/-- A pair of heads of a product. -/
def pair (v : FVec Ideal S512x512 .f32) (p : Fin 4) : FVec Ideal S512x128 .f32 := extractStridedSlice S512x128 ![0, 128 * p.val] v (cuts_pair p)

/-- The cosines and sines of the positions' angles. -/
def waves (P : Vec Ideal S1x1x1024 .i32) (I : Vec Ideal S8x1 .f32) (t : Fin 2) : FVec Ideal S16x512 .f32 :=
  concatenate S16x512 0 [⟨S8x512, cos (mulf (broadcastTo S8x512 (shapeCast S8x1 (View.ld I (Rect.unit (s := S8x1) ![0, 0] S8x1.size inb_S8x1_S8x1_0_0)) shapeCasts_S8x1_S8x1 : FVec Ideal S8x1 .f32) broadcasts_S8x1_S8x512)
      (broadcastTo S8x512 (sitofp .f32 (shapeCast S1x512 (View.ld P (Rect.unit (s := S1x1x1024) ![0, 0, 512 * t.val] S1x1x512.size (inb_pos t))) shapeCasts_S1x1x512_S1x512 : IVec S1x512 32) : FVec Ideal S1x512 .f32) broadcasts_S1x512_S8x512))⟩,
    ⟨S8x512, sin (mulf (broadcastTo S8x512 (shapeCast S8x1 (View.ld I (Rect.unit (s := S8x1) ![0, 0] S8x1.size inb_S8x1_S8x1_0_0)) shapeCasts_S8x1_S8x1 : FVec Ideal S8x1 .f32) broadcasts_S8x1_S8x512)
      (broadcastTo S8x512 (sitofp .f32 (shapeCast S1x512 (View.ld P (Rect.unit (s := S1x1x1024) ![0, 0, 512 * t.val] S1x1x512.size (inb_pos t))) shapeCasts_S1x1x512_S1x512 : IVec S1x512 32) : FVec Ideal S1x512 .f32) broadcasts_S1x512_S8x512))⟩]
    concatenates_S8x512_S8x512_S16x512_d0

/-- A table kept in a narrower format, and what that leaves of it. -/
def kept (v : FVec Ideal S16x512 .f32) : FVec Ideal S16x512 .f32 := extf .f32 (truncf .bf16 v bitsLt_bf16_f32) bitsLt_bf16_f32
def rest (v : FVec Ideal S16x512 .f32) : FVec Ideal S16x512 .f32 := subf v (kept v)

/-- The three parts of a table, one under the other. -/
def parts (v : FVec Ideal S16x512 .f32) : FVec Ideal S48x512 .bf16 :=
  concatenate S48x512 0 [⟨S16x512, truncf .bf16 (kept v) bitsLt_bf16_f32⟩, ⟨S16x512, truncf .bf16 (kept (rest v)) bitsLt_bf16_f32⟩,
    ⟨S16x512, truncf .bf16 (kept (rest (rest v))) bitsLt_bf16_f32⟩] concatenates_S16x512_S16x512_S16x512_S48x512_d0

/-- The rotary tables of a half: for every column the factor of its own entry and of its two partners. -/
def tables (P : Vec Ideal S1x1x1024 .i32) (I : Vec Ideal S8x1 .f32) (E : Vec Ideal S48x384 .bf16) (C : Vec Ideal S1x384 .f32) (t : Fin 2) : FVec Ideal S512x384 .f32 :=
  addf (matmul dot_S48x512_S48x384_S512x384_0_0_1_1_n_n none (parts (waves P I t))
      (shapeCast S48x384 (View.ld E (Rect.unit (s := S48x384) ![0, 0] S48x384.size inb_S48x384_S48x384_0_0)) shapeCasts_S48x384_S48x384 : FVec Ideal S48x384 .bf16)
      (constant S512x384 .f32 0x00000000#32))
    (broadcastTo S512x384 (shapeCast S1x384 (View.ld C (Rect.unit (s := S1x384) ![0, 0] S1x384.size inb_S1x384_S1x384_0_0)) shapeCasts_S1x384_S1x384 : FVec Ideal S1x384 .f32) broadcasts_S1x384_S512x384)

def table (T : FVec Ideal S512x384 .f32) (k : Fin 3) : FVec Ideal S512x128 .f32 := extractStridedSlice S512x128 ![0, 128 * k.val] T (cuts_table k)

/-- The rotation of a pair of heads. -/
def rotated (T : FVec Ideal S512x384 .f32) (u : FVec Ideal S512x128 .f32) : FVec Ideal S512x128 .f32 :=
  addf (addf (mulf u (table T 0)) (mulf (dynamicRotate 1 120#32 none u rotates_S512x128_d1) (table T 1))) (mulf (dynamicRotate 1 8#32 none u rotates_S512x128_d1) (table T 2))

/-- The scale of the scores. -/
def scaled (u : FVec Ideal S512x128 .f32) : FVec Ideal S512x128 .f32 := mulf u (broadcast S512x128 (Named.named κ "qscale" 0x3E38AA3B#32))

/-- A store: a pair of heads of a half. -/
def piece {e : EltTy} (f : Fin 2 → Fin 4 → Vec Ideal S512x128 e) (t : Fin 2) (p : Fin 4) : View.Piece (Elt Ideal) S1x4x1024x128 e :=
  ⟨Rect.unit (s := S1x4x1024x128) ![0, p.val, 512 * t.val, 0] S1x1x512x128.size (inb_pair t p), shapeCast S1x1x512x128 (f t p) shapeCasts_S512x128_S1x1x512x128⟩

/-- The eight stores, last first. -/
def pieces {e : EltTy} (f : Fin 2 → Fin 4 → Vec Ideal S512x128 e) : List (View.Piece (Elt Ideal) S1x4x1024x128 e) :=
  [piece f 1 3, piece f 1 2, piece f 1 1, piece f 1 0, piece f 0 3, piece f 0 2, piece f 0 1, piece f 0 0]

variable (X : Vec Ideal S1024x1024 .f32) (M : Vec Ideal S1x9x1024 .f32) (G : Vec Ideal S1x1024 .f32) (P : Vec Ideal S1x1x1024 .i32) (I : Vec Ideal S8x1 .f32)
  (W : Vec Ideal S1024x3080 .bf16) (E : Vec Ideal S48x384 .bf16) (C : Vec Ideal S1x384 .f32)

/-- What is stored: queries and keys of the gated attention, turned; its values; queries, keys and values of the other attention. -/
def qa (t : Fin 2) (p : Fin 4) : FVec Ideal S512x128 .f32 := scaled (rotated (tables P I E C t) (pair (product (hiddenRows X M G t) W 0) p))
def ka (t : Fin 2) (p : Fin 4) : FVec Ideal S512x128 .f32 := rotated (tables P I E C t) (pair (product (hiddenRows X M G t) W 1) p)
def va (t : Fin 2) (p : Fin 4) : FVec Ideal S512x128 .f32 := pair (product (hiddenRows X M G t) W 2) p
def qb (t : Fin 2) (p : Fin 4) : FVec Ideal S512x128 .bf16 := truncf .bf16 (scaled (pair (product (hiddenRows X M G t) W 3) p)) bitsLt_bf16_f32
def kvb (s : Fin 6) (t : Fin 2) (p : Fin 4) : FVec Ideal S512x128 .bf16 := truncf .bf16 (pair (product (hiddenRows X M G t) W s) p) bitsLt_bf16_f32

end Cert.PrjIdeal.Val

end
-- ==== Proof.PrjTables.lean ====
/- The rotary tables read at an index: the selection picks one cosine or sine of the position's angles, and a cosine or sine is a real number, so the
   narrower parts of the tables add nothing. -/
module

public import proofs.«01_k».proof.Proof.PrjVocab
public import proofs.«01_k».proof.Proof.FfnBlocks

@[expose] public section

set_option maxRecDepth 16384

noncomputable section

namespace Cert.PrjIdeal.Val

open Cert.PrjIdeal Cert.PrjIdeal.Gen Idealize.ShloMosaic Idealize.ShloMosaic.TcCoe Idealize.SL.Sem
open Cert.Ffn

/-- The selection's entries: per group of 128 columns, which wave a column takes, and with which sign. -/
def code (k j : ℕ) : ℤ :=
  if j / 128 = 0 ∧ j % 64 < 16 ∧ k % 16 = j % 64 % 8 then 1
  else if j / 128 = 1 ∧ j % 64 < 8 ∧ k % 16 = j % 64 + 8 then -1
  else if j / 128 = 2 ∧ 8 ≤ j % 64 ∧ k % 16 = j % 64 then 1
  else 0

/-- The columns the rotation leaves as they are. -/
def still (j : ℕ) : ℤ := if j < 128 ∧ 16 ≤ j % 64 then 1 else 0

/-- A sum over 48 entries of which only one counts, or none. -/
theorem sum_one (p e : Fin 48 → EReal) (K : Fin 48) (hp : ∀ k : Fin 48, 16 ≤ k.val → p k = 0) (he : ∀ k : Fin 48, k.val < 16 → k ≠ K → e k = 0) :
    ∑ k, p k * e k = p K * e K := by
  refine Finset.sum_eq_single K (fun k _ hk => ?_) (fun h => absurd (Finset.mem_univ K) h)
  by_cases h : k.val < 16
  · rw [he k h hk, mul_zero]
  · rw [hp k (by omega), zero_mul]

theorem sum_none (p e : Fin 48 → EReal) (hp : ∀ k : Fin 48, 16 ≤ k.val → p k = 0) (he : ∀ k : Fin 48, k.val < 16 → e k = 0) : ∑ k, p k * e k = 0 := by
  refine Finset.sum_eq_zero fun k _ => ?_
  by_cases h : k.val < 16
  · rw [he k h, mul_zero]
  · rw [hp k (by omega), zero_mul]

variable (P : Vec Ideal S1x1x1024 .i32) (I : Vec Ideal S8x1 .f32) (E : Vec Ideal S48x384 .bf16) (C : Vec Ideal S1x384 .f32) (t : Fin 2) (r : Fin 512)

/-- A position as a number, and its angles. -/
def position (R : Fin 1024) : EReal := (((P (ix3 0 0 R) : BitVec 32).toInt : ℝ) : EReal)
def angle (R : Fin 1024) (k : Fin 8) : EReal := I (ix2 k 0) * position P R

theorem position_at (R : Fin 1024) (hR : R.val = 512 * t.val + r.val) (k : Fin 8) :
    (broadcastTo S8x512 (sitofp .f32 (shapeCast S1x512 (View.ld P (Rect.unit (s := S1x1x1024) ![0, 0, 512 * t.val] S1x1x512.size (inb_pos t))) shapeCasts_S1x1x512_S1x512 : IVec S1x512 32) : FVec Ideal S1x512 .f32) broadcasts_S1x512_S8x512 : FVec Ideal S8x512 .f32) (ix2 k r)
      = position P R := by
  have ht := t.isLt; have hr := r.isLt
  have hlt : 512 * t.val + r.val < 1024 := by omega
  obtain rfl : R = ⟨512 * t.val + r.val, hlt⟩ := Fin.ext hR
  pointwise []
  rfl

theorem frequency_at (k : Fin 8) :
    (broadcastTo S8x512 (shapeCast S8x1 (View.ld I (Rect.unit (s := S8x1) ![0, 0] S8x1.size inb_S8x1_S8x1_0_0)) shapeCasts_S8x1_S8x1 : FVec Ideal S8x1 .f32) broadcasts_S8x1_S8x512 : FVec Ideal S8x512 .f32) (ix2 k r)
      = I (ix2 k 0) := by
  pointwise []

theorem cosine_at (R : Fin 1024) (hR : R.val = 512 * t.val + r.val) (k : Fin 16) (l : Fin 8) (h : l.val = k.val) :
    waves P I t (ix2 k r) = Ideal.cos (angle P I R l) := by
  unfold waves angle
  refine (concatenate_pair_apply_left (s₁ := S8x512) (s₂ := S8x512) (t := S16x512) 0 _ _ concatenates_S8x512_S8x512_S16x512_d0 (ix2 k r) rfl (ix2 l r)
    (fun a => match a with | 0 => h | 1 => rfl)).trans ?_
  exact congrArg Ideal.cos (congrArg₂ (α := EReal) (β := EReal) (· * ·) (frequency_at I r l) (position_at P t r R hR l))

theorem sine_at (R : Fin 1024) (hR : R.val = 512 * t.val + r.val) (k : Fin 16) (l : Fin 8) (h : l.val + 8 = k.val) :
    waves P I t (ix2 k r) = Ideal.sin (angle P I R l) := by
  unfold waves angle
  refine (concatenate_pair_apply_right (s₁ := S8x512) (s₂ := S8x512) (t := S16x512) 0 _ _ concatenates_S8x512_S8x512_S16x512_d0 (ix2 k r) rfl rfl (ix2 l r)
    (fun a ha => match a with | 0 => absurd rfl ha | 1 => rfl) h).trans ?_
  exact congrArg Ideal.sin (congrArg₂ (α := EReal) (β := EReal) (· * ·) (frequency_at I r l) (position_at P t r R hR l))

variable (hI : ∀ k, ∃ a : ℝ, I (ix2 k 0) = (a : EReal))

include hI in
theorem angle_real (R : Fin 1024) (k : Fin 8) : ∃ a : ℝ, angle P I R k = (a : EReal) := by
  obtain ⟨a, ha⟩ := hI k
  exact ⟨a * ((P (ix3 0 0 R) : BitVec 32).toInt : ℝ), by unfold angle position; rw [ha, EReal.coe_mul]⟩

include hI in
theorem waves_real (k : Fin 16) : ∃ a : ℝ, waves P I t (ix2 k r) = (a : EReal) := by
  have ht := t.isLt; have hr := r.isLt
  by_cases h : k.val < 8
  · obtain ⟨a, ha⟩ := angle_real P I hI ⟨512 * t.val + r.val, by omega⟩ ⟨k.val, h⟩
    exact ⟨Real.cos a, by rw [cosine_at P I t r ⟨512 * t.val + r.val, by omega⟩ rfl k ⟨k.val, h⟩ rfl, ha]; rfl⟩
  · obtain ⟨a, ha⟩ := angle_real P I hI ⟨512 * t.val + r.val, by omega⟩ ⟨k.val - 8, by omega⟩
    exact ⟨Real.sin a, by rw [sine_at P I t r ⟨512 * t.val + r.val, by omega⟩ rfl k ⟨k.val - 8, by omega⟩ (by simp only []; omega), ha]; rfl⟩

theorem parts_at (v : FVec Ideal S16x512 .f32) (k : Fin 48) (l : Fin 16) (h : l.val = k.val) : parts v (ix2 k r) = v (ix2 l r) := by
  unfold parts
  exact concatenate_apply_piece (t := S48x512) 0 _ _ (ix2 k r) 0 (by show 0 < 3; decide) S16x512 _ rfl rfl 0 rfl (ix2 l r)
    (fun a ha => match a with | 0 => absurd rfl ha | 1 => rfl) (show 0 + l.val = k.val by omega)

theorem parts_zero (v : FVec Ideal S16x512 .f32) (hv : ∀ l, ∃ a : ℝ, v (ix2 l r) = (a : EReal)) (k : Fin 48) (h : 16 ≤ k.val) : parts v (ix2 k r) = 0 := by
  have hs : ∀ l, v (ix2 l r) - v (ix2 l r) = 0 := fun l => by
    obtain ⟨a, ha⟩ := hv l
    rw [ha, ← EReal.coe_sub, sub_self]; rfl
  have hk := k.isLt
  unfold parts
  by_cases h2 : k.val < 32
  · refine (concatenate_apply_piece (t := S48x512) 0 _ _ (ix2 k r) 1 (by show 1 < 3; decide) S16x512 _ rfl rfl 16 rfl (ix2 ⟨k.val - 16, by omega⟩ r)
      (fun a ha => match a with | 0 => absurd rfl ha | 1 => rfl) (show 16 + (k.val - 16) = k.val by omega)).trans ?_
    exact hs _
  · refine (concatenate_apply_piece (t := S48x512) 0 _ _ (ix2 k r) 2 (by show 2 < 3; decide) S16x512 _ rfl rfl 32 rfl (ix2 ⟨k.val - 32, by omega⟩ r)
      (fun a ha => match a with | 0 => absurd rfl ha | 1 => rfl) (show 32 + (k.val - 32) = k.val by omega)).trans ?_
    show (v _ - v _) - (v _ - v _) = (0 : EReal)
    rw [hs, sub_zero]

theorem tables_at (j : Fin 384) : tables P I E C t (ix2 r j) = ∑ k : Fin 48, parts (waves P I t) (ix2 k r) * E (ix2 k j) + C (ix2 0 j) := by
  unfold tables
  pointwise []

end Cert.PrjIdeal.Val

end
-- ==== Proof.PrjHost.lean ====
/- The constant tables the host builds for the input projection: which wave a column takes, with which sign, and which columns are left as they are. -/
module

public import proofs.«01_k».proof.Proof.PrjTables

@[expose] public section

set_option maxRecDepth 16384

noncomputable section

namespace Cert.PrjIdeal.Val

open Cert.PrjIdeal Cert.PrjIdeal.Gen Idealize.ShloMosaic Idealize.ShloMosaic.TcCoe Idealize.SL.Sem

/-- The three conditions on a wave and a column, in words. -/
def pick0 (k j : BitVec 32) : BitVec 1 :=
  IntOp.andi (IntOp.andi (IntOp.cmpi .eq (IntOp.shrsi .host j 7#32) 0#32) (IntOp.cmpi .slt (IntOp.andi j 63#32) 16#32))
    (IntOp.cmpi .eq (IntOp.andi k 15#32) (IntOp.andi (IntOp.andi j 63#32) 7#32))
def pick1 (k j : BitVec 32) : BitVec 1 :=
  IntOp.andi (IntOp.andi (IntOp.cmpi .eq (IntOp.shrsi .host j 7#32) 1#32) (IntOp.cmpi .slt (IntOp.andi j 63#32) 8#32))
    (IntOp.cmpi .eq (IntOp.andi k 15#32) (IntOp.addi (IntOp.andi j 63#32) 8#32))
def pick2 (k j : BitVec 32) : BitVec 1 :=
  IntOp.andi (IntOp.andi (IntOp.cmpi .eq (IntOp.shrsi .host j 7#32) 2#32) (IntOp.cmpi .sge (IntOp.andi j 63#32) 8#32))
    (IntOp.cmpi .eq (IntOp.andi k 15#32) (IntOp.andi j 63#32))
def stays (j : BitVec 32) : BitVec 1 := IntOp.andi (IntOp.cmpi .slt j 128#32) (IntOp.cmpi .sge (IntOp.andi j 63#32) 16#32)

theorem picks : ∀ (k : Fin 48) (j : Fin 384),
    pick0 (BitVec.ofNat 32 k.val) (BitVec.ofNat 32 j.val) = (if j.val / 128 = 0 ∧ j.val % 64 < 16 ∧ k.val % 16 = j.val % 64 % 8 then 1#1 else 0#1)
    ∧ pick1 (BitVec.ofNat 32 k.val) (BitVec.ofNat 32 j.val) = (if j.val / 128 = 1 ∧ j.val % 64 < 8 ∧ k.val % 16 = j.val % 64 + 8 then 1#1 else 0#1)
    ∧ pick2 (BitVec.ofNat 32 k.val) (BitVec.ofNat 32 j.val) = (if j.val / 128 = 2 ∧ 8 ≤ j.val % 64 ∧ k.val % 16 = j.val % 64 then 1#1 else 0#1) := by decide +kernel

theorem stays_eq : ∀ j : Fin 384, stays (BitVec.ofNat 32 j.val) = if j.val < 128 ∧ 16 ≤ j.val % 64 then 1#1 else 0#1 := by decide +kernel

/-- The selection as the host builds it. -/
def selection : FVec Ideal S48x384 .bf16 := truncf .bf16 (fun i =>
  Scalar.select (pick0 (BitVec.ofNat 32 (i 0).val) (BitVec.ofNat 32 (i 1).val)) (FloatOps.ofBits .f32 0x3F800000#32)
    (Scalar.select (pick1 (BitVec.ofNat 32 (i 0).val) (BitVec.ofNat 32 (i 1).val)) (FloatOps.ofBits .f32 0xBF800000#32)
      (Scalar.select (pick2 (BitVec.ofNat 32 (i 0).val) (BitVec.ofNat 32 (i 1).val)) (FloatOps.ofBits .f32 0x3F800000#32) (FloatOps.ofBits .f32 0x00000000#32))) : FVec Ideal S48x384 .f32) bitsLt_bf16_f32

def staying : FVec Ideal S1x384 .f32 := fun i =>
  Scalar.select (stays (BitVec.ofNat 32 (i 1).val)) (FloatOps.ofBits .f32 0x3F800000#32) (FloatOps.ofBits .f32 0x00000000#32)

theorem one_word : (FloatOps.ofBits .f32 0x3F800000#32 : Ideal .f32) = ((1 : ℝ) : EReal) := by
  show Ideal.ofBits .f32 0x3F800000#32 = _
  rw [Ideal.ofBits_one_f32]; rfl
theorem minus_word : (FloatOps.ofBits .f32 0xBF800000#32 : Ideal .f32) = ((-1 : ℝ) : EReal) := by
  show Ideal.ofBits .f32 0xBF800000#32 = _
  simp [Ideal.ofBits, Ideal.ieee, -EReal.coe_mul, -EReal.coe_neg]; norm_num
theorem zero_word : (FloatOps.ofBits .f32 0x00000000#32 : Ideal .f32) = ((0 : ℝ) : EReal) := by
  show Ideal.ofBits .f32 0x00000000#32 = _
  rw [Ideal.ofBits_zero_f32]; rfl

theorem selection_apply (k : Fin 48) (j : Fin 384) : selection (ix2 k j) = ((code k.val j.val : ℝ) : EReal) := by
  obtain ⟨h0, h1, h2⟩ := picks k j
  show Scalar.select (pick0 (BitVec.ofNat 32 k.val) (BitVec.ofNat 32 j.val)) (FloatOps.ofBits .f32 0x3F800000#32 : Ideal .f32)
    (Scalar.select (pick1 (BitVec.ofNat 32 k.val) (BitVec.ofNat 32 j.val)) (FloatOps.ofBits .f32 0xBF800000#32 : Ideal .f32)
      (Scalar.select (pick2 (BitVec.ofNat 32 k.val) (BitVec.ofNat 32 j.val)) (FloatOps.ofBits .f32 0x3F800000#32 : Ideal .f32) (FloatOps.ofBits .f32 0x00000000#32 : Ideal .f32))) = _
  rw [h0, h1, h2, one_word, minus_word, zero_word]
  unfold code
  split_ifs <;> simp [Scalar.select]

theorem staying_apply (j : Fin 384) : staying (ix2 0 j) = ((still j.val : ℝ) : EReal) := by
  show Scalar.select (stays (BitVec.ofNat 32 j.val)) (FloatOps.ofBits .f32 0x3F800000#32 : Ideal .f32) (FloatOps.ofBits .f32 0x00000000#32 : Ideal .f32) = _
  rw [stays_eq, one_word, zero_word]
  unfold still
  split_ifs <;> simp [Scalar.select]

end Cert.PrjIdeal.Val

end
-- ==== Proof.PrjRows.lean ====
/- The mixer's input projection read at an index: an entry of a stored pair of heads is an entry of its token's product with the projection,
   turned by the token's angles where the heads are turned. -/
module

public import proofs.«01_k».proof.Proof.PrjTables
public import Idealize.ShloMosaic.Lib.KernelVsHost

@[expose] public section

set_option maxRecDepth 16384

noncomputable section

namespace Cert.PrjIdeal.Val

open Cert.PrjIdeal Cert.PrjIdeal.Gen Idealize.ShloMosaic Idealize.ShloMosaic.TcCoe Idealize.SL.Sem
open Cert.Ffn

/-- A column of a token's product: the normed, scaled and shifted row times the projection's column. -/
def column (x g shift scale : Fin 1024 → EReal) (w : Fin 1024 → Fin 3080 → EReal) (j : Fin 3080) : EReal :=
  ∑ i, hidden x (fun k => g k * (Ideal.ofBits .f32 0x3F800000#32 + scale k)) shift i * w i j

/-- The rotation of a pair of heads by eight angles: in either head the first eight entries turn with the next eight. -/
def turn (a : Fin 8 → EReal) (u : Fin 128 → EReal) (l : Fin 128) : EReal :=
  if h : l.val % 64 < 8 then u l * Ideal.cos (a ⟨l.val % 64, h⟩) - u ⟨l.val + 8, by omega⟩ * Ideal.sin (a ⟨l.val % 64, h⟩)
  else if h' : l.val % 64 < 16 then u l * Ideal.cos (a ⟨l.val % 64 - 8, by omega⟩) + u ⟨l.val - 8, by omega⟩ * Ideal.sin (a ⟨l.val % 64 - 8, by omega⟩)
  else u l

/-- The stores read back. -/
theorem canon_pieces {e : EltTy} (f : Fin 2 → Fin 4 → Vec Ideal S512x128 e) (y : S1x4x1024x128.Idx) :
    View.canon (Val := Elt Ideal) (pieces f) y
      = f ⟨(y 2).val / 512, by have : (y 2).val < 1024 := (y 2).isLt; omega⟩ (y 1) (ix2 ⟨(y 2).val % 512, by omega⟩ (y 3)) := by
  refine View.canon_apply_of_pieces (Val := Elt Ideal) (e := e) (S := S1x4x1024x128)
    (fun y => f ⟨(y 2).val / 512, by have : (y 2).val < 1024 := (y 2).isLt; omega⟩ (y 1) (ix2 ⟨(y 2).val % 512, by omega⟩ (y 3))) _
    (fun w hw z => ?_) y (View.cover_of_tiledL _ ![1, 1, 512, 128] (by sl_kernel_rfl) y)
  have key : ∀ (t : Fin 2) (p : Fin 4), w = piece f t p → w.2 z
      = f ⟨(w.1.emb z 2).val / 512, by have : (w.1.emb z 2).val < 1024 := (w.1.emb z 2).isLt; omega⟩ (w.1.emb z 1) (ix2 ⟨(w.1.emb z 2).val % 512, by omega⟩ (w.1.emb z 3)) := by
    rintro t p rfl
    obtain ⟨a, b, r, l, rfl⟩ : ∃ (a b : Fin 1) (r : Fin 512) (l : Fin 128), z = ix4 a b r l :=
      ⟨z 0, z 1, z 2, z 3, by funext a; match a with | 0 => rfl | 1 => rfl | 2 => rfl | 3 => rfl⟩
    have hr := r.isLt; have ht := t.isLt; have hb := b.isLt; have ha := a.isLt; have hp := p.isLt
    refine (shapeCast_apply (f t p) _ _ (ix2 r l : (⟨2, ![512, 128]⟩ : Shape).Idx) ?_).trans ?_
    · rw [Shape.rowMajor_val_two, Shape.rowMajor_val_four]; show r.val * 128 + l.val = ((a.val * 1 + b.val) * 512 + r.val) * 128 + l.val; omega
    · have e0 : (⟨(512 * t.val + 1 * r.val) / 512, by omega⟩ : Fin 2) = t := Fin.ext (show (512 * t.val + 1 * r.val) / 512 = t.val by omega)
      have e1 : (⟨p.val + 1 * b.val, by omega⟩ : Fin 4) = p := Fin.ext (show p.val + 1 * b.val = p.val by omega)
      have e2 : (⟨(512 * t.val + 1 * r.val) % 512, by omega⟩ : Fin 512) = r := Fin.ext (show (512 * t.val + 1 * r.val) % 512 = r.val by omega)
      have e3 : (⟨0 + 1 * l.val, by omega⟩ : Fin 128) = l := Fin.ext (show 0 + 1 * l.val = l.val by omega)
      show _ = f ⟨(512 * t.val + 1 * r.val) / 512, _⟩ ⟨p.val + 1 * b.val, _⟩ (ix2 ⟨(512 * t.val + 1 * r.val) % 512, _⟩ ⟨0 + 1 * l.val, _⟩)
      rw [e0, e1, e2, e3]
  simp only [pieces, List.mem_cons, List.not_mem_nil, or_false] at hw
  rcases hw with h | h | h | h | h | h | h | h <;> exact key _ _ h

variable (X : Vec Ideal S1024x1024 .f32) (M : Vec Ideal S1x9x1024 .f32) (G : Vec Ideal S1x1024 .f32) (P : Vec Ideal S1x1x1024 .i32) (I : Vec Ideal S8x1 .f32)
  (W : Vec Ideal S1024x3080 .bf16) (E : Vec Ideal S48x384 .bf16) (C : Vec Ideal S1x384 .f32)
theorem product_apply (r : Fin 512) (h : FVec Ideal S512x1024 .bf16) (s : Fin 6) (k : Fin 512) :
    product h W s (ix2 r k) = ∑ i, h (ix2 r i) * entries W i ⟨512 * s.val + k.val, by omega⟩ := by
  unfold product
  rw [ix2_eq_valueIdx]
  refine (Ideal.matmul_plain_apply none _ _ _ r k).trans ?_
  rw [zero_constant, zero_add]
  simp only [← ix2_eq_valueIdx]
  refine Finset.sum_congr rfl fun i _ => congrArg (h (ix2 r i) * ·) ((congrFun (shapeCast_self (s := S1024x512) _ _) _).trans (congrArg W ?_))
  funext a; apply Fin.ext
  match a with
  | 0 => show 0 + 1 * i.val = i.val; omega
  | 1 => show 512 * s.val + 1 * k.val = 512 * s.val + k.val; omega

theorem table_apply (r : Fin 512) (T : FVec Ideal S512x384 .f32) (k : Fin 3) (l : Fin 128) : table T k (ix2 r l) = T (ix2 r ⟨128 * k.val + l.val, by omega⟩) :=
  extractStridedSlice_apply _ _ (cuts_table k) (ix2 r l) (ix2 r ⟨128 * k.val + l.val, by omega⟩) (fun a => match a with | 0 => (Nat.zero_add _).symm | 1 => rfl)

/-- The column of a stored entry's product. -/
def slot (s : Fin 6) (p : Fin 4) (l : Fin 128) : Fin 3080 := ⟨512 * s.val + 128 * p.val + l.val, by omega⟩

variable (t : Fin 2) (r : Fin 512) (R : Fin 1024) (hR : R.val = 512 * t.val + r.val)

/-- A token's product, from the blocks. -/
def token (R : Fin 1024) : Fin 3080 → EReal := column (rowOf X R) (rowOf G 0) (condOf M 3) (condOf M 4) (entries W)

include hR in
theorem hiddenRows_apply (i : Fin 1024) : hiddenRows X M G t (ix2 r i)
    = hidden (rowOf X R) (fun k => rowOf G 0 k * (Ideal.ofBits .f32 0x3F800000#32 + condOf M 4 k)) (condOf M 3) i := by
  unfold hiddenRows
  refine (hiddenIn_apply _ _ _ r i).trans ?_
  have e1 : row (half X t) r = rowOf X R := funext fun j => half_apply X t r j R hR
  have e2 : row (gainIn (gainAt G) (modAt M 4)) 0 = fun k => rowOf G 0 k * (Ideal.ofBits .f32 0x3F800000#32 + condOf M 4 k) := funext fun j => gainIn_apply G M 4 j
  have e3 : row (modRow (modAt M 3)) 0 = condOf M 3 := funext fun j => modRow_apply M 3 j
  rw [e1, e2, e3]

include hR in
/-- An entry of a pair of heads. -/
theorem pair_apply (s : Fin 6) (p : Fin 4) (l : Fin 128) :
    pair (product (hiddenRows X M G t) W s) p (ix2 r l) = token X M G W R (slot s p l) := by
  unfold pair
  refine (extractStridedSlice_apply _ _ (cuts_pair p) (ix2 r l) (ix2 r ⟨128 * p.val + l.val, by omega⟩) (fun a => match a with | 0 => (Nat.zero_add _).symm | 1 => rfl)).trans ?_
  refine (product_apply W r _ s _).trans ?_
  unfold token column
  refine Finset.sum_congr rfl fun i _ => congrArg₂ (α := EReal) (β := EReal) (· * ·) (hiddenRows_apply X M G t r R hR i) (congrArg (entries W i) (Fin.ext ?_))
  show 512 * s.val + (128 * p.val + l.val) = 512 * s.val + 128 * p.val + l.val
  omega

theorem back_apply (u : FVec Ideal S512x128 .f32) (l l' : Fin 128) (h : l'.val = (l.val + 8) % 128) :
    (dynamicRotate 1 120#32 none u rotates_S512x128_d1 : FVec Ideal S512x128 .f32) (ix2 r l) = u (ix2 r l') :=
  dynamicRotate_apply (s := S512x128) 1 120#32 u _ (ix2 r l) (ix2 r l') (fun b => match b with
    | 0 => rfl
    | 1 => h.trans (show (l.val + 8) % 128 = (l.val + 128 - 120 % 128) % 128 by omega))

theorem forth_apply (u : FVec Ideal S512x128 .f32) (l l' : Fin 128) (h : l'.val = (l.val + 120) % 128) :
    (dynamicRotate 1 8#32 none u rotates_S512x128_d1 : FVec Ideal S512x128 .f32) (ix2 r l) = u (ix2 r l') :=
  dynamicRotate_apply (s := S512x128) 1 8#32 u _ (ix2 r l) (ix2 r l') (fun b => match b with
    | 0 => rfl
    | 1 => h.trans (show (l.val + 120) % 128 = (l.val + 128 - 8 % 128) % 128 by omega))

variable (hI : ∀ k, ∃ a : ℝ, I (ix2 k 0) = (a : EReal)) (hE : ∀ (k : Fin 48) (j : Fin 384), E (ix2 k j) = ((code k.val j.val : ℝ) : EReal))
  (hC : ∀ j : Fin 384, C (ix2 0 j) = ((still j.val : ℝ) : EReal))

include hI hE hC in
/-- A table's entry that takes a wave. -/
theorem entry_wave (j : Fin 384) (K : Fin 16) (hK : ∀ k : ℕ, k < 16 → k ≠ K.val → code k j.val = 0) :
    tables P I E C t (ix2 r j) = waves P I t (ix2 K r) * ((code K.val j.val : ℝ) : EReal) + ((still j.val : ℝ) : EReal) := by
  rw [tables_at, hC]
  refine congrArg (· + _) ?_
  have hk := K.isLt
  refine (sum_one _ _ ⟨K.val, by omega⟩ (fun k h => parts_zero r _ (waves_real P I t r hI) k h) (fun k h h' => ?_)).trans ?_
  · rw [hE, hK k.val h (fun e => h' (Fin.ext e))]; simp
  · rw [hE, parts_at r _ ⟨K.val, by omega⟩ K rfl]

include hI hE hC in
/-- A table's entry that takes none. -/
theorem entry_none (j : Fin 384) (hK : ∀ k : ℕ, k < 16 → code k j.val = 0) :
    tables P I E C t (ix2 r j) = ((still j.val : ℝ) : EReal) := by
  rw [tables_at, hC]
  refine (congrArg (· + _) ?_).trans (zero_add _)
  exact sum_none _ _ (fun k h => parts_zero r _ (waves_real P I t r hI) k h) (fun k h => by rw [hE, hK k.val h]; simp)

include hR hI hE hC in
theorem rotated_apply (u : FVec Ideal S512x128 .f32) (l : Fin 128) :
    rotated (tables P I E C t) u (ix2 r l) = turn (angle P I R) (fun l => u (ix2 r l)) l := by
  have hl := l.isLt
  have e : rotated (tables P I E C t) u (ix2 r l)
      = u (ix2 r l) * tables P I E C t (ix2 r ⟨128 * (0 : Fin 3).val + l.val, by omega⟩)
        + u (ix2 r ⟨(l.val + 8) % 128, by omega⟩) * tables P I E C t (ix2 r ⟨128 * (1 : Fin 3).val + l.val, by omega⟩)
        + u (ix2 r ⟨(l.val + 120) % 128, by omega⟩) * tables P I E C t (ix2 r ⟨128 * (2 : Fin 3).val + l.val, by omega⟩) := by
    rw [← table_apply r (tables P I E C t) 0 l, ← table_apply r (tables P I E C t) 1 l, ← table_apply r (tables P I E C t) 2 l, ← back_apply r u l ⟨(l.val + 8) % 128, by omega⟩ rfl, ← forth_apply r u l ⟨(l.val + 120) % 128, by omega⟩ rfl]
    rfl
  rw [e]
  unfold turn
  by_cases h : l.val % 64 < 8
  · rw [dif_pos h,
      entry_wave P I E C t r hI hE hC ⟨128 * (0 : Fin 3).val + l.val, by omega⟩ ⟨l.val % 64, by omega⟩ (fun k hk hn => by
        simp only [code, Fin.val_zero] at hn ⊢; split_ifs <;> omega),
      entry_wave P I E C t r hI hE hC ⟨128 * (1 : Fin 3).val + l.val, by omega⟩ ⟨l.val % 64 + 8, by omega⟩ (fun k hk hn => by
        simp only [code, Fin.val_one] at hn ⊢; split_ifs <;> omega),
      entry_none P I E C t r hI hE hC ⟨128 * (2 : Fin 3).val + l.val, by omega⟩ (fun k hk => by
        simp only [code, Fin.val_two]; split_ifs <;> omega),
      cosine_at P I t r R hR ⟨l.val % 64, _⟩ ⟨l.val % 64, h⟩ rfl, sine_at P I t r R hR ⟨l.val % 64 + 8, _⟩ ⟨l.val % 64, h⟩ rfl]
    have c0 : code (l.val % 64) (128 * (0 : Fin 3).val + l.val) = 1 := by simp only [code, Fin.val_zero]; split_ifs <;> omega
    have c1 : code (l.val % 64 + 8) (128 * (1 : Fin 3).val + l.val) = -1 := by simp only [code, Fin.val_one]; split_ifs <;> omega
    have s0 : still (128 * (0 : Fin 3).val + l.val) = 0 := by simp only [still, Fin.val_zero]; split_ifs <;> omega
    have s1 : still (128 * (1 : Fin 3).val + l.val) = 0 := by simp only [still, Fin.val_one]; split_ifs <;> omega
    have s2 : still (128 * (2 : Fin 3).val + l.val) = 0 := by simp only [still, Fin.val_two]; split_ifs <;> omega
    have e8 : (⟨(l.val + 8) % 128, by omega⟩ : Fin 128) = ⟨l.val + 8, by omega⟩ := Fin.ext (show (l.val + 8) % 128 = l.val + 8 by omega)
    simp only [c0, c1, s0, s1, s2, e8, Int.cast_one, Int.cast_neg, Int.cast_zero, EReal.coe_neg, EReal.coe_one, EReal.coe_zero, mul_neg, mul_one, mul_zero, add_zero, sub_eq_add_neg]
  by_cases h' : l.val % 64 < 16
  · rw [dif_neg h, dif_pos h',
      entry_wave P I E C t r hI hE hC ⟨128 * (0 : Fin 3).val + l.val, by omega⟩ ⟨l.val % 64 - 8, by omega⟩ (fun k hk hn => by
        simp only [code, Fin.val_zero] at hn ⊢; split_ifs <;> omega),
      entry_none P I E C t r hI hE hC ⟨128 * (1 : Fin 3).val + l.val, by omega⟩ (fun k hk => by
        simp only [code, Fin.val_one]; split_ifs <;> omega),
      entry_wave P I E C t r hI hE hC ⟨128 * (2 : Fin 3).val + l.val, by omega⟩ ⟨l.val % 64, by omega⟩ (fun k hk hn => by
        simp only [code, Fin.val_two] at hn ⊢; split_ifs <;> omega),
      cosine_at P I t r R hR ⟨l.val % 64 - 8, _⟩ ⟨l.val % 64 - 8, by omega⟩ rfl,
      sine_at P I t r R hR ⟨l.val % 64, _⟩ ⟨l.val % 64 - 8, by omega⟩ (show l.val % 64 - 8 + 8 = l.val % 64 by omega)]
    have c0 : code (l.val % 64 - 8) (128 * (0 : Fin 3).val + l.val) = 1 := by simp only [code, Fin.val_zero]; split_ifs <;> omega
    have c2 : code (l.val % 64) (128 * (2 : Fin 3).val + l.val) = 1 := by simp only [code, Fin.val_two]; split_ifs <;> omega
    have s0 : still (128 * (0 : Fin 3).val + l.val) = 0 := by simp only [still, Fin.val_zero]; split_ifs <;> omega
    have s1 : still (128 * (1 : Fin 3).val + l.val) = 0 := by simp only [still, Fin.val_one]; split_ifs <;> omega
    have s2 : still (128 * (2 : Fin 3).val + l.val) = 0 := by simp only [still, Fin.val_two]; split_ifs <;> omega
    have e8 : (⟨(l.val + 120) % 128, by omega⟩ : Fin 128) = ⟨l.val - 8, by omega⟩ := Fin.ext (show (l.val + 120) % 128 = l.val - 8 by omega)
    simp only [c0, c2, s0, s1, s2, e8, Int.cast_one, Int.cast_zero, EReal.coe_one, EReal.coe_zero, mul_one, mul_zero, add_zero]
  · rw [dif_neg h, dif_neg h',
      entry_none P I E C t r hI hE hC ⟨128 * (0 : Fin 3).val + l.val, by omega⟩ (fun k hk => by
        simp only [code, Fin.val_zero]; split_ifs <;> omega),
      entry_none P I E C t r hI hE hC ⟨128 * (1 : Fin 3).val + l.val, by omega⟩ (fun k hk => by
        simp only [code, Fin.val_one]; split_ifs <;> omega),
      entry_none P I E C t r hI hE hC ⟨128 * (2 : Fin 3).val + l.val, by omega⟩ (fun k hk => by
        simp only [code, Fin.val_two]; split_ifs <;> omega)]
    have s0 : still (128 * (0 : Fin 3).val + l.val) = 1 := by simp only [still, Fin.val_zero]; split_ifs <;> omega
    have s1 : still (128 * (1 : Fin 3).val + l.val) = 0 := by simp only [still, Fin.val_one]; split_ifs <;> omega
    have s2 : still (128 * (2 : Fin 3).val + l.val) = 0 := by simp only [still, Fin.val_two]; split_ifs <;> omega
    simp only [s0, s1, s2, Int.cast_one, Int.cast_zero, EReal.coe_one, EReal.coe_zero, mul_one, mul_zero, add_zero]

/-- The scale by which the queries' scores come out in bits. -/
def qscale : EReal := (((1 / 8) * (Real.log 2)⁻¹ : ℝ) : EReal)

theorem scaled_apply (u : FVec Ideal S512x128 .f32) (l : Fin 128) : scaled u (ix2 r l) = u (ix2 r l) * qscale := rfl

include hR hI hE hC in
theorem qa_apply (p : Fin 4) (l : Fin 128) : qa X M G P I W E C t p (ix2 r l) = turn (angle P I R) (fun l => token X M G W R (slot 0 p l)) l * qscale := by
  unfold qa
  rw [scaled_apply, rotated_apply P I E C t r R hR hI hE hC]
  exact congrArg (fun f => turn (angle P I R) f l * qscale) (funext fun l => pair_apply X M G W t r R hR 0 p l)

include hR hI hE hC in
theorem ka_apply (p : Fin 4) (l : Fin 128) : ka X M G P I W E C t p (ix2 r l) = turn (angle P I R) (fun l => token X M G W R (slot 1 p l)) l := by
  unfold ka
  rw [rotated_apply P I E C t r R hR hI hE hC]
  exact congrArg (fun f => turn (angle P I R) f l) (funext fun l => pair_apply X M G W t r R hR 1 p l)

include hR in
theorem va_apply (p : Fin 4) (l : Fin 128) : va X M G W t p (ix2 r l) = token X M G W R (slot 2 p l) := pair_apply X M G W t r R hR 2 p l

include hR in
theorem qb_apply (p : Fin 4) (l : Fin 128) : qb X M G W t p (ix2 r l) = token X M G W R (slot 3 p l) * qscale :=
  congrArg (· * qscale) (pair_apply X M G W t r R hR 3 p l)

include hR in
theorem kvb_apply (s : Fin 6) (p : Fin 4) (l : Fin 128) : kvb X M G W s t p (ix2 r l) = token X M G W R (slot s p l) := pair_apply X M G W t r R hR s p l

end Cert.PrjIdeal.Val

end
-- ==== Proof.PrjSpec.lean ====
/- The mixer's input projection from the call's arguments: the projected columns of a token, its rotary angles, and the six results. -/
module

public import proofs.«01_k».proof.Proof.PrjHost
public import proofs.«01_k».proof.Proof.PrjRows

@[expose] public section

set_option maxRecDepth 16384

noncomputable section

namespace Cert.PrjIdeal.Val

open Cert.PrjIdeal Cert.PrjIdeal.Gen Idealize.ShloMosaic Idealize.ShloMosaic.TcCoe Idealize.SL.Sem

/-- The eight inverse frequencies. -/
def frequencies : FVec Ideal S8 .f32 :=
  Host.powf (broadcastInDim S8 ![] bcast_S_S8 (constant S_ .f32 0x48F42400#32))
    (Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0) : FVec Ideal S8 .f32))))
      (broadcastInDim S8 ![] bcast_S_S8 (constant S_ .f32 0x41800000#32)))

theorem base_word : Ideal.ofBits .f32 0x48F42400#32 = ((500000 : ℝ) : EReal) := by
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem sixteen_word : Ideal.ofBits .f32 0x41800000#32 = ((16 : ℝ) : EReal) := by
  simp [Ideal.ofBits, Ideal.ieee, -EReal.coe_mul]; norm_num

/-- An inverse frequency is a real number. -/
theorem frequency_real (k : Fin 8) : ∃ a : ℝ, frequencies (ix1 k) = (a : EReal) := by
  have e : frequencies (ix1 k) = Ideal.pow (Ideal.ofBits .f32 0x48F42400#32)
      (Ideal.div (-(Ideal.ofBits .f32 0x00000000#32 + Ideal.ofBits .f32 0x40000000#32 * (((BitVec.ofNat 32 k.val).toInt : ℝ) : EReal))) (Ideal.ofBits .f32 0x41800000#32)) := rfl
  rw [e, base_word, two_word, sixteen_word, Ideal.ofBits_zero_f32, zero_add, ← EReal.coe_mul, ← EReal.coe_neg, Ideal.div_coe (by norm_num), ← EReal.coe_mul, Ideal.pow_coe_coe]
  exact ⟨_, rfl⟩

variable (x : FVec Ideal S32x2048x1024 .f32) (mod : FVec Ideal S32x9x1024 .f32) (g : FVec Ideal S1024 .f32) (pos : IVec S32x2048 32) (w : FVec Ideal S1024x3080 .f32)

/-- A token's projected columns. -/
def projected (b : Fin 32) (n : Fin 2048) : Fin 3080 → EReal :=
  column (fun k => x (ix3 b n k)) (fun k => g (ix1 k)) (fun k => mod (ix3 b 3 k)) (fun k => mod (ix3 b 4 k)) (fun i j => w (ix2 i j))

/-- A token's angles. -/
def angles (b : Fin 32) (n : Fin 2048) (k : Fin 8) : EReal := frequencies (ix1 k) * (((pos (ix2 b n) : BitVec 32).toInt : ℝ) : EReal)

/-- The results: turned and scaled queries, turned keys, values, scaled queries, keys, values. -/
def turnedQueries : FVec Ideal S32x4x2048x128 .f32 := fun i =>
  turn (angles pos (i 0) (i 2)) (fun l => projected x mod g w (i 0) (i 2) (slot 0 (i 1) l)) (i 3) * qscale
def turnedKeys : FVec Ideal S32x4x2048x128 .f32 := fun i =>
  turn (angles pos (i 0) (i 2)) (fun l => projected x mod g w (i 0) (i 2) (slot 1 (i 1) l)) (i 3)
def scaledQueries : FVec Ideal S32x4x2048x128 .bf16 := fun i => projected x mod g w (i 0) (i 2) (slot 3 (i 1) (i 3)) * qscale
def plain {φ : FTy} (s : Fin 6) : FVec Ideal S32x4x2048x128 φ := fun i => projected x mod g w (i 0) (i 2) (slot s (i 1) (i 3))

end Cert.PrjIdeal.Val

end
-- ==== Proof.PrjStores.lean ====
/- The stores a grid point makes, in both of its cases: the first half of a batch row, and the second. -/
module

public import proofs.«01_k».proof.Proof.Gen.PrjIdeal.Frame.RunB
public import proofs.«01_k».proof.Proof.PrjVocab

@[expose] public section

set_option maxRecDepth 65536

noncomputable section

namespace Cert.PrjIdeal.Val

open Cert.PrjIdeal Cert.PrjIdeal.Gen Idealize.ShloMosaic Idealize.ShloMosaic.TcCoe Idealize.SL.Sem
open Idealize.ShloMosaic.Pipeline (Dat)
open Cert.Ffn

theorem run_A (c : Dev nD) (i : grid0.Coords) (arg2 : Memref sig .tc .vmem S1024x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x1x1024 .i32) (harg5 : arg5.IsWhole) (arg6 : Memref sig .tc .vmem S8x1 .f32) (harg6 : arg6.IsWhole) (arg7 : Memref sig .tc .vmem S1024x3080 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S48x384 .bf16) (harg10 : arg10.IsWhole) (arg11 : Memref sig .tc .vmem S1x384 .f32) (harg11 : arg11.IsWhole) (arg12 : Memref sig .tc .vmem S512x512 .bf16) (harg12 : arg12.IsWhole) (arg13 : Memref sig .tc .vmem S128x128 .bf16) (harg13 : arg13.IsWhole) (arg14 : Memref sig .tc .vmem S128x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S1x4x1024x128 .f32) (harg17 : arg17.IsWhole) (arg18 : Memref sig .tc .vmem S1x4x1024x128 .f32) (harg18 : arg18.IsWhole) (arg19 : Memref sig .tc .vmem S1x4x1024x128 .f32) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1024x128 .bf16) (harg23 : arg23.IsWhole) (arg24 : Memref sig .tc .vmem S1024x128 .bf16) (harg24 : arg24.IsWhole) (arg25 : Memref sig .tc .vmem S1x128 .f32) (harg25 : arg25.IsWhole) (hc0 : cond0_0 i)
    (x0 : Vec Ideal S1024x1024 .f32) (x1 : Vec Ideal S1x9x1024 .f32) (x2 : Vec Ideal S1x1024 .f32) (x3 : Vec Ideal S1x1x1024 .i32) (x4 : Vec Ideal S8x1 .f32) (x5 : Vec Ideal S1024x3080 .bf16) (x6 : Vec Ideal S1024x128 .bf16) (x7 : Vec Ideal S1x128 .f32) (x8 : Vec Ideal S48x384 .bf16) (x9 : Vec Ideal S1x384 .f32) (x10 : Vec Ideal S512x512 .bf16) (x11 : Vec Ideal S128x128 .bf16) (x12 : Vec Ideal S128x128 .bf16) (x13 : Vec Ideal S1x128 .f32) (x14 : Vec Ideal S1x128 .f32) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).1 = pieces (qa (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg10.view.read (Elt Ideal) (harg10.unread x8)) (arg11.view.read (Elt Ideal) (harg11.unread x9)))
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.1 = pieces (ka (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg10.view.read (Elt Ideal) (harg10.unread x8)) (arg11.view.read (Elt Ideal) (harg11.unread x9)))
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.1 = pieces (va (arg2.view.read (Elt Ideal) (harg2.unread x0)) (arg3.view.read (Elt Ideal) (harg3.unread x1)) (arg4.view.read (Elt Ideal) (harg4.unread x2)) (arg7.view.read (Elt Ideal) (harg7.unread x5)))
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.1 = pieces (qb (arg2.view.read (Elt Ideal) (harg2.unread x0)) (arg3.view.read (Elt Ideal) (harg3.unread x1)) (arg4.view.read (Elt Ideal) (harg4.unread x2)) (arg7.view.read (Elt Ideal) (harg7.unread x5)))
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.2.1 = pieces (kvb (arg2.view.read (Elt Ideal) (harg2.unread x0)) (arg3.view.read (Elt Ideal) (harg3.unread x1)) (arg4.view.read (Elt Ideal) (harg4.unread x2)) (arg7.view.read (Elt Ideal) (harg7.unread x5)) 4)
    ∧ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14).2.2.2.2.2.1 = pieces (kvb (arg2.view.read (Elt Ideal) (harg2.unread x0)) (arg3.view.read (Elt Ideal) (harg3.unread x1)) (arg4.view.read (Elt Ideal) (harg4.unread x2)) (arg7.view.read (Elt Ideal) (harg7.unread x5)) 5) := by
  unfold kernelRun0_A pieces
  dsimp only
  refine ⟨?_, ?_, ?_, ?_, ?_, ?_⟩ <;>
    refine congrArg₂ List.cons ?_ (congrArg₂ List.cons ?_ (congrArg₂ List.cons ?_ (congrArg₂ List.cons ?_
      (congrArg₂ List.cons ?_ (congrArg₂ List.cons ?_ (congrArg₂ List.cons ?_ (congrArg₂ List.cons ?_ rfl)))))))
  all_goals sl_kernel_rfl

theorem run_B (c : Dev nD) (i : grid0.Coords) (arg2 : Memref sig .tc .vmem S1024x1024 .f32) (harg2 : arg2.IsWhole) (arg3 : Memref sig .tc .vmem S1x9x1024 .f32) (harg3 : arg3.IsWhole) (arg4 : Memref sig .tc .vmem S1x1024 .f32) (harg4 : arg4.IsWhole) (arg5 : Memref sig .tc .vmem S1x1x1024 .i32) (harg5 : arg5.IsWhole) (arg6 : Memref sig .tc .vmem S8x1 .f32) (harg6 : arg6.IsWhole) (arg7 : Memref sig .tc .vmem S1024x3080 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S48x384 .bf16) (harg10 : arg10.IsWhole) (arg11 : Memref sig .tc .vmem S1x384 .f32) (harg11 : arg11.IsWhole) (arg12 : Memref sig .tc .vmem S512x512 .bf16) (harg12 : arg12.IsWhole) (arg13 : Memref sig .tc .vmem S128x128 .bf16) (harg13 : arg13.IsWhole) (arg14 : Memref sig .tc .vmem S128x128 .bf16) (harg14 : arg14.IsWhole) (arg15 : Memref sig .tc .vmem S1x128 .f32) (harg15 : arg15.IsWhole) (arg16 : Memref sig .tc .vmem S1x128 .f32) (harg16 : arg16.IsWhole) (arg17 : Memref sig .tc .vmem S1x4x1024x128 .f32) (harg17 : arg17.IsWhole) (arg18 : Memref sig .tc .vmem S1x4x1024x128 .f32) (harg18 : arg18.IsWhole) (arg19 : Memref sig .tc .vmem S1x4x1024x128 .f32) (harg19 : arg19.IsWhole) (arg20 : Memref sig .tc .vmem S1x4x1024x128 .bf16) (harg20 : arg20.IsWhole) (arg21 : Memref sig .tc .vmem S1x4x1024x128 .bf16) (harg21 : arg21.IsWhole) (arg22 : Memref sig .tc .vmem S1x4x1024x128 .bf16) (harg22 : arg22.IsWhole) (arg23 : Memref sig .tc .vmem S1024x128 .bf16) (harg23 : arg23.IsWhole) (arg24 : Memref sig .tc .vmem S1024x128 .bf16) (harg24 : arg24.IsWhole) (arg25 : Memref sig .tc .vmem S1x128 .f32) (harg25 : arg25.IsWhole) (hc0 : ¬cond0_0 i)
    (x0 : Vec Ideal S1024x1024 .f32) (x1 : Vec Ideal S1x9x1024 .f32) (x2 : Vec Ideal S1x1024 .f32) (x3 : Vec Ideal S1x1x1024 .i32) (x4 : Vec Ideal S8x1 .f32) (x5 : Vec Ideal S1024x3080 .bf16) (x6 : Vec Ideal S1024x128 .bf16) (x7 : Vec Ideal S1x128 .f32) (x8 : Vec Ideal S48x384 .bf16) (x9 : Vec Ideal S1x384 .f32) (x10 : Vec Ideal S512x512 .bf16) (x11 : Vec Ideal S128x128 .bf16) (x12 : Vec Ideal S128x128 .bf16) (x13 : Vec Ideal S1x128 .f32) (x14 : Vec Ideal S1x128 .f32) (xs0 : Vec Ideal S1x128 .f32) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0).1 = pieces (qa (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg10.view.read (Elt Ideal) (harg10.unread x8)) (arg11.view.read (Elt Ideal) (harg11.unread x9)))
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0).2.1 = pieces (ka (arg2.view.read (Elt Ideal) (harg2.unread x0)) (arg3.view.read (Elt Ideal) (harg3.unread x1)) (arg4.view.read (Elt Ideal) (harg4.unread x2)) (arg5.view.read (Elt Ideal) (harg5.unread x3)) (arg6.view.read (Elt Ideal) (harg6.unread x4)) (arg7.view.read (Elt Ideal) (harg7.unread x5)) (arg10.view.read (Elt Ideal) (harg10.unread x8)) (arg11.view.read (Elt Ideal) (harg11.unread x9)))
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0).2.2.1 = pieces (va (arg2.view.read (Elt Ideal) (harg2.unread x0)) (arg3.view.read (Elt Ideal) (harg3.unread x1)) (arg4.view.read (Elt Ideal) (harg4.unread x2)) (arg7.view.read (Elt Ideal) (harg7.unread x5)))
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0).2.2.2.1 = pieces (qb (arg2.view.read (Elt Ideal) (harg2.unread x0)) (arg3.view.read (Elt Ideal) (harg3.unread x1)) (arg4.view.read (Elt Ideal) (harg4.unread x2)) (arg7.view.read (Elt Ideal) (harg7.unread x5)))
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0).2.2.2.2.1 = pieces (kvb (arg2.view.read (Elt Ideal) (harg2.unread x0)) (arg3.view.read (Elt Ideal) (harg3.unread x1)) (arg4.view.read (Elt Ideal) (harg4.unread x2)) (arg7.view.read (Elt Ideal) (harg7.unread x5)) 4)
    ∧ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 x13 x14 xs0).2.2.2.2.2.1 = pieces (kvb (arg2.view.read (Elt Ideal) (harg2.unread x0)) (arg3.view.read (Elt Ideal) (harg3.unread x1)) (arg4.view.read (Elt Ideal) (harg4.unread x2)) (arg7.view.read (Elt Ideal) (harg7.unread x5)) 5) := by
  unfold kernelRun0_B pieces
  dsimp only
  refine ⟨?_, ?_, ?_, ?_, ?_, ?_⟩ <;>
    refine congrArg₂ List.cons ?_ (congrArg₂ List.cons ?_ (congrArg₂ List.cons ?_ (congrArg₂ List.cons ?_
      (congrArg₂ List.cons ?_ (congrArg₂ List.cons ?_ (congrArg₂ List.cons ?_ (congrArg₂ List.cons ?_ rfl)))))))
  all_goals sl_kernel_rfl

end Cert.PrjIdeal.Val

end
-- ==== Proof.PrjWrites.lean ====
/- What a grid point writes back, window by window: the eight stores read back. -/
module

public import proofs.«01_k».proof.Proof.Gen.PrjIdeal.Value
public import proofs.«01_k».proof.Proof.PrjStores

@[expose] public section

set_option maxRecDepth 65536

noncomputable section

namespace Cert.PrjIdeal.Val

open Cert.PrjIdeal Cert.PrjIdeal.Gen Cert.PrjIdeal.Value Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

theorem block_qa : (dats m 0 c).flushed 15 t = (cfg0.win 15).cut (grid0.coords t) (View.canon (pieces (qa (iblk m c 0 t) (iblk m c 1 t) (iblk m c 2 t) (iblk m c 3 t) (iblk m c 4 t) (iblk m c 5 t) (iblk m c 8 t) (iblk m c 9 t)))) := by
  by_cases h0 : t.val % 2 = 0
  · rw [flushed15_A m c t h0]; unfold out0_A_15
    rw [View.read_writes_eq_canon _ _ _ (fun y => cover0_A_15 (y := y) ..), (run_A ..).1]
    simp only [Memref.IsWhole.read_unread]
  · rw [flushed15_B m c t h0]; unfold out0_B_15
    rw [View.read_writes_eq_canon _ _ _ (fun y => cover0_B_15 (y := y) ..), (run_B ..).1]
    simp only [Memref.IsWhole.read_unread]

theorem block_ka : (dats m 0 c).flushed 16 t = (cfg0.win 16).cut (grid0.coords t) (View.canon (pieces (ka (iblk m c 0 t) (iblk m c 1 t) (iblk m c 2 t) (iblk m c 3 t) (iblk m c 4 t) (iblk m c 5 t) (iblk m c 8 t) (iblk m c 9 t)))) := by
  by_cases h0 : t.val % 2 = 0
  · rw [flushed16_A m c t h0]; unfold out0_A_16
    rw [View.read_writes_eq_canon _ _ _ (fun y => cover0_A_16 (y := y) ..), (run_A ..).2.1]
    simp only [Memref.IsWhole.read_unread]
  · rw [flushed16_B m c t h0]; unfold out0_B_16
    rw [View.read_writes_eq_canon _ _ _ (fun y => cover0_B_16 (y := y) ..), (run_B ..).2.1]
    simp only [Memref.IsWhole.read_unread]

theorem block_va : (dats m 0 c).flushed 17 t = (cfg0.win 17).cut (grid0.coords t) (View.canon (pieces (va (iblk m c 0 t) (iblk m c 1 t) (iblk m c 2 t) (iblk m c 5 t)))) := by
  by_cases h0 : t.val % 2 = 0
  · rw [flushed17_A m c t h0]; unfold out0_A_17
    rw [View.read_writes_eq_canon _ _ _ (fun y => cover0_A_17 (y := y) ..), (run_A ..).2.2.1]
    simp only [Memref.IsWhole.read_unread]
  · rw [flushed17_B m c t h0]; unfold out0_B_17
    rw [View.read_writes_eq_canon _ _ _ (fun y => cover0_B_17 (y := y) ..), (run_B ..).2.2.1]
    simp only [Memref.IsWhole.read_unread]

theorem block_qb : (dats m 0 c).flushed 18 t = (cfg0.win 18).cut (grid0.coords t) (View.canon (pieces (qb (iblk m c 0 t) (iblk m c 1 t) (iblk m c 2 t) (iblk m c 5 t)))) := by
  by_cases h0 : t.val % 2 = 0
  · rw [flushed18_A m c t h0]; unfold out0_A_18
    rw [View.read_writes_eq_canon _ _ _ (fun y => cover0_A_18 (y := y) ..), (run_A ..).2.2.2.1]
    simp only [Memref.IsWhole.read_unread]
  · rw [flushed18_B m c t h0]; unfold out0_B_18
    rw [View.read_writes_eq_canon _ _ _ (fun y => cover0_B_18 (y := y) ..), (run_B ..).2.2.2.1]
    simp only [Memref.IsWhole.read_unread]

theorem block_kvb4 : (dats m 0 c).flushed 19 t = (cfg0.win 19).cut (grid0.coords t) (View.canon (pieces (kvb (iblk m c 0 t) (iblk m c 1 t) (iblk m c 2 t) (iblk m c 5 t) 4))) := by
  by_cases h0 : t.val % 2 = 0
  · rw [flushed19_A m c t h0]; unfold out0_A_19
    rw [View.read_writes_eq_canon _ _ _ (fun y => cover0_A_19 (y := y) ..), (run_A ..).2.2.2.2.1]
    simp only [Memref.IsWhole.read_unread]
  · rw [flushed19_B m c t h0]; unfold out0_B_19
    rw [View.read_writes_eq_canon _ _ _ (fun y => cover0_B_19 (y := y) ..), (run_B ..).2.2.2.2.1]
    simp only [Memref.IsWhole.read_unread]

theorem block_kvb5 : (dats m 0 c).flushed 20 t = (cfg0.win 20).cut (grid0.coords t) (View.canon (pieces (kvb (iblk m c 0 t) (iblk m c 1 t) (iblk m c 2 t) (iblk m c 5 t) 5))) := by
  by_cases h0 : t.val % 2 = 0
  · rw [flushed20_A m c t h0]; unfold out0_A_20
    rw [View.read_writes_eq_canon _ _ _ (fun y => cover0_A_20 (y := y) ..), (run_A ..).2.2.2.2.2]
    simp only [Memref.IsWhole.read_unread]
  · rw [flushed20_B m c t h0]; unfold out0_B_20
    rw [View.read_writes_eq_canon _ _ _ (fun y => cover0_B_20 (y := y) ..), (run_B ..).2.2.2.2.2]
    simp only [Memref.IsWhole.read_unread]

end Cert.PrjIdeal.Val

end
-- ==== Proof.PrjArray.lean ====
/- The input projection's result arrays: every token's columns, turned where the heads are turned, scaled where the queries are scaled. -/
module

public import proofs.«01_k».proof.Proof.PrjSpec
public import proofs.«01_k».proof.Proof.PrjWrites
public import proofs.«01_k».proof.Proof.FfaArray

@[expose] public section

set_option maxRecDepth 16384

noncomputable section

namespace Cert.PrjIdeal.Val

open Cert.PrjIdeal Cert.PrjIdeal.Gen Cert.PrjIdeal.Value Idealize.ShloMosaic Idealize.ShloMosaic.TcCoe Idealize.SL.Sem
open Idealize.ShloMosaic.Pipeline (Dat)
open Cert.Ffn
open Cert.FfaIdeal.Val (rows_split gain_split)

variable (m : (ℓ : Loc nD τ sig) → Buf (Elt Ideal) ℓ) (c : Dev nD)

theorem index_rows : ∀ t : Fin grid0.N,
    (win0_0.index t 0 = t.val ∧ win0_0.index t 1 = 0) ∧ (win0_1.index t 0 = t.val / 2 ∧ win0_1.index t 1 = 0 ∧ win0_1.index t 2 = 0)
    ∧ (win0_3.index t 0 = t.val / 2 ∧ win0_3.index t 1 = 0 ∧ win0_3.index t 2 = t.val % 2) := by decide +kernel

theorem index_whole : ∀ t : Fin grid0.N,
    (win0_2.index t 0 = 0 ∧ win0_2.index t 1 = 0) ∧ (win0_4.index t 0 = 0 ∧ win0_4.index t 1 = 0) ∧ (win0_5.index t 0 = 0 ∧ win0_5.index t 1 = 0)
    ∧ (win0_8.index t 0 = 0 ∧ win0_8.index t 1 = 0) ∧ (win0_9.index t 0 = 0 ∧ win0_9.index t 1 = 0) := by decide +kernel

theorem index_results : ∀ t : Fin grid0.N,
    (win0_15.index t 0 = t.val / 2 ∧ win0_15.index t 1 = 0 ∧ win0_15.index t 2 = t.val % 2 ∧ win0_15.index t 3 = 0)
    ∧ (∀ a, win0_16.index t a = win0_15.index t a) ∧ (∀ a, win0_17.index t a = win0_15.index t a) ∧ (∀ a, win0_18.index t a = win0_15.index t a)
    ∧ (∀ a, win0_19.index t a = win0_15.index t a) ∧ (∀ a, win0_20.index t a = win0_15.index t a) := by decide +kernel

theorem lt_64 (t : Fin cfg0.N) : t.val < 64 := t.isLt

/-- What the host leaves in the arrays the windows read. -/
theorem V_host :
    (V m c main_v116 = shapeCast S65536x1024 (m ((c : Thread nD τ).loc main_arg0)) shapeCasts_S32x2048x1024_S65536x1024
      ∧ V m c main_v117 = shapeCast S1x1024 (m ((c : Thread nD τ).loc main_arg2)) shapeCasts_S1024_S1x1024
      ∧ V m c main_v118 = shapeCast S32x1x2048 (m ((c : Thread nD τ).loc main_arg3)) shapeCasts_S32x2048_S32x1x2048)
    ∧ (V m c main_v103 = shapeCast S8x1 frequencies shapeCasts_S8_S8x1
      ∧ V m c main_v104 = (truncf .bf16 (m ((c : Thread nD τ).loc main_arg4) : FVec Ideal S1024x3080 .f32) bitsLt_bf16_f32 : FVec Ideal S1024x3080 .bf16))
    ∧ V m c main_v89 = selection ∧ V m c main_v44 = staying := by
  refine ⟨⟨?_, ?_, ?_⟩, ⟨?_, ?_⟩, ?_, ?_⟩ <;>
  · show StableHlo.after (List.flatten _) _ _ = _
    simp only [hostOps0, hostOps0_1, hostOps0_2, hostOps0_3, hostOps0_4, hostOps0_5, hostOps0_6, hostOps0_7, hostOps0_8, hostOps0_9, hostOps0_10, hostOps0_11, hostOps0_12,
      hostOps0_13, hostOps0_14, hostOps0_15, hostOps0_16, hostOps0_17, hostOps0_18, hostOps0_19, hostOps0_20, hostOps0_21, hostOps0_22,
      List.flatten_cons, List.flatten_nil, List.append_nil, List.cons_append, List.nil_append]
    after_results
    all_goals rfl

/-- A point's residual rows, its batch row of the conditioning, the gain and the projection's matrix. -/
theorem block0 (t : Fin cfg0.N) (R j : Fin 1024) :
    rowOf (iblk m c 0 t) R j = m ((c : Thread nD τ).loc main_arg0) (ix3 ⟨t.val / 2, by have := lt_64 t; omega⟩ ⟨1024 * (t.val % 2) + R.val, by omega⟩ j) := by
  show V m c main_v116 (((cfg0.win 0).blk t).view.emb (ix2 R j : S1024x1024.Idx)) = _
  rw [(V_host m c).1.1]
  obtain ⟨e0, e1⟩ := (index_rows t).1
  have ht := lt_64 t
  refine (rows_split _ _ (1024 * t.val + R.val) (by omega) j (show win0_0.index t 0 * 1024 + 1 * R.val = _ by omega) (show win0_0.index t 1 * 1024 + 1 * j.val = _ by omega)).trans ?_
  exact congrArg₂ (fun a b => m ((c : Thread nD τ).loc main_arg0) (ix3 a b j)) (Fin.ext (show (1024 * t.val + R.val) / 2048 = t.val / 2 by omega))
    (Fin.ext (show (1024 * t.val + R.val) % 2048 = 1024 * (t.val % 2) + R.val by omega))

theorem block1 (t : Fin cfg0.N) (i : Fin 9) (j : Fin 1024) :
    condOf (iblk m c 1 t) i j = m ((c : Thread nD τ).loc main_arg1) (ix3 ⟨t.val / 2, by have := lt_64 t; omega⟩ i j) := by
  show V m c main_arg1 (((cfg0.win 1).blk t).view.emb (ix3 0 i j : S1x9x1024.Idx)) = _
  rw [V_main_arg1]
  refine congrArg (m ((c : Thread nD τ).loc main_arg1)) ?_
  obtain ⟨e0, e1, e2⟩ := (index_rows t).2.1
  funext a; apply Fin.ext
  match a with
  | 0 => show win0_1.index t 0 * 1 + 1 * 0 = t.val / 2; omega
  | 1 => show win0_1.index t 1 * 9 + 1 * i.val = i.val; omega
  | 2 => show win0_1.index t 2 * 1024 + 1 * j.val = j.val; omega

theorem block2 (t : Fin cfg0.N) (j : Fin 1024) : rowOf (iblk m c 2 t) 0 j = m ((c : Thread nD τ).loc main_arg2) (ix1 j) := by
  show V m c main_v117 (((cfg0.win 2).blk t).view.emb (ix2 0 j : S1x1024.Idx)) = _
  rw [(V_host m c).1.2.1]
  obtain ⟨e0, e1⟩ := (index_whole t).1
  exact gain_split _ _ j (show win0_2.index t 1 * 1024 + 1 * j.val = _ by omega)

theorem block5 (t : Fin cfg0.N) (i : Fin 1024) (j : Fin 3080) : entries (iblk m c 5 t) i j = m ((c : Thread nD τ).loc main_arg4) (ix2 i j) := by
  show V m c main_v104 (((cfg0.win 5).blk t).view.emb (ix2 i j : S1024x3080.Idx)) = _
  rw [(V_host m c).2.1.2]
  show m ((c : Thread nD τ).loc main_arg4) _ = _
  refine congrArg (m ((c : Thread nD τ).loc main_arg4)) ?_
  obtain ⟨e0, e1⟩ := (index_whole t).2.2.1
  funext a; apply Fin.ext
  match a with
  | 0 => show win0_5.index t 0 * 1024 + 1 * i.val = i.val; omega
  | 1 => show win0_5.index t 1 * 3080 + 1 * j.val = j.val; omega

/-- A point's positions and the tables. -/
theorem block3 (t : Fin cfg0.N) (R : Fin 1024) : (iblk m c 3 t : Vec Ideal S1x1x1024 .i32) (ix3 0 0 R)
    = m ((c : Thread nD τ).loc main_arg3) (ix2 ⟨t.val / 2, by have := lt_64 t; omega⟩ ⟨1024 * (t.val % 2) + R.val, by omega⟩) := by
  show V m c main_v118 (((cfg0.win 3).blk t).view.emb (ix3 0 0 R : S1x1x1024.Idx)) = _
  rw [(V_host m c).1.2.2]
  obtain ⟨e0, e1, e2⟩ := (index_rows t).2.2
  have ht := lt_64 t
  refine shapeCast_apply (s := S32x2048) (t := S32x1x2048) (m ((c : Thread nD τ).loc main_arg3)) _ _ _ ?_
  rw [Shape.rowMajor_val_two, Shape.rowMajor_val_three]
  show t.val / 2 * 2048 + (1024 * (t.val % 2) + R.val) = ((win0_3.index t 0 * 1 + 1 * 0) * 1 + (win0_3.index t 1 * 1 + 1 * 0)) * 2048 + (win0_3.index t 2 * 1024 + 1 * R.val)
  omega

theorem block4 (t : Fin cfg0.N) (k : Fin 8) : (iblk m c 4 t : Vec Ideal S8x1 .f32) (ix2 k 0) = frequencies (ix1 k) := by
  show V m c main_v103 (((cfg0.win 4).blk t).view.emb (ix2 k 0 : S8x1.Idx)) = _
  rw [(V_host m c).2.1.1]
  obtain ⟨e0, e1⟩ := (index_whole t).2.1
  refine shapeCast_apply frequencies _ _ _ ?_
  rw [Shape.rowMajor_val_one, Shape.rowMajor_val_two]
  show k.val = (win0_4.index t 0 * 8 + 1 * k.val) * 1 + (win0_4.index t 1 * 1 + 1 * 0)
  omega

theorem block8 (t : Fin cfg0.N) (k : Fin 48) (j : Fin 384) : (iblk m c 8 t : Vec Ideal S48x384 .bf16) (ix2 k j) = ((code k.val j.val : ℝ) : EReal) := by
  show V m c main_v89 (((cfg0.win 8).blk t).view.emb (ix2 k j : S48x384.Idx)) = _
  rw [(V_host m c).2.2.1, ← selection_apply]
  refine congrArg selection ?_
  obtain ⟨e0, e1⟩ := (index_whole t).2.2.2.1
  funext a; apply Fin.ext
  match a with
  | 0 => show win0_8.index t 0 * 48 + 1 * k.val = k.val; omega
  | 1 => show win0_8.index t 1 * 384 + 1 * j.val = j.val; omega

theorem block9 (t : Fin cfg0.N) (j : Fin 384) : (iblk m c 9 t : Vec Ideal S1x384 .f32) (ix2 0 j) = ((still j.val : ℝ) : EReal) := by
  show V m c main_v44 (((cfg0.win 9).blk t).view.emb (ix2 0 j : S1x384.Idx)) = _
  rw [(V_host m c).2.2.2, ← staying_apply]
  refine congrArg staying ?_
  obtain ⟨e0, e1⟩ := (index_whole t).2.2.2.2
  funext a; apply Fin.ext
  match a with
  | 0 => show win0_9.index t 0 * 1 + 1 * 0 = 0; omega
  | 1 => show win0_9.index t 1 * 384 + 1 * j.val = j.val; omega

/-- The launched arguments' columns and angles. -/
def columns (b : Fin 32) (n : Fin 2048) : Fin 3080 → EReal :=
  projected (m ((c : Thread nD τ).loc main_arg0)) (m ((c : Thread nD τ).loc main_arg1)) (m ((c : Thread nD τ).loc main_arg2)) (m ((c : Thread nD τ).loc main_arg4)) b n

theorem token_eq (t : Fin cfg0.N) (R : Fin 1024) :
    token (iblk m c 0 t) (iblk m c 1 t) (iblk m c 2 t) (iblk m c 5 t) R = columns m c ⟨t.val / 2, by have := lt_64 t; omega⟩ ⟨1024 * (t.val % 2) + R.val, by omega⟩ := by
  unfold token columns projected
  congr 1
  · funext k; exact block0 m c t R k
  · funext k; exact block2 m c t k
  · funext k; exact block1 m c t 3 k
  · funext k; exact block1 m c t 4 k
  · funext i j; exact block5 m c t i j

theorem angle_eq (t : Fin cfg0.N) (R : Fin 1024) :
    angle (iblk m c 3 t) (iblk m c 4 t) R = angles (m ((c : Thread nD τ).loc main_arg3)) ⟨t.val / 2, by have := lt_64 t; omega⟩ ⟨1024 * (t.val % 2) + R.val, by omega⟩ := by
  funext k
  unfold angle angles position
  rw [block4, block3]

theorem invf_real (t : Fin cfg0.N) (k : Fin 8) : ∃ a : ℝ, (iblk m c 4 t : Vec Ideal S8x1 .f32) (ix2 k 0) = (a : EReal) := by
  rw [block4]; exact frequency_real k

/-- The six results of the launched arguments. -/
def result0 : FVec Ideal S32x4x2048x128 .f32 := turnedQueries (m ((c : Thread nD τ).loc main_arg0)) (m ((c : Thread nD τ).loc main_arg1)) (m ((c : Thread nD τ).loc main_arg2)) (m ((c : Thread nD τ).loc main_arg3)) (m ((c : Thread nD τ).loc main_arg4))
def result1 : FVec Ideal S32x4x2048x128 .f32 := turnedKeys (m ((c : Thread nD τ).loc main_arg0)) (m ((c : Thread nD τ).loc main_arg1)) (m ((c : Thread nD τ).loc main_arg2)) (m ((c : Thread nD τ).loc main_arg3)) (m ((c : Thread nD τ).loc main_arg4))
def result3 : FVec Ideal S32x4x2048x128 .bf16 := scaledQueries (m ((c : Thread nD τ).loc main_arg0)) (m ((c : Thread nD τ).loc main_arg1)) (m ((c : Thread nD τ).loc main_arg2)) (m ((c : Thread nD τ).loc main_arg4))
def resultAt {φ : FTy} (s : Fin 6) : FVec Ideal S32x4x2048x128 φ := plain (m ((c : Thread nD τ).loc main_arg0)) (m ((c : Thread nD τ).loc main_arg1)) (m ((c : Thread nD τ).loc main_arg2)) (m ((c : Thread nD τ).loc main_arg4)) s

/-- Where a point's stored entry lies in a result. -/
def place (t : Fin cfg0.N) (j : S1x4x1024x128.Idx) : S32x4x2048x128.Idx :=
  ix4 ⟨t.val / 2, by have := lt_64 t; omega⟩ (j 1) ⟨1024 * (t.val % 2) + (j 2).val, by have : (j 2).val < 1024 := (j 2).isLt; omega⟩ (j 3)

theorem emb_results (t : Fin cfg0.N) (j : S1x4x1024x128.Idx) :
    (((cfg0.win 15).blk t).view.emb j = place t j ∧ ((cfg0.win 16).blk t).view.emb j = place t j ∧ ((cfg0.win 17).blk t).view.emb j = place t j)
    ∧ ((cfg0.win 18).blk t).view.emb j = place t j ∧ ((cfg0.win 19).blk t).view.emb j = place t j ∧ ((cfg0.win 20).blk t).view.emb j = place t j := by
  obtain ⟨⟨e0, e1, e2, e3⟩, f16, f17, f18, f19, f20⟩ := index_results t
  have key : ∀ ix : Fin 4 → ℕ, (∀ a, ix a = win0_15.index t a) →
      ix 0 * 1 + 1 * (j 0).val = (place t j 0).val ∧ ix 1 * 4 + 1 * (j 1).val = (place t j 1).val ∧ ix 2 * 1024 + 1 * (j 2).val = (place t j 2).val ∧ ix 3 * 128 + 1 * (j 3).val = (place t j 3).val := by
    intro ix h
    have h0 := h 0; have h1 := h 1; have h2 := h 2; have h3 := h 3
    have hj : (j 0).val < 1 := (j 0).isLt
    refine ⟨?_, ?_, ?_, ?_⟩
    · show _ = t.val / 2; omega
    · show _ = (j 1).val; omega
    · show _ = 1024 * (t.val % 2) + (j 2).val; omega
    · show _ = (j 3).val; omega
  have done : ∀ (ix : Fin 4 → ℕ) (y : S32x4x2048x128.Idx), (∀ a, ix a = win0_15.index t a) →
      ((y 0).val = ix 0 * 1 + 1 * (j 0).val ∧ (y 1).val = ix 1 * 4 + 1 * (j 1).val ∧ (y 2).val = ix 2 * 1024 + 1 * (j 2).val ∧ (y 3).val = ix 3 * 128 + 1 * (j 3).val) → y = place t j := by
    intro ix y h hy
    obtain ⟨k0, k1, k2, k3⟩ := key ix h
    funext a; apply Fin.ext
    match a with
    | 0 => exact hy.1.trans k0
    | 1 => exact hy.2.1.trans k1
    | 2 => exact hy.2.2.1.trans k2
    | 3 => exact hy.2.2.2.trans k3
  exact ⟨⟨done (win0_15.index t) _ (fun _ => rfl) ⟨rfl, rfl, rfl, rfl⟩, done (win0_16.index t) _ f16 ⟨rfl, rfl, rfl, rfl⟩, done (win0_17.index t) _ f17 ⟨rfl, rfl, rfl, rfl⟩⟩,
    done (win0_18.index t) _ f18 ⟨rfl, rfl, rfl, rfl⟩, done (win0_19.index t) _ f19 ⟨rfl, rfl, rfl, rfl⟩, done (win0_20.index t) _ f20 ⟨rfl, rfl, rfl, rfl⟩⟩

/-- A stored entry's row within its half. -/
theorem half_row (j : S1x4x1024x128.Idx) : (j 2).val = 512 * ((j 2).val / 512) + (j 2).val % 512 := by omega

theorem point_qa (t : Fin cfg0.N) (j : S1x4x1024x128.Idx) :
    View.canon (Val := Elt Ideal) (e := .f32) (pieces (qa (iblk m c 0 t) (iblk m c 1 t) (iblk m c 2 t) (iblk m c 3 t) (iblk m c 4 t) (iblk m c 5 t) (iblk m c 8 t) (iblk m c 9 t))) j = result0 m c (place t j) := by
  refine (canon_pieces _ j).trans ((qa_apply (R := j 2) (hR := by exact half_row j) (hI := invf_real m c t) (hE := block8 m c t) (hC := block9 m c t) (p := j 1) (l := j 3) ..).trans ?_)
  exact congrArg₂ (fun (T : Fin 3080 → EReal) (A : Fin 8 → EReal) => turn A (fun l => T (slot 0 (j 1) l)) (j 3) * qscale) (token_eq m c t (j 2)) (angle_eq m c t (j 2))

theorem point_ka (t : Fin cfg0.N) (j : S1x4x1024x128.Idx) :
    View.canon (Val := Elt Ideal) (e := .f32) (pieces (ka (iblk m c 0 t) (iblk m c 1 t) (iblk m c 2 t) (iblk m c 3 t) (iblk m c 4 t) (iblk m c 5 t) (iblk m c 8 t) (iblk m c 9 t))) j = result1 m c (place t j) := by
  refine (canon_pieces _ j).trans ((ka_apply (R := j 2) (hR := by exact half_row j) (hI := invf_real m c t) (hE := block8 m c t) (hC := block9 m c t) (p := j 1) (l := j 3) ..).trans ?_)
  exact congrArg₂ (fun (T : Fin 3080 → EReal) (A : Fin 8 → EReal) => turn A (fun l => T (slot 1 (j 1) l)) (j 3)) (token_eq m c t (j 2)) (angle_eq m c t (j 2))

theorem point_va (t : Fin cfg0.N) (j : S1x4x1024x128.Idx) :
    View.canon (Val := Elt Ideal) (e := .f32) (pieces (va (iblk m c 0 t) (iblk m c 1 t) (iblk m c 2 t) (iblk m c 5 t))) j = (resultAt m c 2 : FVec Ideal S32x4x2048x128 .f32) (place t j) := by
  refine (canon_pieces _ j).trans ((va_apply (R := j 2) (hR := by exact half_row j) (p := j 1) (l := j 3) ..).trans ?_)
  exact congrFun (token_eq m c t (j 2)) (slot 2 (j 1) (j 3))

theorem point_qb (t : Fin cfg0.N) (j : S1x4x1024x128.Idx) :
    View.canon (Val := Elt Ideal) (e := .bf16) (pieces (qb (iblk m c 0 t) (iblk m c 1 t) (iblk m c 2 t) (iblk m c 5 t))) j = result3 m c (place t j) := by
  refine (canon_pieces _ j).trans ((qb_apply (R := j 2) (hR := by exact half_row j) (p := j 1) (l := j 3) ..).trans ?_)
  exact congrArg (· * qscale) (congrFun (token_eq m c t (j 2)) (slot 3 (j 1) (j 3)))

theorem point_kvb (s : Fin 6) (t : Fin cfg0.N) (j : S1x4x1024x128.Idx) :
    View.canon (Val := Elt Ideal) (e := .bf16) (pieces (kvb (iblk m c 0 t) (iblk m c 1 t) (iblk m c 2 t) (iblk m c 5 t) s)) j = (resultAt m c s : FVec Ideal S32x4x2048x128 .bf16) (place t j) := by
  refine (canon_pieces _ j).trans ((kvb_apply (R := j 2) (hR := by exact half_row j) (s := s) (p := j 1) (l := j 3) ..).trans ?_)
  exact congrFun (token_eq m c t (j 2)) (slot s (j 1) (j 3))

/-- The point that stores a result's entry, and where in its block. -/
def pointOf (i : S32x4x2048x128.Idx) : Fin cfg0.N :=
  ⟨2 * (i 0).val + (i 2).val / 1024, by
    have h0 : (i 0).val < 32 := (i 0).isLt
    have h2 : (i 2).val < 2048 := (i 2).isLt
    show 2 * (i 0).val + (i 2).val / 1024 < 64
    omega⟩
def within (i : S32x4x2048x128.Idx) : S1x4x1024x128.Idx := ix4 0 (i 1) ⟨(i 2).val % 1024, by omega⟩ (i 3)

theorem place_within (i : S32x4x2048x128.Idx) : place (pointOf i) (within i) = i := by
  have h0 : (i 0).val < 32 := (i 0).isLt
  have h2 : (i 2).val < 2048 := (i 2).isLt
  funext a; apply Fin.ext
  match a with
  | 0 => show (2 * (i 0).val + (i 2).val / 1024) / 2 = (i 0).val; omega
  | 1 => rfl
  | 2 => show 1024 * ((2 * (i 0).val + (i 2).val / 1024) % 2) + (i 2).val % 1024 = (i 2).val; omega
  | 3 => rfl

/-- Every entry of a result lies in its point's block. -/
theorem covers (i : S32x4x2048x128.Idx) :
    (i ∈ ((cfg0.win 15).blk (pointOf i)).view.set ∧ i ∈ ((cfg0.win 16).blk (pointOf i)).view.set ∧ i ∈ ((cfg0.win 17).blk (pointOf i)).view.set)
    ∧ i ∈ ((cfg0.win 18).blk (pointOf i)).view.set ∧ i ∈ ((cfg0.win 19).blk (pointOf i)).view.set ∧ i ∈ ((cfg0.win 20).blk (pointOf i)).view.set := by
  obtain ⟨⟨e15, e16, e17⟩, e18, e19, e20⟩ := emb_results (pointOf i) (within i)
  have h := place_within i
  exact ⟨⟨(congrArg (· ∈ _) (e15.trans h)).mp (View.emb_mem_set _ (within i)), (congrArg (· ∈ _) (e16.trans h)).mp (View.emb_mem_set _ (within i)),
      (congrArg (· ∈ _) (e17.trans h)).mp (View.emb_mem_set _ (within i))⟩, (congrArg (· ∈ _) (e18.trans h)).mp (View.emb_mem_set _ (within i)),
    (congrArg (· ∈ _) (e19.trans h)).mp (View.emb_mem_set _ (within i)), (congrArg (· ∈ _) (e20.trans h)).mp (View.emb_mem_set _ (within i))⟩

theorem final_qa : (dats m 0 c).arrAt 15 cfg0.N = result0 m c :=
  (dats m 0 c).arrAt_eq_of_cover 15 (result0 m c)
    (fun t _ => (block_qa m c t).trans (funext fun j => (point_qa m c t j).trans (congrArg (result0 m c) (emb_results t j).1.1.symm))) (fun i => ⟨pointOf i, flush0_15 _, (covers i).1.1⟩)

theorem final_ka : (dats m 0 c).arrAt 16 cfg0.N = result1 m c :=
  (dats m 0 c).arrAt_eq_of_cover 16 (result1 m c)
    (fun t _ => (block_ka m c t).trans (funext fun j => (point_ka m c t j).trans (congrArg (result1 m c) (emb_results t j).1.2.1.symm))) (fun i => ⟨pointOf i, flush0_16 _, (covers i).1.2.1⟩)

theorem final_va : (dats m 0 c).arrAt 17 cfg0.N = (resultAt m c 2 : FVec Ideal S32x4x2048x128 .f32) :=
  (dats m 0 c).arrAt_eq_of_cover 17 (resultAt m c 2 : FVec Ideal S32x4x2048x128 .f32)
    (fun t _ => (block_va m c t).trans (funext fun j => (point_va m c t j).trans (congrArg (resultAt m c 2 : FVec Ideal S32x4x2048x128 .f32) (emb_results t j).1.2.2.symm)))
    (fun i => ⟨pointOf i, flush0_17 _, (covers i).1.2.2⟩)

theorem final_qb : (dats m 0 c).arrAt 18 cfg0.N = result3 m c :=
  (dats m 0 c).arrAt_eq_of_cover 18 (result3 m c)
    (fun t _ => (block_qb m c t).trans (funext fun j => (point_qb m c t j).trans (congrArg (result3 m c) (emb_results t j).2.1.symm))) (fun i => ⟨pointOf i, flush0_18 _, (covers i).2.1⟩)

theorem final_kb : (dats m 0 c).arrAt 19 cfg0.N = (resultAt m c 4 : FVec Ideal S32x4x2048x128 .bf16) :=
  (dats m 0 c).arrAt_eq_of_cover 19 (resultAt m c 4 : FVec Ideal S32x4x2048x128 .bf16)
    (fun t _ => (block_kvb4 m c t).trans (funext fun j => (point_kvb m c 4 t j).trans (congrArg (resultAt m c 4 : FVec Ideal S32x4x2048x128 .bf16) (emb_results t j).2.2.1.symm)))
    (fun i => ⟨pointOf i, flush0_19 _, (covers i).2.2.1⟩)

theorem final_vb : (dats m 0 c).arrAt 20 cfg0.N = (resultAt m c 5 : FVec Ideal S32x4x2048x128 .bf16) :=
  (dats m 0 c).arrAt_eq_of_cover 20 (resultAt m c 5 : FVec Ideal S32x4x2048x128 .bf16)
    (fun t _ => (block_kvb5 m c t).trans (funext fun j => (point_kvb m c 5 t j).trans (congrArg (resultAt m c 5 : FVec Ideal S32x4x2048x128 .bf16) (emb_results t j).2.2.2.symm)))
    (fun i => ⟨pointOf i, flush0_20 _, (covers i).2.2.2⟩)

end Cert.PrjIdeal.Val

end
-- ==== Proof.PrjHeads.lean ====
/- The reference's heads and their rotation, read at an index: 512 columns cut into eight heads, the first sixteen entries of a head turned,
   two heads laid side by side. -/
module

public import proofs.«01_k».proof.Proof.PrjSpec
public import proofs.«01_k».proof.Proof.Gen.PrjRefIdeal.Read

@[expose] public section

set_option maxRecDepth 16384

noncomputable section

namespace Cert.PrjRefIdeal.Val

open Cert.PrjRefIdeal Cert.PrjRefIdeal.Gen Idealize.ShloMosaic Idealize.ShloMosaic.TcCoe Idealize.SL.Sem
open Cert.PrjIdeal.Val (turn qscale slot)

/-- Columns cut into heads, and heads laid side by side in pairs. -/
def heads (V : FVec Ideal S32x2048x512 .f32) : FVec Ideal S32x8x2048x64 .f32 :=
  transpose S32x8x2048x64 [0, 2, 1, 3] (shapeCast S32x2048x8x64 V shapeCasts_S32x2048x512_S32x2048x8x64 : FVec Ideal S32x2048x8x64 .f32) transposes_S32x2048x8x64_S32x8x2048x64_0_2_1_3
def pairs (T : FVec Ideal S32x8x2048x64 .f32) : FVec Ideal S32x4x2048x128 .f32 :=
  shapeCast S32x4x2048x128 (transpose S32x4x2048x2x64 [0, 1, 3, 2, 4] (shapeCast S32x4x2x2048x64 T shapeCasts_S32x8x2048x64_S32x4x2x2048x64 : FVec Ideal S32x4x2x2048x64 .f32)
    transposes_S32x4x2x2048x64_S32x4x2048x2x64_0_1_3_2_4 : FVec Ideal S32x4x2048x2x64 .f32) shapeCasts_S32x4x2048x2x64_S32x4x2048x128

variable (b : Fin 32) (n : Fin 2048)

theorem heads_apply (V : FVec Ideal S32x2048x512 .f32) (h : Fin 8) (d : Fin 64) : heads V (ix4 b h n d) = V (ix3 b n ⟨64 * h.val + d.val, by omega⟩) := by
  unfold heads
  refine (transpose_apply [0, 2, 1, 3] _ transposes_S32x2048x8x64_S32x8x2048x64_0_2_1_3 (ix4 b h n d) (ix4 b n h d) (fun a => match a with | 0 => rfl | 1 => rfl | 2 => rfl | 3 => rfl)).trans ?_
  refine shapeCast_apply (s := S32x2048x512) (t := S32x2048x8x64) V _ _ _ ?_
  rw [Shape.rowMajor_val_three, Shape.rowMajor_val_four]
  show (b.val * 2048 + n.val) * 512 + (64 * h.val + d.val) = ((b.val * 2048 + n.val) * 8 + h.val) * 64 + d.val
  omega

theorem pairs_apply (T : FVec Ideal S32x8x2048x64 .f32) (p : Fin 4) (l : Fin 128) :
    pairs T (ix4 b p n l) = T (ix4 b ⟨2 * p.val + l.val / 64, by omega⟩ n ⟨l.val % 64, by omega⟩) := by
  unfold pairs
  refine (shapeCast_apply (s := S32x4x2048x2x64) (t := S32x4x2048x128) _ _ _ (ix5 b p n (⟨l.val / 64, by omega⟩ : Fin 2) (⟨l.val % 64, by omega⟩ : Fin 64)) ?_).trans ?_
  · rw [Shape.rowMajor_val_five, Shape.rowMajor_val_four]
    show (((b.val * 4 + p.val) * 2048 + n.val) * 2 + l.val / 64) * 64 + l.val % 64 = ((b.val * 4 + p.val) * 2048 + n.val) * 128 + l.val
    omega
  refine (transpose_apply [0, 1, 3, 2, 4] _ transposes_S32x4x2x2048x64_S32x4x2048x2x64_0_1_3_2_4 _ (ix5 b p (⟨l.val / 64, by omega⟩ : Fin 2) n (⟨l.val % 64, by omega⟩ : Fin 64))
    (fun a => match a with | 0 => rfl | 1 => rfl | 2 => rfl | 3 => rfl | 4 => rfl)).trans ?_
  refine shapeCast_apply (s := S32x8x2048x64) (t := S32x4x2x2048x64) T _ _ _ ?_
  rw [Shape.rowMajor_val_four, Shape.rowMajor_val_five]
  show ((b.val * 8 + (2 * p.val + l.val / 64)) * 2048 + n.val) * 64 + l.val % 64 = (((b.val * 4 + p.val) * 2 + l.val / 64) * 2048 + n.val) * 64 + l.val % 64
  omega

/-- The rotation of the first sixteen entries of every head. -/
def first (T : FVec Ideal S32x8x2048x64 .f32) : FVec Ideal S32x8x2048x8 .f32 := extractStridedSlice S32x8x2048x8 ![0, 0, 0, 0] T slices_S32x8x2048x64_S32x8x2048x8_0_0_0_0
def second (T : FVec Ideal S32x8x2048x64 .f32) : FVec Ideal S32x8x2048x8 .f32 := extractStridedSlice S32x8x2048x8 ![0, 0, 0, 8] T slices_S32x8x2048x64_S32x8x2048x8_0_0_0_8
def others (T : FVec Ideal S32x8x2048x64 .f32) : FVec Ideal S32x8x2048x48 .f32 := extractStridedSlice S32x8x2048x48 ![0, 0, 0, 16] T slices_S32x8x2048x64_S32x8x2048x48_0_0_0_16
def spread (C : FVec Ideal S32x1x2048x8 .f32) : FVec Ideal S32x8x2048x8 .f32 := broadcastInDim S32x8x2048x8 ![0, 1, 2, 3] bcast_S32x1x2048x8_S32x8x2048x8_0_1_2_3 C
def roped (T : FVec Ideal S32x8x2048x64 .f32) (C S : FVec Ideal S32x1x2048x8 .f32) : FVec Ideal S32x8x2048x64 .f32 :=
  concatenate S32x8x2048x64 3 [⟨S32x8x2048x8, subf (mulf (first T) (spread C)) (mulf (second T) (spread S))⟩, ⟨S32x8x2048x8, addf (mulf (second T) (spread C)) (mulf (first T) (spread S))⟩,
    ⟨S32x8x2048x48, others T⟩] concatenates_S32x8x2048x8_S32x8x2048x8_S32x8x2048x48_S32x8x2048x64_d3

variable (T : FVec Ideal S32x8x2048x64 .f32) (C S : FVec Ideal S32x1x2048x8 .f32) (h : Fin 8)

theorem first_apply (k : Fin 8) : first T (ix4 b h n k) = T (ix4 b h n ⟨k.val, by omega⟩) :=
  extractStridedSlice_apply _ T _ (ix4 b h n k) (ix4 b h n ⟨k.val, by omega⟩) (fun a => match a with | 0 => (Nat.zero_add _).symm | 1 => (Nat.zero_add _).symm | 2 => (Nat.zero_add _).symm | 3 => (Nat.zero_add _).symm)
theorem second_apply (k : Fin 8) : second T (ix4 b h n k) = T (ix4 b h n ⟨8 + k.val, by omega⟩) :=
  extractStridedSlice_apply _ T _ (ix4 b h n k) (ix4 b h n ⟨8 + k.val, by omega⟩) (fun a => match a with | 0 => (Nat.zero_add _).symm | 1 => (Nat.zero_add _).symm | 2 => (Nat.zero_add _).symm | 3 => rfl)
theorem others_apply (k : Fin 48) : others T (ix4 b h n k) = T (ix4 b h n ⟨16 + k.val, by omega⟩) :=
  extractStridedSlice_apply _ T _ (ix4 b h n k) (ix4 b h n ⟨16 + k.val, by omega⟩) (fun a => match a with | 0 => (Nat.zero_add _).symm | 1 => (Nat.zero_add _).symm | 2 => (Nat.zero_add _).symm | 3 => rfl)
theorem spread_apply (k : Fin 8) : spread C (ix4 b h n k) = C (ix4 b 0 n k) := by
  unfold spread
  pointwise []

theorem roped_first (k : Fin 8) : roped T C S (ix4 b h n ⟨k.val, by omega⟩)
    = T (ix4 b h n ⟨k.val, by omega⟩) * C (ix4 b 0 n k) - T (ix4 b h n ⟨8 + k.val, by omega⟩) * S (ix4 b 0 n k) := by
  unfold roped
  refine (concatenate_apply_piece (t := S32x8x2048x64) 3 _ _ (ix4 b h n ⟨k.val, by omega⟩) 0 (by show 0 < 3; decide) S32x8x2048x8 _ rfl rfl 0 rfl (ix4 b h n k)
    (fun a ha => match a with | 0 => rfl | 1 => rfl | 2 => rfl | 3 => absurd rfl ha) (show 0 + k.val = k.val by omega)).trans ?_
  rw [← first_apply b n T h k, ← second_apply b n T h k, ← spread_apply b n C h, ← spread_apply b n S h]; rfl

theorem roped_second (k : Fin 8) : roped T C S (ix4 b h n ⟨8 + k.val, by omega⟩)
    = T (ix4 b h n ⟨8 + k.val, by omega⟩) * C (ix4 b 0 n k) + T (ix4 b h n ⟨k.val, by omega⟩) * S (ix4 b 0 n k) := by
  unfold roped
  refine (concatenate_apply_piece (t := S32x8x2048x64) 3 _ _ (ix4 b h n ⟨8 + k.val, by omega⟩) 1 (by show 1 < 3; decide) S32x8x2048x8 _ rfl rfl 8 rfl (ix4 b h n k)
    (fun a ha => match a with | 0 => rfl | 1 => rfl | 2 => rfl | 3 => absurd rfl ha) rfl).trans ?_
  rw [← first_apply b n T h k, ← second_apply b n T h k, ← spread_apply b n C h, ← spread_apply b n S h]; rfl

theorem roped_others (k : Fin 48) : roped T C S (ix4 b h n ⟨16 + k.val, by omega⟩) = T (ix4 b h n ⟨16 + k.val, by omega⟩) := by
  unfold roped
  exact (concatenate_apply_piece (t := S32x8x2048x64) 3 _ _ (ix4 b h n ⟨16 + k.val, by omega⟩) 2 (by show 2 < 3; decide) S32x8x2048x48 _ rfl rfl 16 rfl (ix4 b h n k)
    (fun a ha => match a with | 0 => rfl | 1 => rfl | 2 => rfl | 3 => absurd rfl ha) rfl).trans (others_apply b n T h k)

/-- A pair of turned heads. -/
theorem pairs_roped (V : FVec Ideal S32x2048x512 .f32) (A : Fin 8 → EReal) (hC : ∀ k, C (ix4 b 0 n k) = Ideal.cos (A k)) (hS : ∀ k, S (ix4 b 0 n k) = Ideal.sin (A k)) (p : Fin 4) (l : Fin 128) :
    pairs (roped (heads V) C S) (ix4 b p n l) = turn A (fun l => V (ix3 b n ⟨128 * p.val + l.val, by omega⟩)) l := by
  have hl := l.isLt; have hp := p.isLt
  have at_head : ∀ (q : Fin 8) (d : Fin 64) (l' : Fin 128), 64 * q.val + d.val = 128 * p.val + l'.val → heads V (ix4 b q n d) = V (ix3 b n ⟨128 * p.val + l'.val, by omega⟩) := fun q d l' e => by
    rw [heads_apply]; exact congrArg (fun k => V (ix3 b n k)) (Fin.ext e)
  rw [pairs_apply]
  unfold turn
  by_cases h : l.val % 64 < 8
  · rw [dif_pos h, ← hC, ← hS]
    refine (roped_first b n (heads V) C S ⟨2 * p.val + l.val / 64, by omega⟩ ⟨l.val % 64, h⟩).trans ?_
    rw [at_head _ _ l (show 64 * (2 * p.val + l.val / 64) + l.val % 64 = 128 * p.val + l.val by omega),
      at_head _ _ ⟨l.val + 8, by omega⟩ (show 64 * (2 * p.val + l.val / 64) + (8 + l.val % 64) = 128 * p.val + (l.val + 8) by omega)]
  by_cases h' : l.val % 64 < 16
  · rw [dif_neg h, dif_pos h', ← hC, ← hS]
    have e : (⟨l.val % 64, by omega⟩ : Fin 64) = ⟨8 + (l.val % 64 - 8), by omega⟩ := Fin.ext (show l.val % 64 = 8 + (l.val % 64 - 8) by omega)
    rw [e]
    refine (roped_second b n (heads V) C S ⟨2 * p.val + l.val / 64, by omega⟩ ⟨l.val % 64 - 8, by omega⟩).trans ?_
    rw [at_head _ _ l (show 64 * (2 * p.val + l.val / 64) + (8 + (l.val % 64 - 8)) = 128 * p.val + l.val by omega),
      at_head _ _ ⟨l.val - 8, by omega⟩ (show 64 * (2 * p.val + l.val / 64) + (l.val % 64 - 8) = 128 * p.val + (l.val - 8) by omega)]
  · rw [dif_neg h, dif_neg h']
    have e : (⟨l.val % 64, by omega⟩ : Fin 64) = ⟨16 + (l.val % 64 - 16), by omega⟩ := Fin.ext (show l.val % 64 = 16 + (l.val % 64 - 16) by omega)
    rw [e]
    refine (roped_others b n (heads V) C S ⟨2 * p.val + l.val / 64, by omega⟩ ⟨l.val % 64 - 16, by omega⟩).trans ?_
    exact at_head _ _ l (show 64 * (2 * p.val + l.val / 64) + (16 + (l.val % 64 - 16)) = 128 * p.val + l.val by omega)

theorem pairs_heads (V : FVec Ideal S32x2048x512 .f32) (p : Fin 4) (l : Fin 128) : pairs (heads V) (ix4 b p n l) = V (ix3 b n ⟨128 * p.val + l.val, by omega⟩) := by
  rw [pairs_apply, heads_apply]
  exact congrArg (fun k => V (ix3 b n k)) (Fin.ext (show 64 * (2 * p.val + l.val / 64) + l.val % 64 = 128 * p.val + l.val by omega))

/-- The scaling of the queries' scores to bits. -/
def inBits (T : FVec Ideal S32x8x2048x64 .f32) : FVec Ideal S32x8x2048x64 .f32 :=
  Host.divf (mulf T (broadcastInDim S32x8x2048x64 ![] bcast_S_S32x8x2048x64 (constant S_ .f32 0x3E000000#32 : FVec Ideal S_ .f32)))
    (broadcastInDim S32x8x2048x64 ![] bcast_S_S32x8x2048x64 (Host.log (constant S_ .f32 0x40000000#32 : FVec Ideal S_ .f32)))

theorem eighth_word : Ideal.ofBits .f32 0x3E000000#32 = ((1 / 8 : ℝ) : EReal) := by
  simp [Ideal.ofBits, Ideal.ieee, -EReal.coe_mul]; norm_num

theorem inBits_apply (i : S32x8x2048x64.Idx) : inBits T i = T i * qscale := by
  show Ideal.div (T i * Ideal.ofBits .f32 0x3E000000#32) (Ideal.log (Ideal.ofBits .f32 0x40000000#32)) = _
  have hl : Real.log 2 ≠ 0 := (Real.log_pos (by norm_num)).ne'
  rw [eighth_word, Cert.PrjIdeal.Val.two_word, Ideal.log_coe, if_neg (by norm_num), Ideal.div_coe hl, mul_assoc, ← EReal.coe_mul]
  unfold qscale
  rw [one_div (Real.log 2)]

theorem pairs_inBits (p : Fin 4) (l : Fin 128) : pairs (inBits T) (ix4 b p n l) = pairs T (ix4 b p n l) * qscale := by
  rw [pairs_apply, pairs_apply, inBits_apply]

end Cert.PrjRefIdeal.Val

end
-- ==== Proof.PrjReference.lean ====
/- The reference's six results: the same columns of the same tokens, turned by the same angles. -/
module

public import proofs.«01_k».proof.Proof.PrjHeads
public import proofs.«01_k».proof.Proof.FfaReference

@[expose] public section

set_option maxRecDepth 16384

noncomputable section

namespace Cert.PrjRefIdeal.Val

open Cert.PrjRefIdeal Cert.PrjRefIdeal.Gen Cert.PrjRefIdeal.Read Idealize.ShloMosaic Idealize.ShloMosaic.TcCoe Idealize.SL.Sem
open Cert.Ffn (normed)
open Cert.PrjIdeal.Val (turn qscale slot column projected angles frequencies turnedQueries turnedKeys scaledQueries plain)

variable (x0 : FVec Ideal S32x2048x1024 .f32) (x1 : FVec Ideal S32x9x1024 .f32) (x2 : FVec Ideal S1024 .f32) (x3 : IVec S32x2048 32) (x4 : FVec Ideal S1024x3080 .f32)
variable (b : Fin 32) (r : Fin 2048) (j : Fin 1024)

theorem v9_at : val_main_v9 (F := Ideal) x0 (ix3 b r j) = normed 0x44800000#32 (fun j => x0 (ix3 b r j)) j := Cert.FfaRefIdeal.Val.v9_at x0 b r j

theorem v11_at : val_main_v11 (F := Ideal) x2 (ix3 b r j) = x2 (ix1 j) := Cert.FfaRefIdeal.Val.v11_at x2 b r j

/-- The scale's and the shift's row of the conditioning. -/
theorem v15_at : val_main_v15 (F := Ideal) x1 (ix3 b 0 j) = x1 (ix3 b 4 j) := by
  rw [val_main_v15_apply, val_main_v14_apply, val_main_v13_apply]
  refine congrArg x1 ?_
  funext a; apply Fin.ext
  match a with
  | 0 => show (b.val * 1024 + j.val) / 1024 = b.val; omega
  | 1 => rfl
  | 2 => show (b.val * 1024 + j.val) % 1024 = j.val; omega

theorem v22_at : val_main_v22 (F := Ideal) x1 (ix3 b 0 j) = x1 (ix3 b 3 j) := by
  rw [val_main_v22_apply, val_main_v21_apply, val_main_v20_apply]
  refine congrArg x1 ?_
  funext a; apply Fin.ext
  match a with
  | 0 => show (b.val * 1024 + j.val) / 1024 = b.val; omega
  | 1 => rfl
  | 2 => show (b.val * 1024 + j.val) % 1024 = j.val; omega

theorem v24_at : val_main_v24 (F := Ideal) x0 x1 x2 (ix3 b r j)
    = normed 0x44800000#32 (fun j => x0 (ix3 b r j)) j * x2 (ix1 j) * (Ideal.ofBits .f32 0x3F800000#32 + x1 (ix3 b 4 j)) + x1 (ix3 b 3 j) := by
  have e18 : idx_main_v18 (ix3 b r j) = ix3 b 0 j := by funext a; match a with | 0 => rfl | 1 => rfl | 2 => rfl
  have e23 : idx_main_v23 (ix3 b r j) = ix3 b 0 j := by funext a; match a with | 0 => rfl | 1 => rfl | 2 => rfl
  rw [val_main_v24_apply, val_main_v19_apply, val_main_v12_apply, v9_at, v11_at, val_main_v18_apply, e18, val_main_v17_apply, v15_at, val_main_v16_apply, val_main_cst_2_apply,
    val_main_v23_apply, e23, v22_at]
  rfl

theorem v25_at (k : Fin 3080) : val_main_v25 (F := Ideal) x0 x1 x2 x4 (ix3 b r k) = projected x0 x1 x2 x4 b r k := by
  rw [val_main_v25_apply]
  unfold projected column
  refine Finset.sum_congr rfl fun i _ => congrArg₂ (α := EReal) (β := EReal) (· * ·) (Eq.trans (congrArg _ ?_) ((v24_at x0 x1 x2 b r i).trans ?_)) (congrArg x4 ?_)
  · funext a; match a with | 0 => rfl | 1 => rfl | 2 => rfl
  · unfold Cert.Ffn.hidden
    rw [mul_assoc]
  · funext a; match a with | 0 => rfl | 1 => rfl

/-- The columns' six pieces of 512. -/
theorem cut_at (s : Fin 6) (V : FVec Ideal S32x2048x512 .f32) (off : Fin 3 → ℕ) (hs : S32x2048x3080.Slices off S32x2048x512)
    (hV : V = extractStridedSlice S32x2048x512 off (val_main_v25 (F := Ideal) x0 x1 x2 x4) hs) (h0 : off 0 = 0) (h1 : off 1 = 0) (h2 : off 2 = 512 * s.val) (p : Fin 4) (l : Fin 128) :
    V (ix3 b r ⟨128 * p.val + l.val, by omega⟩) = projected x0 x1 x2 x4 b r (slot s p l) := by
  rw [hV, ← v25_at]
  refine extractStridedSlice_apply off _ hs _ (ix3 b r (slot s p l)) (fun a => ?_)
  match a with
  | 0 => show b.val = off 0 + b.val; omega
  | 1 => show r.val = off 1 + r.val; omega
  | 2 => show 512 * s.val + 128 * p.val + l.val = off 2 + (128 * p.val + l.val); omega

theorem angle_at (k : Fin 8) : val_main_v50 (F := Ideal) x3 (ix4 b 0 r k) = angles x3 b r k := by
  rw [val_main_v50_apply, val_main_v48_apply, val_main_v46_apply, val_main_v45_apply, val_main_v49_apply, val_main_v47_apply]
  unfold angles
  refine (mul_comm _ _).trans (congrArg₂ (α := EReal) (β := EReal) (· * ·) (congrArg frequencies ?_) (congrArg (fun i => (((x3 i : BitVec 32).toInt : ℝ) : EReal)) ?_))
  · funext a; match a with | 0 => rfl
  · funext a; match a with | 0 => rfl | 1 => rfl

theorem queries_turned : val_main_v74 (F := Ideal) x0 x1 x2 x3 x4 = turnedQueries x0 x1 x2 x3 x4 := by
  funext i
  obtain ⟨b, p, n, l, rfl⟩ : ∃ (b : Fin 32) (p : Fin 4) (n : Fin 2048) (l : Fin 128), i = ix4 b p n l :=
    ⟨i 0, i 1, i 2, i 3, by funext a; match a with | 0 => rfl | 1 => rfl | 2 => rfl | 3 => rfl⟩
  refine (pairs_inBits b n _ p l).trans (congrArg (· * qscale) ?_)
  refine (pairs_roped b n (val_main_v51 (F := Ideal) x3) (val_main_v52 (F := Ideal) x3) (val_main_v26 (F := Ideal) x0 x1 x2 x4) (angles x3 b n)
    (fun k => congrArg Ideal.cos (angle_at x3 b n k)) (fun k => congrArg Ideal.sin (angle_at x3 b n k)) p l).trans ?_
  exact congrArg (fun u => turn (angles x3 b n) u l) (funext fun l => cut_at x0 x1 x2 x4 b n 0 _ _ _ rfl rfl rfl rfl p l)

theorem keys_turned : val_main_v111 (F := Ideal) x0 x1 x2 x3 x4 = turnedKeys x0 x1 x2 x3 x4 := by
  funext i
  obtain ⟨b, p, n, l, rfl⟩ : ∃ (b : Fin 32) (p : Fin 4) (n : Fin 2048) (l : Fin 128), i = ix4 b p n l :=
    ⟨i 0, i 1, i 2, i 3, by funext a; match a with | 0 => rfl | 1 => rfl | 2 => rfl | 3 => rfl⟩
  refine (pairs_roped b n (val_main_v51 (F := Ideal) x3) (val_main_v52 (F := Ideal) x3) (val_main_v27 (F := Ideal) x0 x1 x2 x4) (angles x3 b n)
    (fun k => congrArg Ideal.cos (angle_at x3 b n k)) (fun k => congrArg Ideal.sin (angle_at x3 b n k)) p l).trans ?_
  exact congrArg (fun u => turn (angles x3 b n) u l) (funext fun l => cut_at x0 x1 x2 x4 b n 1 _ _ _ rfl rfl rfl rfl p l)

theorem queries_scaled : val_main_v127 (F := Ideal) x0 x1 x2 x4 = scaledQueries x0 x1 x2 x4 := by
  funext i
  obtain ⟨b, p, n, l, rfl⟩ : ∃ (b : Fin 32) (p : Fin 4) (n : Fin 2048) (l : Fin 128), i = ix4 b p n l :=
    ⟨i 0, i 1, i 2, i 3, by funext a; match a with | 0 => rfl | 1 => rfl | 2 => rfl | 3 => rfl⟩
  exact (pairs_inBits b n _ p l).trans (congrArg (· * qscale) ((pairs_heads b n _ p l).trans (cut_at x0 x1 x2 x4 b n 3 _ _ _ rfl rfl rfl rfl p l)))

/-- Heads taken as they are, in pairs. -/
theorem taken {φ : FTy} (s : Fin 6) (V : FVec Ideal S32x2048x512 .f32) (off : Fin 3 → ℕ) (hs : S32x2048x3080.Slices off S32x2048x512)
    (hV : V = extractStridedSlice S32x2048x512 off (val_main_v25 (F := Ideal) x0 x1 x2 x4) hs) (h0 : off 0 = 0) (h1 : off 1 = 0) (h2 : off 2 = 512 * s.val) :
    (pairs (heads V) : S32x4x2048x128.Idx → EReal) = (plain x0 x1 x2 x4 s : FVec Ideal S32x4x2048x128 φ) := by
  funext i
  obtain ⟨b, p, n, l, rfl⟩ : ∃ (b : Fin 32) (p : Fin 4) (n : Fin 2048) (l : Fin 128), i = ix4 b p n l :=
    ⟨i 0, i 1, i 2, i 3, by funext a; match a with | 0 => rfl | 1 => rfl | 2 => rfl | 3 => rfl⟩
  exact (pairs_heads b n V p l).trans (cut_at x0 x1 x2 x4 b n s V off hs hV h0 h1 h2 p l)

theorem values_taken : val_main_v116 (F := Ideal) x0 x1 x2 x4 = plain (φ := .f32) x0 x1 x2 x4 2 :=
  taken x0 x1 x2 x4 (φ := .f32) 2 (val_main_v28 (F := Ideal) x0 x1 x2 x4) _ _ rfl rfl rfl rfl

theorem keys_taken : val_main_v133 (F := Ideal) x0 x1 x2 x4 = plain (φ := .bf16) x0 x1 x2 x4 4 :=
  taken x0 x1 x2 x4 (φ := .bf16) 4 (val_main_v30 (F := Ideal) x0 x1 x2 x4) _ _ rfl rfl rfl rfl

theorem other_values_taken : val_main_v139 (F := Ideal) x0 x1 x2 x4 = plain (φ := .bf16) x0 x1 x2 x4 5 :=
  taken x0 x1 x2 x4 (φ := .bf16) 5 (val_main_v31 (F := Ideal) x0 x1 x2 x4) _ _ rfl rfl rfl rfl

end Cert.PrjRefIdeal.Val

end
-- ==== Proof.PrjClaim.lean ====
/- The input projection's value claim: both programs leave the same six arrays. -/
module

public import proofs.«01_k».proof.Defs
public import proofs.«01_k».proof.Proof.PrjArray
public import proofs.«01_k».proof.Proof.PrjReference
public import proofs.«01_k».proof.Proof.Gen.PrjIdeal.Frame
public import proofs.«01_k».proof.Proof.Gen.PrjRefIdeal.Run

@[expose] public section

noncomputable section

namespace Cert.Proof.Prj

open Idealize.ShloMosaic Idealize.ShloMosaic.TcCoe Idealize.SL.Sem
open Cert.PrjIdeal.Val Cert.PrjRefIdeal.Val Cert.PrjRefIdeal.Read

theorem algebraic : algebraic_PrjIdeal_PrjRefIdeal (hPrjIdeal := Cert.PrjIdeal.Gen.facts) (hPrjRefIdeal := Cert.PrjRefIdeal.Gen.facts) := fun m ρ m' ρ' _ hag =>
  ⟨fun c => result0 m c, fun c => result1 m c, fun c => resultAt (φ := .f32) m c 2, fun c => result3 m c, fun c => resultAt (φ := .bf16) m c 4, fun c => resultAt (φ := .bf16) m c 5,
    (θ_run _ _ _).mono (fun _ h c => by
      obtain ⟨h0, h1, h2, h3, h4, h5, _, _, ha⟩ := h c
      exact ⟨h0.trans (final_qa m c), h1.trans (final_ka m c), h2.trans (final_va m c), h3.trans (final_qb m c), h4.trans (final_kb m c), h5.trans (final_vb m c), ha⟩)
      (Cert.PrjIdeal.Value.run_blocks m ρ),
    (θ_run _ _ _).mono (fun _ h c => by
      obtain ⟨h0, h1, h2, h3, h4, h5, ha⟩ := h c
      obtain ⟨e0, e1, e2, e3, e4, _⟩ := hag c
      refine ⟨h0.trans ((val_main_v74_eq _ _).trans ((queries_turned _ _ _ _ _).trans ?_)), h1.trans ((val_main_v111_eq _ _).trans ((keys_turned _ _ _ _ _).trans ?_)),
        h2.trans ((val_main_v116_eq _ _ _ _).trans ((values_taken _ _ _ _).trans ?_)), h3.trans ((val_main_v127_eq _ _ _ _).trans ((queries_scaled _ _ _ _).trans ?_)),
        h4.trans ((val_main_v133_eq _ _ _ _).trans ((keys_taken _ _ _ _).trans ?_)), h5.trans ((val_main_v139_eq _ _ _ _).trans ((other_values_taken _ _ _ _).trans ?_)), ha⟩
      · show _ = result0 m c
        unfold result0; rw [← e0, ← e1, ← e2, ← e3, ← e4]
      · show _ = result1 m c
        unfold result1; rw [← e0, ← e1, ← e2, ← e3, ← e4]
      · show _ = resultAt (φ := .f32) m c 2
        unfold resultAt; rw [← e0, ← e1, ← e2, ← e4]
      · show _ = result3 m c
        unfold result3; rw [← e0, ← e1, ← e2, ← e4]
      · show _ = resultAt (φ := .bf16) m c 4
        unfold resultAt; rw [← e0, ← e1, ← e2, ← e4]
      · show _ = resultAt (φ := .bf16) m c 5
        unfold resultAt; rw [← e0, ← e1, ← e2, ← e4]) (Cert.PrjRefIdeal.Value.run m' ρ')⟩

end Cert.Proof.Prj

end
-- ==== Proof.AdaArray.lean ====
/- The conditioning call's result array: each grid point writes 1024 columns of every sequence, and the blocks tile the array. -/
module

public import proofs.«01_k».proof.Proof.Gen.AdaIdeal.Value
public import proofs.«01_k».proof.Proof.FfnRows

@[expose] public section

set_option maxRecDepth 16384

noncomputable section

namespace Cert.AdaIdeal.Val

open Cert.AdaIdeal Cert.AdaIdeal.Gen Cert.AdaIdeal.Value Idealize.ShloMosaic Idealize.ShloMosaic.TcCoe Idealize.SL.Sem
open Idealize.ShloMosaic.Pipeline (Dat)
open Cert.Ffn

/-- One entry of the conditioning: the activated row times a column, plus the column's offset. -/
def entry (a w : Fin 1024 → EReal) (b : EReal) : EReal := (∑ k, a k * Ideal.logistic (a k) * w k) + b

/-- The conditioning of every sequence, from the call's arguments. -/
def conditioning (x : FVec Ideal S32x1024 .f32) (w : FVec Ideal S1024x9216 .f32) (b : FVec Ideal S9216 .f32) : FVec Ideal S32x9216 .f32 := fun i =>
  entry (fun k => x (ix2 (i 0) k)) (fun k => w (ix2 k (i 1))) (b (ix1 (i 1)))

/-- A point's block: the same entry of the point's columns. -/
theorem block_apply (x : Vec Ideal S32x1024 .f32) (w : Vec Ideal S1024x1024 .f32) (b : Vec Ideal S1x1024 .f32) (r : Fin 32) (j : Fin 1024) :
    out0_3 x w b (ix2 r j) = entry (fun k => x (ix2 r k)) (fun k => w (ix2 k j)) (b (ix2 0 j)) := by
  have hz : (![0, 0] : Fin 2 → ℕ) = fun _ => 0 := by funext a; match a with | 0 => rfl | 1 => rfl
  unfold out0_3
  rw [View.canon_unit_zero (S := S32x1024) hz]
  rw [View.ld_unit_zero (S := S32x1024) hz, View.ld_unit_zero (S := S1024x1024) hz, View.ld_unit_zero (S := S1x1024) hz]
  unfold k0_pay1 entry
  refine congrArg₂ (α := EReal) (β := EReal) (· + ·) ?_ ?_
  · rw [ix2_eq_valueIdx]
    refine (Ideal.matmul_plain_apply none _ _ _ r j).trans ?_
    rw [zero_constant, zero_add]
    simp only [← ix2_eq_valueIdx]
    rfl
  · rw [shapeCast_self]
    pointwise []

variable (m : (ℓ : Loc nD τ sig) → Buf (Elt Ideal) ℓ) (c : Dev nD)

theorem index_blocks : ∀ t : Fin grid0.N,
    (win0_0.index t 0 = 0 ∧ win0_0.index t 1 = 0) ∧ (win0_1.index t 0 = 0 ∧ win0_1.index t 1 = t.val)
    ∧ (win0_2.index t 0 = 0 ∧ win0_2.index t 1 = t.val) ∧ (win0_3.index t 0 = 0 ∧ win0_3.index t 1 = t.val) := by decide +kernel

theorem lt_9 (t : Fin cfg0.N) : t.val < 9 := t.isLt

theorem V_main_v0 : V m c main_v0 = shapeCast S1x9216 (m ((c : Thread nD τ).loc main_arg2)) shapeCasts_S9216_S1x9216 := by
  show StableHlo.after hostOps0 _ _ = _
  after_results
  rfl

/-- Column `j` of a point's block. -/
abbrev column (t : Fin cfg0.N) (j : Fin 1024) : Fin 9216 := ⟨1024 * t.val + j.val, by have := lt_9 t; omega⟩

theorem emb3 (t : Fin cfg0.N) (j : S32x1024.Idx) : ((cfg0.win 3).blk t).view.emb j = (ix2 (j 0) (column t (j 1)) : S32x9216.Idx) := by
  obtain ⟨e0, e1⟩ := (index_blocks t).2.2.2
  funext a; apply Fin.ext
  match a with
  | 0 => show win0_3.index t 0 * 32 + 1 * (j 0).val = (j 0).val; omega
  | 1 => show win0_3.index t 1 * 1024 + 1 * (j 1).val = 1024 * t.val + (j 1).val; omega

theorem block0 (t : Fin cfg0.N) (r : Fin 32) (k : Fin 1024) :
    iblk m c 0 t (ix2 r k : S32x1024.Idx) = m ((c : Thread nD τ).loc main_arg0) (ix2 r k : S32x1024.Idx) := by
  show V m c main_arg0 (((cfg0.win 0).blk t).view.emb (ix2 r k : S32x1024.Idx)) = _
  rw [V_main_arg0]
  refine congrArg (m ((c : Thread nD τ).loc main_arg0)) ?_
  obtain ⟨e0, e1⟩ := (index_blocks t).1
  funext a; apply Fin.ext
  match a with
  | 0 => show win0_0.index t 0 * 32 + 1 * r.val = r.val; omega
  | 1 => show win0_0.index t 1 * 1024 + 1 * k.val = k.val; omega

theorem block1 (t : Fin cfg0.N) (k j : Fin 1024) :
    iblk m c 1 t (ix2 k j : S1024x1024.Idx) = m ((c : Thread nD τ).loc main_arg1) (ix2 k (column t j) : S1024x9216.Idx) := by
  show V m c main_arg1 (((cfg0.win 1).blk t).view.emb (ix2 k j : S1024x1024.Idx)) = _
  rw [V_main_arg1]
  refine congrArg (m ((c : Thread nD τ).loc main_arg1)) ?_
  obtain ⟨e0, e1⟩ := (index_blocks t).2.1
  funext a; apply Fin.ext
  match a with
  | 0 => show win0_1.index t 0 * 1024 + 1 * k.val = k.val; omega
  | 1 => show win0_1.index t 1 * 1024 + 1 * j.val = 1024 * t.val + j.val; omega

theorem block2 (t : Fin cfg0.N) (j : Fin 1024) :
    iblk m c 2 t (ix2 0 j : S1x1024.Idx) = m ((c : Thread nD τ).loc main_arg2) (ix1 (column t j) : S9216.Idx) := by
  show V m c main_v0 (((cfg0.win 2).blk t).view.emb (ix2 0 j : S1x1024.Idx)) = _
  rw [V_main_v0]
  obtain ⟨e0, e1⟩ := (index_blocks t).2.2.1
  refine shapeCast_apply (s := S9216) (t := S1x9216) (m ((c : Thread nD τ).loc main_arg2)) _ _ _ ?_
  rw [Shape.rowMajor_val_one, Shape.rowMajor_val_two]
  show 1024 * t.val + j.val = (win0_2.index t 0 * 1 + 1 * 0) * 9216 + (win0_2.index t 1 * 1024 + 1 * j.val)
  omega

/-- The conditioning of the launched arguments. -/
def result : FVec Ideal S32x9216 .f32 :=
  conditioning (m ((c : Thread nD τ).loc main_arg0)) (m ((c : Thread nD τ).loc main_arg1)) (m ((c : Thread nD τ).loc main_arg2))

theorem flushed_eq (t : Fin cfg0.N) : (dats m 0 c).flushed 3 t = ((cfg0.win 3).blk t).view.read (Elt Ideal) (result m c) := by
  rw [flushed3]
  funext j
  show out0_3 (iblk m c 0 t) (iblk m c 1 t) (iblk m c 2 t) (j : S32x1024.Idx) = result m c (((cfg0.win 3).blk t).view.emb j)
  rw [emb3]
  obtain ⟨r, k, rfl⟩ : ∃ r k, j = (ix2 r k : S32x1024.Idx) := ⟨j 0, j 1, by funext a; match a with | 0 => rfl | 1 => rfl⟩
  refine (block_apply (iblk m c 0 t) (iblk m c 1 t) (iblk m c 2 t) r k).trans ?_
  unfold result conditioning
  congr 1
  · funext i; exact block0 m c t r i
  · funext i; exact block1 m c t i k
  · exact block2 m c t k

theorem covered (i : S32x9216.Idx) : ∃ t : Fin cfg0.N, (cfg0.win 3).flush t = true ∧ i ∈ ((cfg0.win 3).blk t).view.set := by
  have hi : (i 1).val < 9216 := (i 1).isLt
  have ht : (i 1).val / 1024 < grid0.N := by show (i 1).val / 1024 < 9; omega
  refine ⟨⟨(i 1).val / 1024, ht⟩, flush0_3 _, ?_⟩
  have h := ((cfg0.win 3).blk ⟨(i 1).val / 1024, ht⟩).view.emb_mem_set (ix2 (i 0) ⟨(i 1).val % 1024, by omega⟩ : S32x1024.Idx)
  rw [emb3] at h
  refine (congrArg (· ∈ _) ?_).mp h
  funext a; apply Fin.ext
  match a with
  | 0 => rfl
  | 1 => show 1024 * ((i 1).val / 1024) + (i 1).val % 1024 = (i 1).val; omega

theorem final : (dats m 0 c).arrAt 3 cfg0.N = result m c :=
  (dats m 0 c).arrAt_eq_of_cover 3 (result m c) (fun t _ => flushed_eq m c t) covered

end Cert.AdaIdeal.Val

end
-- ==== Proof.AdaClaim.lean ====
/- The conditioning call's value claim: the reference's result is the same array, so both programs leave it. -/
module

public import proofs.«01_k».proof.Defs
public import proofs.«01_k».proof.Proof.AdaArray
public import proofs.«01_k».proof.Proof.FfaReference
public import proofs.«01_k».proof.Proof.Gen.AdaIdeal.Frame
public import proofs.«01_k».proof.Proof.Gen.AdaRefIdeal.Run
public import proofs.«01_k».proof.Proof.Gen.AdaRefIdeal.Read

@[expose] public section

set_option maxRecDepth 16384

noncomputable section

namespace Cert.Proof.Ada

open Idealize.ShloMosaic Idealize.ShloMosaic.TcCoe Idealize.SL.Sem
open Cert.AdaRefIdeal Cert.AdaRefIdeal.Read

/-- The reference's activated row. -/
theorem activated (x : FVec Ideal S32x1024 .f32) (i : S32x1024.Idx) : val_main_v0 (F := Ideal) x i = x i * Ideal.logistic (x i) := by
  rw [val_main_v0_apply, val_main_call0_v5_apply, val_main_call0_v4_apply, val_main_call0_v3_apply, val_main_call0_v2_apply, val_main_call0_v1_apply, val_main_call0_v0_apply,
    val_main_call0_cst_apply, val_main_call0_cst_0_apply]
  unfold Ideal.logistic
  show _ * Ideal.div (Ideal.ofBits .f32 0x3F800000#32) (Ideal.ofBits .f32 0x3F800000#32 + Ideal.exp (- _)) = _
  rw [Cert.FfaRefIdeal.Val.one_value]

/-- The reference's result is the conditioning of its arguments. -/
theorem reference_eq (x : FVec Ideal S32x1024 .f32) (w : FVec Ideal S1024x9216 .f32) (b : FVec Ideal S9216 .f32) :
    val_main_v4 (F := Ideal) x w b = Cert.AdaIdeal.Val.conditioning x w b := by
  funext i
  rw [val_main_v4_apply, val_main_v1_apply, val_main_v3_apply, val_main_v2_apply]
  unfold Cert.AdaIdeal.Val.conditioning Cert.AdaIdeal.Val.entry
  refine congrArg₂ (α := EReal) (β := EReal) (· + ·) (Finset.sum_congr rfl fun k _ => congrArg₂ (α := EReal) (β := EReal) (· * ·) ?_ (congrArg w ?_)) (congrArg b ?_)
  · rw [activated, show lidx_main_v1 i k = ix2 (i 0) k by funext a; match a with | 0 => rfl | 1 => rfl]; rfl
  · funext a; match a with | 0 => rfl | 1 => rfl
  · funext a; match a with | 0 => rfl

theorem algebraic : algebraic_AdaIdeal_AdaRefIdeal (hAdaIdeal := Cert.AdaIdeal.Gen.facts) (hAdaRefIdeal := Cert.AdaRefIdeal.Gen.facts) := fun m ρ m' ρ' _ hag =>
  ⟨fun c => Cert.AdaIdeal.Val.result m c,
    (θ_run _ _ _).mono (fun _ h c => ⟨(h c).1.trans (Cert.AdaIdeal.Val.final m c), (h c).2⟩) (Cert.AdaIdeal.Value.run_blocks m ρ),
    (θ_run _ _ _).mono (fun _ h c => ⟨(h c).1.trans (by
      rw [val_main_v4_eq, reference_eq]
      obtain ⟨e0, e1, e2⟩ := hag c
      rw [e0, e1, e2]; rfl), (h c).2⟩) (Cert.AdaRefIdeal.Value.run m' ρ')⟩

end Cert.Proof.Ada

end
-- ==== Proof.lean ====
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Ffa
public import proofs.«01_k».proof.Proof.Gen.Ffa.Skeleton
public import proofs.«01_k».proof.Proof.Gen.Ffa.Launch
public import proofs.«01_k».proof.Proof.Gen.Ffa.Points
public import proofs.«01_k».proof.Proof.Gen.Ffa.Frame
public import proofs.«01_k».proof.Proof.Gen.FfaIdeal
public import proofs.«01_k».proof.Proof.Gen.FfaIdeal.Skeleton
public import proofs.«01_k».proof.Proof.Gen.FfaIdeal.Launch
public import proofs.«01_k».proof.Proof.Gen.FfaIdeal.Points
public import proofs.«01_k».proof.Proof.Gen.FfaIdeal.Frame
public import proofs.«01_k».proof.Proof.Gen.FfaRefIdeal
public import proofs.«01_k».proof.Proof.Gen.Ffb
public import proofs.«01_k».proof.Proof.Gen.Ffb.Skeleton
public import proofs.«01_k».proof.Proof.Gen.Ffb.Launch
public import proofs.«01_k».proof.Proof.Gen.Ffb.Points
public import proofs.«01_k».proof.Proof.Gen.Ffb.Frame
public import proofs.«01_k».proof.Proof.Gen.FfbIdeal
public import proofs.«01_k».proof.Proof.Gen.FfbIdeal.Skeleton
public import proofs.«01_k».proof.Proof.Gen.FfbIdeal.Launch
public import proofs.«01_k».proof.Proof.Gen.FfbIdeal.Points
public import proofs.«01_k».proof.Proof.Gen.FfbIdeal.Frame
public import proofs.«01_k».proof.Proof.Gen.FfbRefIdeal
public import proofs.«01_k».proof.Proof.Gen.Prj
public import proofs.«01_k».proof.Proof.Gen.Prj.Skeleton
public import proofs.«01_k».proof.Proof.Gen.Prj.Launch
public import proofs.«01_k».proof.Proof.Gen.Prj.Points
public import proofs.«01_k».proof.Proof.Gen.Prj.Frame
public import proofs.«01_k».proof.Proof.Gen.PrjIdeal
public import proofs.«01_k».proof.Proof.Gen.PrjIdeal.Skeleton
public import proofs.«01_k».proof.Proof.Gen.PrjIdeal.Launch
public import proofs.«01_k».proof.Proof.Gen.PrjIdeal.Points
public import proofs.«01_k».proof.Proof.Gen.PrjIdeal.Frame
public import proofs.«01_k».proof.Proof.Gen.PrjRefIdeal
public import proofs.«01_k».proof.Proof.Gen.FoxIdeal.Value
public import proofs.«01_k».proof.Proof.Gen.FfaIdeal.Value
public import proofs.«01_k».proof.Proof.Gen.FfbIdeal.Value
public import proofs.«01_k».proof.Proof.Gen.FoxRefIdeal.Run
public import proofs.«01_k».proof.Proof.Gen.FfaRefIdeal.Run
public import proofs.«01_k».proof.Proof.Gen.FfbRefIdeal.Run
public import proofs.«01_k».proof.Proof.Gen.FoxRefIdeal.Read
public import proofs.«01_k».proof.Proof.Gen.FfaRefIdeal.Read
public import proofs.«01_k».proof.Proof.Gen.FfbRefIdeal.Read
public import proofs.«01_k».proof.Proof.Gen.PrjIdeal.Value
public import proofs.«01_k».proof.Proof.Gen.PrjRefIdeal.Run
public import proofs.«01_k».proof.Proof.Gen.PrjRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Dil
public import proofs.«01_k».proof.Proof.Gen.Dil.Skeleton
public import proofs.«01_k».proof.Proof.Gen.Dil.Launch
public import proofs.«01_k».proof.Proof.Gen.Dil.Points
public import proofs.«01_k».proof.Proof.Gen.Dil.Frame
public import proofs.«01_k».proof.Proof.Gen.DilIdeal
public import proofs.«01_k».proof.Proof.Gen.DilIdeal.Skeleton
public import proofs.«01_k».proof.Proof.Gen.DilIdeal.Launch
public import proofs.«01_k».proof.Proof.Gen.DilIdeal.Points
public import proofs.«01_k».proof.Proof.Gen.DilIdeal.Frame
public import proofs.«01_k».proof.Proof.FoxClaim
public import proofs.«01_k».proof.Proof.FfaClaim
public import proofs.«01_k».proof.Proof.FfbClaim
public import proofs.«01_k».proof.Proof.PrjClaim
public import proofs.«01_k».proof.Proof.AdaClaim
public import Idealize.ShloMosaic.Adequacy
public import Idealize.ShloMosaic.Init

@[expose] public section

noncomputable section

namespace Cert.Proof

open Idealize.ShloMosaic Idealize.SL.Sem

theorem claim : Cert.Claim :=
  ⟨Cert.Fox.Gen.facts, Cert.FoxIdeal.Gen.facts, Cert.FoxRefIdeal.Gen.facts, Cert.Ffa.Gen.facts, Cert.FfaIdeal.Gen.facts,
    Cert.FfaRefIdeal.Gen.facts, Cert.Ffb.Gen.facts, Cert.FfbIdeal.Gen.facts, Cert.FfbRefIdeal.Gen.facts, Cert.Prj.Gen.facts, Cert.PrjIdeal.Gen.facts, Cert.PrjRefIdeal.Gen.facts,
    Cert.Ada.Gen.facts, Cert.AdaIdeal.Gen.facts, Cert.AdaRefIdeal.Gen.facts, Cert.Dil.Gen.facts, Cert.DilIdeal.Gen.facts, Cert.Proof.Fox.preFacts,
    fun m ρ _ => Cert.Fox.Gen.frame m ρ, fun m ρ _ => Cert.FoxIdeal.Gen.frame m ρ, fun m ρ _ => Cert.FoxIdeal.Gen.frame m ρ,
    fun m ρ _ => (θ_run _ _ _).mono (fun r h => ⟨fun c => (h c).2, sem_eq_zero_of_no_sems (by decide) r.2⟩) (Cert.FoxRefIdeal.Value.run m ρ), fun m ρ _ => (θ_run _ _ _).mono (fun r h => ⟨fun c => (h c).2, sem_eq_zero_of_no_sems (by decide) r.2⟩) (Cert.FoxRefIdeal.Value.run m ρ),
    fun m ρ _ => Cert.Ffa.Gen.frame m ρ, fun m ρ _ => Cert.FfaIdeal.Gen.frame m ρ, fun m ρ _ => (θ_run _ _ _).mono (fun r h => ⟨fun c => (h c).2, sem_eq_zero_of_no_sems (by decide) r.2⟩) (Cert.FfaRefIdeal.Value.run m ρ),
    fun m ρ _ => Cert.Ffb.Gen.frame m ρ, fun m ρ _ => Cert.FfbIdeal.Gen.frame m ρ, fun m ρ _ => (θ_run _ _ _).mono (fun r h => ⟨fun c => (h c).2, sem_eq_zero_of_no_sems (by decide) r.2⟩) (Cert.FfbRefIdeal.Value.run m ρ),
    fun m ρ _ => Cert.Prj.Gen.frame m ρ, fun m ρ _ => Cert.PrjIdeal.Gen.frame m ρ, fun m ρ _ => (θ_run _ _ _).mono (fun r h => ⟨fun c => (h c).2.2.2.2.2.2, sem_eq_zero_of_no_sems (by decide) r.2⟩) (Cert.PrjRefIdeal.Value.run m ρ),
    fun m ρ _ => Cert.Ada.Gen.frame m ρ, fun m ρ _ => Cert.AdaIdeal.Gen.frame m ρ, fun m ρ _ => (θ_run _ _ _).mono (fun r h => ⟨fun c => (h c).2, sem_eq_zero_of_no_sems (by decide) r.2⟩) (Cert.AdaRefIdeal.Value.run m ρ),
    fun m ρ _ => Cert.Dil.Gen.frame m ρ, fun m ρ _ => Cert.DilIdeal.Gen.frame m ρ,
    IdealRules.named_const.statement Cert.FoxIdeal.κ "mask" .f32 0xF149F2CA#32 ⊥ rfl, Cert.Proof.Fox.algebraic, trivial, Cert.Proof.Ffa.algebraic, trivial, Cert.Proof.Ffb.algebraic,
    IdealRules.named_const.statement Cert.PrjIdeal.κ "qscale" .f32 0x3E38AA3B#32 (((1 / 8) * (Real.log 2)⁻¹ : ℝ) : EReal) rfl, Cert.Proof.Prj.algebraic, trivial, Cert.Proof.Ada.algebraic,
    IdealRules.named_const.statement Cert.DilIdeal.κ "log2e" .f32 0x3FB8AA3B#32 (((Real.log 2)⁻¹ : ℝ) : EReal) rfl⟩

end Cert.Proof

end
